-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inputs [hPre_finite_inputs : Cert.Pre_finite_inputs.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inputs [hPre_finite_inputs : Cert.Pre_finite_inputs.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_denominators [hPre_finite_denominators : Cert.Pre_finite_denominators.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_denominators.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_denominators [hPre_finite_denominators : Cert.Pre_finite_denominators.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_denominators.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_inputs [hKernel3Ideal : Cert.Kernel3Ideal.Facts] [hPre_finite_inputs : Cert.Pre_finite_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inputs m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_inputs [hReference3Ideal : Cert.Reference3Ideal.Facts] [hPre_finite_inputs : Cert.Pre_finite_inputs.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inputs m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_denominators [hKernel5Ideal : Cert.Kernel5Ideal.Facts] [hPre_finite_denominators : Cert.Pre_finite_denominators.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_denominators m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_denominators [hReference5Ideal : Cert.Reference5Ideal.Facts] [hPre_finite_denominators : Cert.Pre_finite_denominators.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_denominators m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥

def algebraic_Kernel3Ideal_Reference3Ideal_pre_finite_inputs [hKernel3Ideal : Cert.Kernel3Ideal.Facts] [hReference3Ideal : Cert.Reference3Ideal.Facts] [hPre_finite_inputs : Cert.Pre_finite_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inputs m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_denominators [hKernel5Ideal : Cert.Kernel5Ideal.Facts] [hReference5Ideal : Cert.Reference5Ideal.Facts] [hPre_finite_denominators : Cert.Pre_finite_denominators.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_denominators m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_1)) (v2 : (c : Dev Cert.Kernel6Ideal.nD) → Buf (Elt Ideal) ((c.tc : Thread Cert.Kernel6Ideal.nD Cert.Kernel6Ideal.τ).loc Cert.Kernel6Ideal.main_v30_2)) (v3 : (c : Dev Cert.Kernel6Ideal.nD) → Buf (Elt Ideal) ((c.tc : Thread Cert.Kernel6Ideal.nD Cert.Kernel6Ideal.τ).loc Cert.Kernel6Ideal.main_v30_3)) (v4 : (c : Dev Cert.Kernel6Ideal.nD) → Buf (Elt Ideal) ((c.tc : Thread Cert.Kernel6Ideal.nD Cert.Kernel6Ideal.τ).loc Cert.Kernel6Ideal.main_v30_4)) (v5 : (c : Dev Cert.Kernel6Ideal.nD) → Buf (Elt Ideal) ((c.tc : Thread Cert.Kernel6Ideal.nD Cert.Kernel6Ideal.τ).loc Cert.Kernel6Ideal.main_v30_5)) (v6 : (c : Dev Cert.Kernel6Ideal.nD) → Buf (Elt Ideal) ((c.tc : Thread Cert.Kernel6Ideal.nD Cert.Kernel6Ideal.τ).loc Cert.Kernel6Ideal.main_v30_6)) (v7 : (c : Dev Cert.Kernel6Ideal.nD) → Buf (Elt Ideal) ((c.tc : Thread Cert.Kernel6Ideal.nD Cert.Kernel6Ideal.τ).loc Cert.Kernel6Ideal.main_v30_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_1) = v1 c
          ∧ r.2.mem ((c.tc : Thread Cert.Kernel6Ideal.nD Cert.Kernel6Ideal.τ).loc Cert.Kernel6Ideal.main_v30_2) = v2 c
          ∧ r.2.mem ((c.tc : Thread Cert.Kernel6Ideal.nD Cert.Kernel6Ideal.τ).loc Cert.Kernel6Ideal.main_v30_3) = v3 c
          ∧ r.2.mem ((c.tc : Thread Cert.Kernel6Ideal.nD Cert.Kernel6Ideal.τ).loc Cert.Kernel6Ideal.main_v30_4) = v4 c
          ∧ r.2.mem ((c.tc : Thread Cert.Kernel6Ideal.nD Cert.Kernel6Ideal.τ).loc Cert.Kernel6Ideal.main_v30_5) = v5 c
          ∧ r.2.mem ((c.tc : Thread Cert.Kernel6Ideal.nD Cert.Kernel6Ideal.τ).loc Cert.Kernel6Ideal.main_v30_6) = v6 c
          ∧ r.2.mem ((c.tc : Thread Cert.Kernel6Ideal.nD Cert.Kernel6Ideal.τ).loc Cert.Kernel6Ideal.main_v30_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v215) = v0 c
          ∧ r.2.mem ((c.tc : Thread Cert.Reference6Ideal.nD Cert.Reference6Ideal.τ).loc Cert.Reference6Ideal.main_v216) = v1 c
          ∧ r.2.mem ((c.tc : Thread Cert.Reference6Ideal.nD Cert.Reference6Ideal.τ).loc Cert.Reference6Ideal.main_v217) = v2 c
          ∧ r.2.mem ((c.tc : Thread Cert.Reference6Ideal.nD Cert.Reference6Ideal.τ).loc Cert.Reference6Ideal.main_v220) = v3 c
          ∧ r.2.mem ((c.tc : Thread Cert.Reference6Ideal.nD Cert.Reference6Ideal.τ).loc Cert.Reference6Ideal.main_v159) = v4 c
          ∧ r.2.mem ((c.tc : Thread Cert.Reference6Ideal.nD Cert.Reference6Ideal.τ).loc Cert.Reference6Ideal.main_v221) = v5 c
          ∧ r.2.mem ((c.tc : Thread Cert.Reference6Ideal.nD Cert.Reference6Ideal.τ).loc Cert.Reference6Ideal.main_v222) = v6 c
          ∧ r.2.mem ((c.tc : Thread Cert.Reference6Ideal.nD Cert.Reference6Ideal.τ).loc Cert.Reference6Ideal.main_v212) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_inputs : Cert.Pre_finite_inputs.Facts) (hPre_finite_denominators : Cert.Pre_finite_denominators.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_inputs (hKernel3Ideal := hKernel3Ideal) (hPre_finite_inputs := hPre_finite_inputs)
    ∧ quiescent_Reference3Ideal (hReference3Ideal := hReference3Ideal)
    ∧ quiescent_Reference3Ideal_pre_finite_inputs (hReference3Ideal := hReference3Ideal) (hPre_finite_inputs := hPre_finite_inputs)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_denominators (hKernel5Ideal := hKernel5Ideal) (hPre_finite_denominators := hPre_finite_denominators)
    ∧ quiescent_Reference5Ideal (hReference5Ideal := hReference5Ideal)
    ∧ quiescent_Reference5Ideal_pre_finite_denominators (hReference5Ideal := hReference5Ideal) (hPre_finite_denominators := hPre_finite_denominators)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_inputs (hKernel3Ideal := hKernel3Ideal) (hReference3Ideal := hReference3Ideal) (hPre_finite_inputs := hPre_finite_inputs)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_denominators (hKernel5Ideal := hKernel5Ideal) (hReference5Ideal := hReference5Ideal) (hPre_finite_denominators := hPre_finite_denominators)
    ∧ preserves_Kernel6_Kernel6Ideal
    ∧ algebraic_Kernel6Ideal_Reference6Ideal (hKernel6Ideal := hKernel6Ideal) (hReference6Ideal := hReference6Ideal)
-- ==== Pre_finite_denominators.lean ====
abbrev S4x8192x1024 : Shape := ⟨3, ![4, 8192, 1024]⟩
abbrev S4x1024 : Shape := ⟨2, ![4, 1024]⟩
abbrev S4x8192x512 : Shape := ⟨3, ![4, 8192, 512]⟩
abbrev S4x8192x256 : Shape := ⟨3, ![4, 8192, 256]⟩
abbrev S768x1024 : Shape := ⟨2, ![768, 1024]⟩
abbrev S_ : Shape := ⟨0, ![]⟩

class Facts : Prop where
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel

variable [Facts]

def fn {F : FTy → Type} [FloatOps F] (main_arg0 : FVec F S4x8192x1024 .f32) (main_arg1 : FVec F S4x1024 .f32) (main_arg2 : FVec F S4x8192x512 .bf16) (main_arg3 : FVec F S4x8192x256 .f32) (main_arg4 : FVec F S4x8192x256 .f32) (main_arg5 : FVec F S4x8192x256 .f32) (main_arg6 : FVec F S4x8192x256 .f32) (main_arg7 : FVec F S4x8192x256 .f32) (main_arg8 : FVec F S4x8192x256 .f32) (main_arg9 : FVec F S768x1024 .f32) : IVec S_ 1 :=
  let main_v0 : FVec F S4x8192x256 .f32 := Host.absf main_arg6
  let main_cst : FVec F S_ .f32 := constant S_ .f32 0x7F800000#32
  let main_v1 : FVec F S4x8192x256 .f32 := broadcastInDim S4x8192x256 ![] bcast_S_S4x8192x256 main_cst
  let main_v2 : IVec S4x8192x256 1 := cmpf .olt main_v0 main_v1
  let main_c : IVec S_ 1 := constantI S_ 1 1#1
  let main_v3 : IVec S_ 1 := (fun x v => Host.reduce IntOp.andi x v reducesTo_S4x8192x256_S_d0_1_2 h_S_) main_v2 main_c
  let main_v4 : FVec F S4x8192x256 .f32 := Host.absf main_arg7
  let main_cst_0 : FVec F S_ .f32 := constant S_ .f32 0x7F800000#32
  let main_v5 : FVec F S4x8192x256 .f32 := broadcastInDim S4x8192x256 ![] bcast_S_S4x8192x256 main_cst_0
  let main_v6 : IVec S4x8192x256 1 := cmpf .olt main_v4 main_v5
  let main_c_1 : IVec S_ 1 := constantI S_ 1 1#1
  let main_v7 : IVec S_ 1 := (fun x v => Host.reduce IntOp.andi x v reducesTo_S4x8192x256_S_d0_1_2 h_S_) main_v6 main_c_1
  let main_v8 : IVec S_ 1 := andi main_v3 main_v7
  let main_v9 : FVec F S4x8192x256 .f32 := Host.absf main_arg8
  let main_cst_2 : FVec F S_ .f32 := constant S_ .f32 0x7F800000#32
  let main_v10 : FVec F S4x8192x256 .f32 := broadcastInDim S4x8192x256 ![] bcast_S_S4x8192x256 main_cst_2
  let main_v11 : IVec S4x8192x256 1 := cmpf .olt main_v9 main_v10
  let main_c_3 : IVec S_ 1 := constantI S_ 1 1#1
  let main_v12 : IVec S_ 1 := (fun x v => Host.reduce IntOp.andi x v reducesTo_S4x8192x256_S_d0_1_2 h_S_) main_v11 main_c_3
  let main_v13 : IVec S_ 1 := andi main_v8 main_v12
  main_v13
-- ==== Pre_finite_inputs.lean ====
abbrev S4x8192x512 : Shape := ⟨3, ![4, 8192, 512]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S4x8192x512 .bf16) (main_arg1 : FVec F S4x8192x512 .bf16) (main_arg2 : FVec F S4x8192x512 .bf16) (main_arg3 : FVec F S4x64 .f32) (main_arg4 : FVec F S128 .f32) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : IVec S_ 1 := andi main_v4 main_v9
  let main_v11 : FVec F S4x8192x512 .f32 := (extf .f32 · bitsLt_bf16_f32) main_arg2
  let main_v12 : FVec F S4x8192x512 .f32 := Host.absf main_v11
  let main_cst_2 : FVec F S_ .f32 := constant S_ .f32 0x7F800000#32
  let main_v13 : FVec F S4x8192x512 .f32 := broadcastInDim S4x8192x512 ![] bcast_S_S4x8192x512 main_cst_2
  let main_v14 : IVec S4x8192x512 1 := cmpf .olt main_v12 main_v13
  let main_c_3 : IVec S_ 1 := constantI S_ 1 1#1
  let main_v15 : IVec S_ 1 := (fun x v => Host.reduce IntOp.andi x v reducesTo_S4x8192x512_S_d0_1_2 h_S_) main_v14 main_c_3
  let main_v16 : IVec S_ 1 := andi main_v10 main_v15
  let main_v17 : FVec F S4x64 .f32 := Host.absf main_arg3
  fn_part1 (F := F) main_v16 main_v17
-- ==== Pre_finite_scores.lean ====
abbrev S4x8192x1024 : Shape := ⟨3, ![4, 8192, 1024]⟩
abbrev S4x8192x512 : Shape := ⟨3, ![4, 8192, 512]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel

variable [Facts]

def fn {F : FTy → Type} [FloatOps F] (main_arg0 : FVec F S4x8192x1024 .bf16) (main_arg1 : FVec F S4x8192x1024 .bf16) (main_arg2 : FVec F S4x8192x512 .bf16) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  main_v10
-- ==== Kernel.lean ====
abbrev S4x8192x1024 : Shape := ⟨3, ![4, 8192, 1024]⟩
abbrev S4x8192x512 : Shape := ⟨3, ![4, 8192, 512]⟩
abbrev S1x512x256 : Shape := ⟨3, ![1, 512, 256]⟩
abbrev S1x8192x256 : Shape := ⟨3, ![1, 8192, 256]⟩
abbrev S1x8192x128 : Shape := ⟨3, ![1, 8192, 128]⟩
abbrev S1x512x128 : Shape := ⟨3, ![1, 512, 128]⟩
abbrev S2x512x1 : Shape := ⟨3, ![2, 512, 1]⟩
abbrev S2x512x128 : Shape := ⟨3, ![2, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1x128 : Shape := ⟨2, ![1, 128]⟩

abbrev nBuf : Space → Nat
  | .hbm => 4
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x1, .f32⟩
  | .local _ .vmem, ⟨9, _⟩ => ⟨S2x512x1, .f32⟩
  | .local _ .vmem, ⟨10, _⟩ => ⟨S2x512x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c512_i32 : BitVec 32 := 512#32
  let v7 : BitVec 32 := Scalar.muli arg2 c512_i32
  v7
def k0_off1 (i : grid0.Coords) : Fin 3 → Nat :=
  let c0_4 : Index := 0#32
  let arg2 : BitVec 32 := BitVec.ofNat 32 (i 2).val
  let c512_i32 : BitVec 32 := 512#32
  let v7 : BitVec 32 := Scalar.muli arg2 c512_i32
  let v8 : BitVec 32 := v7
  let v9 : Index := Scalar.indexCast v8
  let c0_5 : Index := 0#32
  ![0, v9.toNat, 0]
def k0_off2 (i : grid0.Coords) : Fin 3 → Nat :=
  let c0_6 : Index := 0#32
  let arg2 : BitVec 32 := BitVec.ofNat 32 (i 2).val
  let c512_i32 : BitVec 32 := 512#32
  let v7 : BitVec 32 := Scalar.muli arg2 c512_i32
  let v8 : BitVec 32 := v7
  let v12 : Index := Scalar.indexCast v8
  let c0_7 : Index := 0#32
  ![0, v12.toNat, 0]
def k0_off3 (i : grid0.Coords) : Fin 3 → Nat :=
  let c0_21 : Index := 0#32
  let arg2 : BitVec 32 := BitVec.ofNat 32 (i 2).val
  let c512_i32 : BitVec 32 := 512#32
  let v7 : BitVec 32 := Scalar.muli arg2 c512_i32
  let v8 : BitVec 32 := v7
  let v36 : Index := Scalar.indexCast v8
  let c128_22 : Index := 128#32
  ![0, v36.toNat, 128]
@[reducible] def k0_t1_loop (i : grid0.Coords) : Scf.Loop 32 :=
  let c0_i32_38 : BitVec 32 := 0#32
  let arg2 : BitVec 32 := BitVec.ofNat 32 (i 2).val
  let v63 : BitVec 32 := Scalar.subi arg2 c0_i32_38
  let c1_i32 : BitVec 32 := 1#32
  let v65 : BitVec 32 := Scalar.divsi v63 c1_i32
  let v66 : BitVec 32 := Scalar.muli v65 c1_i32
  let v67 : BitVec 32 := Scalar.addi c0_i32_38 v66
  let c1_i32_39 : BitVec 32 := 1#32
  ⟨c0_i32_38, v67, c1_i32_39⟩
def k0_mult2 (i : grid0.Coords) (k0_t1 : Fin (k0_t1_loop i).trips) : BitVec 32 :=
  let c0_i32_38 : BitVec 32 := 0#32
  let c1_i32_39 : BitVec 32 := 1#32
  let arg10 : BitVec 32 := Scf.iv c0_i32_38 c1_i32_39 k0_t1
  let c512_i32_56 : BitVec 32 := 512#32
  let v90 : BitVec 32 := Scalar.muli arg10 c512_i32_56
  v90
def k0_off4 (i : grid0.Coords) (k0_t1 : Fin (k0_t1_loop i).trips) : Fin 3 → Nat :=
  let c0_57 : Index := 0#32
  let c0_i32_38 : BitVec 32 := 0#32
  let c1_i32_39 : BitVec 32 := 1#32
  let arg10 : BitVec 32 := Scf.iv c0_i32_38 c1_i32_39 k0_t1
  let c512_i32_56 : BitVec 32 := 512#32
  let v90 : BitVec 32 := Scalar.muli arg10 c512_i32_56
  let v91 : BitVec 32 := v90
  let v92 : Index := Scalar.indexCast v91
  let c0_58 : Index := 0#32
  ![0, v92.toNat, 0]
def k0_off5 (i : grid0.Coords) (k0_t1 : Fin (k0_t1_loop i).trips) : Fin 3 → Nat :=
  let c0_59 : Index := 0#32
  let c0_i32_38 : BitVec 32 := 0#32
  let c1_i32_39 : BitVec 32 := 1#32
  let arg10 : BitVec 32 := Scf.iv c0_i32_38 c1_i32_39 k0_t1
  let c512_i32_56 : BitVec 32 := 512#32
  let v90 : BitVec 32 := Scalar.muli arg10 c512_i32_56
  let v91 : BitVec 32 := v90
  let v95 : Index := Scalar.indexCast v91
  let c0_60 : Index := 0#32
  ![0, v95.toNat, 0]
def k0_off6 (i : grid0.Coords) (k0_t1 : Fin (k0_t1_loop i).trips) : Fin 3 → Nat :=
  let c0_83 : Index := 0#32
  let c0_i32_38 : BitVec 32 := 0#32
  let c1_i32_39 : BitVec 32 := 1#32
  let arg10 : BitVec 32 := Scf.iv c0_i32_38 c1_i32_39 k0_t1
  let c512_i32_56 : BitVec 32 := 512#32
  let v90 : BitVec 32 := Scalar.muli arg10 c512_i32_56
  let v91 : BitVec 32 := v90
  let v131 : Index := Scalar.indexCast v91
  let c128_84 : Index := 128#32
  ![0, v131.toNat, 128]
@[reducible] def k0_t2_loop (i : grid0.Coords) : Scf.Loop 32 :=
  let c0_i32_38 : BitVec 32 := 0#32
  let arg2 : BitVec 32 := BitVec.ofNat 32 (i 2).val
  let v63 : BitVec 32 := Scalar.subi arg2 c0_i32_38
  let c1_i32 : BitVec 32 := 1#32
  let v65 : BitVec 32 := Scalar.divsi v63 c1_i32
  let v66 : BitVec 32 := Scalar.muli v65 c1_i32
  let v67 : BitVec 32 := Scalar.addi c0_i32_38 v66
  let v64 : BitVec 32 := Scalar.addi c0_i32_38 v63
  let c1_i32_40 : BitVec 32 := 1#32
  ⟨v67, v64, c1_i32_40⟩
def k0_mult3 (i : grid0.Coords) (k0_t2 : Fin (k0_t2_loop i).trips) : BitVec 32 :=
  let c0_i32_38 : BitVec 32 := 0#32
  let arg2 : BitVec 32 := BitVec.ofNat 32 (i 2).val
  let v63 : BitVec 32 := Scalar.subi arg2 c0_i32_38
  let c1_i32 : BitVec 32 := 1#32
  let v65 : BitVec 32 := Scalar.divsi v63 c1_i32
  let v66 : BitVec 32 := Scalar.muli v65 c1_i32
  let v67 : BitVec 32 := Scalar.addi c0_i32_38 v66
  let c1_i32_40 : BitVec 32 := 1#32
  let arg10 : BitVec 32 := Scf.iv v67 c1_i32_40 k0_t2
  let c512_i32_56 : BitVec 32 := 512#32
  let v90 : BitVec 32 := Scalar.muli arg10 c512_i32_56
  v90
def k0_off7 (i : grid0.Coords) (k0_t2 : Fin (k0_t2_loop i).trips) : Fin 3 → Nat :=
  let c0_57 : Index := 0#32
  let c0_i32_38 : BitVec 32 := 0#32
  let arg2 : BitVec 32 := BitVec.ofNat 32 (i 2).val
  let v63 : BitVec 32 := Scalar.subi arg2 c0_i32_38
  let c1_i32 : BitVec 32 := 1#32
  let v65 : BitVec 32 := Scalar.divsi v63 c1_i32
  let v66 : BitVec 32 := Scalar.muli v65 c1_i32
  let v67 : BitVec 32 := Scalar.addi c0_i32_38 v66
  let c1_i32_40 : BitVec 32 := 1#32
  let arg10 : BitVec 32 := Scf.iv v67 c1_i32_40 k0_t2
  let c512_i32_56 : BitVec 32 := 512#32
  let v90 : BitVec 32 := Scalar.muli arg10 c512_i32_56
  let v91 : BitVec 32 := v90
  let v92 : Index := Scalar.indexCast v91
  let c0_58 : Index := 0#32
  ![0, v92.toNat, 0]
def k0_off8 (i : grid0.Coords) (k0_t2 : Fin (k0_t2_loop i).trips) : Fin 3 → Nat :=
  let c0_59 : Index := 0#32
  let c0_i32_38 : BitVec 32 := 0#32
  let arg2 : BitVec 32 := BitVec.ofNat 32 (i 2).val
  let v63 : BitVec 32 := Scalar.subi arg2 c0_i32_38
  let c1_i32 : BitVec 32 := 1#32
  let v65 : BitVec 32 := Scalar.divsi v63 c1_i32
  let v66 : BitVec 32 := Scalar.muli v65 c1_i32
  let v67 : BitVec 32 := Scalar.addi c0_i32_38 v66
  let c1_i32_40 : BitVec 32 := 1#32
  let arg10 : BitVec 32 := Scf.iv v67 c1_i32_40 k0_t2
  let c512_i32_56 : BitVec 32 := 512#32
  let v90 : BitVec 32 := Scalar.muli arg10 c512_i32_56
  let v91 : BitVec 32 := v90
  let v95 : Index := Scalar.indexCast v91
  let c0_60 : Index := 0#32
  ![0, v95.toNat, 0]
def k0_off9 (i : grid0.Coords) (k0_t2 : Fin (k0_t2_loop i).trips) : Fin 3 → Nat :=
  let c0_83 : Index := 0#32
  let c0_i32_38 : BitVec 32 := 0#32
  let arg2 : BitVec 32 := BitVec.ofNat 32 (i 2).val
  let v63 : BitVec 32 := Scalar.subi arg2 c0_i32_38
  let c1_i32 : BitVec 32 := 1#32
  let v65 : BitVec 32 := Scalar.divsi v63 c1_i32
  let v66 : BitVec 32 := Scalar.muli v65 c1_i32
  let v67 : BitVec 32 := Scalar.addi c0_i32_38 v66
  let c1_i32_40 : BitVec 32 := 1#32
  let arg10 : BitVec 32 := Scf.iv v67 c1_i32_40 k0_t2
  let c512_i32_56 : BitVec 32 := 512#32
  let v90 : BitVec 32 := Scalar.muli arg10 c512_i32_56
  let v91 : BitVec 32 := v90
  let v131 : Index := Scalar.indexCast v91
  let c128_84 : Index := 128#32
  ![0, v131.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S4x8192x512 : Shape := ⟨3, ![4, 8192, 512]⟩
abbrev S4x8192x8x128 : Shape := ⟨4, ![4, 8192, 8, 128]⟩
abbrev S4x8192x8x64 : Shape := ⟨4, ![4, 8192, 8, 64]⟩
abbrev S8192 : Shape := ⟨1, ![8192]⟩
abbrev S4x8x8192x8192 : Shape := ⟨4, ![4, 8, 8192, 8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x8x128, .bf16⟩
  | .hbm, ⟨4, _⟩ => ⟨S4x8192x8x128, .bf16⟩
  | .hbm, ⟨5, _⟩ => ⟨S4x8192x8x64, .bf16⟩
  | .hbm, ⟨6, _⟩ => ⟨S8192, .i32⟩
  | .hbm, ⟨7, _⟩ => ⟨S4x8x8192x8192, .f32⟩
  | .hbm, ⟨8, _⟩ => ⟨S_, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S8192x1, .i32⟩
  | .hbm, ⟨13, _⟩ => ⟨S1x8192, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S4x8x8192x8192, .i1⟩
  | .hbm, ⟨20, _⟩ => ⟨S4x8x8192x8192, .f32⟩
  | .hbm, ⟨21, _⟩ => ⟨S4x8x8192x8192, .f32⟩
  | .hbm, ⟨22, _⟩ => ⟨S_, .f32⟩
  | .hbm, ⟨23, _⟩ => ⟨S4x8x8192, .f32⟩
  | .hbm, ⟨24, _⟩ => ⟨S_, .f32⟩
  | .hbm, ⟨25, _⟩ => ⟨S4x8x8192, .f32⟩
  | .hbm, ⟨26, _⟩ => ⟨S4x8x8192, .f32⟩
  | .hbm, ⟨27, _⟩ => ⟨S4x8x8192x1, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S_, .f32⟩
  | .hbm, ⟨32, _⟩ => ⟨S4x8x8192, .f32⟩
  | .hbm, ⟨33, _⟩ => ⟨S4x8x8192x1, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .bf16⟩
  | .hbm, ⟨37, _⟩ => ⟨S4x8x64x8192, .f32⟩
  | .hbm, ⟨38, _⟩ => ⟨S4x8192x8x64, .f32⟩
  | .hbm, ⟨39, _⟩ => ⟨S4x8192x512, .f32⟩
  | .hbm, ⟨40, _⟩ => ⟨S4x8192x512, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1024 : Shape := ⟨2, ![4, 1024]⟩
abbrev S1024 : Shape := ⟨1, ![1024]⟩
abbrev S1024x4096 : Shape := ⟨2, ![1024, 4096]⟩
abbrev S4096x1024 : Shape := ⟨2, ![4096, 1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x512x1024, .f32⟩
  | .local _ .vmem, ⟨12, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x8192x1024 : Shape := ⟨3, ![4, 8192, 1024]⟩
abbrev S4x1024 : Shape := ⟨2, ![4, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x4096, .f32⟩
  | .hbm, ⟨33, _⟩ => ⟨S_, .f32⟩
  | .hbm, ⟨34, _⟩ => ⟨S4x8192x4096, .f32⟩
  | .hbm, ⟨35, _⟩ => ⟨S4x8192x4096, .f32⟩
  | .hbm, ⟨36, _⟩ => ⟨S4x1x1024, .f32⟩
  | .hbm, ⟨37, _⟩ => ⟨S4x8192x4096, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel3.lean ====
abbrev S4x8192x512 : Shape := ⟨3, ![4, 8192, 512]⟩
abbrev S4x64 : Shape := ⟨2, ![4, 64]⟩
abbrev S128 : Shape := ⟨1, ![128]⟩
abbrev S1x128 : Shape := ⟨2, ![1, 128]⟩
abbrev S1x512x128 : Shape := ⟨3, ![1, 512, 128]⟩
abbrev S1x8192x128 : Shape := ⟨3, ![1, 8192, 128]⟩
abbrev S2x512x1 : Shape := ⟨3, ![2, 512, 1]⟩
abbrev S2x512x128 : Shape := ⟨3, ![2, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c512_i32 : BitVec 32 := 512#32
  let v27 : BitVec 32 := Scalar.muli arg2 c512_i32
  v27
def k0_off1 (i : grid0.Coords) : Fin 3 → Nat :=
  let c0_6 : Index := 0#32
  let arg2 : BitVec 32 := BitVec.ofNat 32 (i 2).val
  let c512_i32 : BitVec 32 := 512#32
  let v27 : BitVec 32 := Scalar.muli arg2 c512_i32
  let v28 : BitVec 32 := v27
  let v29 : Index := Scalar.indexCast v28
  let c0_7 : Index := 0#32
  ![0, v29.toNat, 0]
@[reducible] def k0_t1_loop (i : grid0.Coords) : Scf.Loop 32 :=
  let c0_i32_41 : BitVec 32 := 0#32
  let arg2 : BitVec 32 := BitVec.ofNat 32 (i 2).val
  let v83 : BitVec 32 := Scalar.subi arg2 c0_i32_41
  let c1_i32 : BitVec 32 := 1#32
  let v85 : BitVec 32 := Scalar.divsi v83 c1_i32
  let v86 : BitVec 32 := Scalar.muli v85 c1_i32
  let v87 : BitVec 32 := Scalar.addi c0_i32_41 v86
  let c1_i32_42 : BitVec 32 := 1#32
  ⟨c0_i32_41, v87, c1_i32_42⟩
def k0_mult2 (i : grid0.Coords) (k0_t1 : Fin (k0_t1_loop i).trips) : BitVec 32 :=
  let c0_i32_41 : BitVec 32 := 0#32
  let c1_i32_42 : BitVec 32 := 1#32
  let arg12 : BitVec 32 := Scf.iv c0_i32_41 c1_i32_42 k0_t1
  let c512_i32_70 : BitVec 32 := 512#32
  let v145 : BitVec 32 := Scalar.muli arg12 c512_i32_70
  v145
def k0_off2 (i : grid0.Coords) (k0_t1 : Fin (k0_t1_loop i).trips) : Fin 3 → Nat :=
  let c0_71 : Index := 0#32
  let c0_i32_41 : BitVec 32 := 0#32
  let c1_i32_42 : BitVec 32 := 1#32
  let arg12 : BitVec 32 := Scf.iv c0_i32_41 c1_i32_42 k0_t1
  let c512_i32_70 : BitVec 32 := 512#32
  let v145 : BitVec 32 := Scalar.muli arg12 c512_i32_70
  let v146 : BitVec 32 := v145
  let v147 : Index := Scalar.indexCast v146
  let c0_72 : Index := 0#32
  ![0, v147.toNat, 0]
@[reducible] def k0_t2_loop (i : grid0.Coords) : Scf.Loop 32 :=
  let c0_i32_41 : BitVec 32 := 0#32
  let arg2 : BitVec 32 := BitVec.ofNat 32 (i 2).val
  let v83 : BitVec 32 := Scalar.subi arg2 c0_i32_41
  let c1_i32 : BitVec 32 := 1#32
  let v85 : BitVec 32 := Scalar.divsi v83 c1_i32
  let v86 : BitVec 32 := Scalar.muli v85 c1_i32
  let v87 : BitVec 32 := Scalar.addi c0_i32_41 v86
  let v84 : BitVec 32 := Scalar.addi c0_i32_41 v83
  let c1_i32_43 : BitVec 32 := 1#32
  ⟨v87, v84, c1_i32_43⟩
def k0_mult3 (i : grid0.Coords) (k0_t2 : Fin (k0_t2_loop i).trips) : BitVec 32 :=
  let c0_i32_41 : BitVec 32 := 0#32
  let arg2 : BitVec 32 := BitVec.ofNat 32 (i 2).val
  let v83 : BitVec 32 := Scalar.subi arg2 c0_i32_41
  let c1_i32 : BitVec 32 := 1#32
  let v85 : BitVec 32 := Scalar.divsi v83 c1_i32
  let v86 : BitVec 32 := Scalar.muli v85 c1_i32
  let v87 : BitVec 32 := Scalar.addi c0_i32_41 v86
  let c1_i32_43 : BitVec 32 := 1#32
  let arg12 : BitVec 32 := Scf.iv v87 c1_i32_43 k0_t2
  let c512_i32_70 : BitVec 32 := 512#32
  let v145 : BitVec 32 := Scalar.muli arg12 c512_i32_70
  v145
def k0_off3 (i : grid0.Coords) (k0_t2 : Fin (k0_t2_loop i).trips) : Fin 3 → Nat :=
  let c0_71 : Index := 0#32
  let c0_i32_41 : BitVec 32 := 0#32
  let arg2 : BitVec 32 := BitVec.ofNat 32 (i 2).val
  let v83 : BitVec 32 := Scalar.subi arg2 c0_i32_41
  let c1_i32 : BitVec 32 := 1#32
  let v85 : BitVec 32 := Scalar.divsi v83 c1_i32
  let v86 : BitVec 32 := Scalar.muli v85 c1_i32
  let v87 : BitVec 32 := Scalar.addi c0_i32_41 v86
  let c1_i32_43 : BitVec 32 := 1#32
  let arg12 : BitVec 32 := Scf.iv v87 c1_i32_43 k0_t2
  let c512_i32_70 : BitVec 32 := 512#32
  let v145 : BitVec 32 := Scalar.muli arg12 c512_i32_70
  let v146 : BitVec 32 := v145
  let v147 : Index := Scalar.indexCast v146
  let c0_72 : Index := 0#32
  ![0, v147.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S4x8192x512 : Shape := ⟨3, ![4, 8192, 512]⟩
abbrev S4x64 : Shape := ⟨2, ![4, 64]⟩
abbrev S128 : Shape := ⟨1, ![128]⟩
abbrev S4x8192x4x2x64 : Shape := ⟨5, ![4, 8192, 4, 2, 64]⟩
abbrev S4x8192x4x128 : Shape := ⟨4, ![4, 8192, 4, 128]⟩
abbrev S1x64 : Shape := ⟨2, ![1, 64]⟩
abbrev S64 : Shape := ⟨1, ![64]⟩
abbrev S_ : Shape := ⟨0, ![]⟩
abbrev S8192 : Shape := ⟨1, ![8192]⟩
abbrev S4x2x4x8192x8192 : Shape := ⟨5, ![4, 2, 4, 8192, 8192]⟩
abbrev S8192x1 : Shape := ⟨2, ![8192, 1]⟩
abbrev S1x8192 : Shape := ⟨2, ![1, 8192]⟩
abbrev S8192x8192 : Shape := ⟨2, ![8192, 8192]⟩
abbrev S4x2x4x8192 : Shape := ⟨4, ![4, 2, 4, 8192]⟩
abbrev S4x2x4x8192x1 : Shape := ⟨5, ![4, 2, 4, 8192, 1]⟩
abbrev S4x1x4x8192x8192 : Shape := ⟨5, ![4, 1, 4, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x64, .f32⟩
  | .hbm, ⟨4, _⟩ => ⟨S128, .f32⟩
  | .hbm, ⟨5, _⟩ => ⟨S4x8192x4x2x64, .bf16⟩
  | .hbm, ⟨6, _⟩ => ⟨S4x8192x4x2x64, .bf16⟩
  | .hbm, ⟨7, _⟩ => ⟨S4x8192x4x128, .bf16⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .i32⟩
  | .hbm, ⟨28, _⟩ => ⟨S4x2x4x8192x8192, .f32⟩
  | .hbm, ⟨29, _⟩ => ⟨S_, .f32⟩
  | .hbm, ⟨30, _⟩ => ⟨S_, .f32⟩
  | .hbm, ⟨31, _⟩ => ⟨S4x2x4x8192x8192, .f32⟩
  | .hbm, ⟨32, _⟩ => ⟨S4x2x4x8192x8192, .f32⟩
  | .hbm, ⟨33, _⟩ => ⟨S8192x1, .i32⟩
  | .hbm, ⟨34, _⟩ => ⟨S1x8192, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S4x2x4x8192x8192, .i1⟩
  | .hbm, ⟨41, _⟩ => ⟨S4x2x4x8192x8192, .f32⟩
  | .hbm, ⟨42, _⟩ => ⟨S4x2x4x8192x8192, .f32⟩
  | .hbm, ⟨43, _⟩ => ⟨S_, .f32⟩
  | .hbm, ⟨44, _⟩ => ⟨S4x2x4x8192, .f32⟩
  | .hbm, ⟨45, _⟩ => ⟨S_, .f32⟩
  | .hbm, ⟨46, _⟩ => ⟨S4x2x4x8192, .f32⟩
  | .hbm, ⟨47, _⟩ => ⟨S4x2x4x8192, .f32⟩
  | .hbm, ⟨48, _⟩ => ⟨S4x2x4x8192x1, .f32⟩
  | .hbm, ⟨49, _⟩ => ⟨S4x2x4x8192x8192, .f32⟩
  | .hbm, ⟨50, _⟩ => ⟨S4x2x4x8192x8192, .f32⟩
  | .hbm, ⟨51, _⟩ => ⟨S4x2x4x8192x8192, .f32⟩
  | .hbm, ⟨52, _⟩ => ⟨S_, .f32⟩
  | .hbm, ⟨53, _⟩ => ⟨S4x2x4x8192, .f32⟩
  | .hbm, ⟨54, _⟩ => ⟨S4x2x4x8192x1, .f32⟩
  | .hbm, ⟨55, _⟩ => ⟨S4x2x4x8192x8192, .f32⟩
  | .hbm, ⟨56, _⟩ => ⟨S4x2x4x8192x8192, .f32⟩
  | .hbm, ⟨57, _⟩ => ⟨S4x1x4x8192x8192, .f32⟩
  | .hbm, ⟨58, _⟩ => ⟨S4x4x8192x8192, .f32⟩
  | .hbm, ⟨59, _⟩ => ⟨S4x1x4x8192x8192, .f32⟩
  | .hbm, ⟨60, _⟩ => ⟨S4x4x8192x8192, .f32⟩
  | .hbm, ⟨61, _⟩ => ⟨S4x4x8192x8192, .f32⟩
  | .hbm, ⟨62, _⟩ => ⟨S4x4x8192x8192, .f32⟩
  | .hbm, ⟨63, _⟩ => ⟨S4x4x8192x8192, .f32⟩
  | .hbm, ⟨64, _⟩ => ⟨S4x4x8192x8192, .bf16⟩
  | .hbm, ⟨65, _⟩ => ⟨S4x4x128x8192, .f32⟩
  | .hbm, ⟨66, _⟩ => ⟨S4x8192x4x128, .f32⟩
  | .hbm, ⟨67, _⟩ => ⟨S4x8192x4x128, .f32⟩
  | .hbm, ⟨68, _⟩ => ⟨S_, .f32⟩
  | .hbm, ⟨69, _⟩ => ⟨S4x8192x4, .f32⟩
  | .hbm, ⟨70, _⟩ => ⟨S4x8192x4x1, .f32⟩
  | .hbm, ⟨71, _⟩ => ⟨S_, .f32⟩
  | .hbm, ⟨72, _⟩ => ⟨S4x8192x4x1, .f32⟩
  | .hbm, ⟨73, _⟩ => ⟨S4x8192x4x1, .f32⟩
  | .hbm, ⟨74, _⟩ => ⟨S_, .f32⟩
  | .hbm, ⟨75, _⟩ => ⟨S4x8192x4x1, .f32⟩
  | .hbm, ⟨76, _⟩ => ⟨S4x8192x4x1, .f32⟩
  | .hbm, ⟨77, _⟩ => ⟨S4x8192x4x1, .f32⟩
  | .hbm, ⟨78, _⟩ => ⟨S4x8192x4x128, .f32⟩
  | .hbm, ⟨79, _⟩ => ⟨S4x8192x4x128, .f32⟩
  | .hbm, ⟨80, _⟩ => ⟨S1x1x1x128, .f32⟩
  | .hbm, ⟨81, _⟩ => ⟨S4x8192x4x128, .f32⟩
  | .hbm, ⟨82, _⟩ => ⟨S4x8192x4x128, .f32⟩
  | .hbm, ⟨83, _⟩ => ⟨S_, .f32⟩
  | .hbm, ⟨84, _⟩ => ⟨S4x8192x4x128, .f32⟩
  | .hbm, ⟨85, _⟩ => ⟨S4x8192x4x128, .f32⟩
  | .hbm, ⟨86, _⟩ => ⟨S4x8192x512, .f32⟩
  | .hbm, ⟨87, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1024 : Shape := ⟨2, ![4, 1024]⟩
abbrev S4x8192x512 : Shape := ⟨3, ![4, 8192, 512]⟩
abbrev S1024x1024 : Shape := ⟨2, ![1024, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S512x512 : Shape := ⟨2, ![512, 512]⟩
abbrev S512x1024 : Shape := ⟨2, ![512, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x8192x512, .bf16⟩
  | .hbm, ⟨3, _⟩ => ⟨S4x8192x512, .bf16⟩
  | .hbm, ⟨4, _⟩ => ⟨S1024x1024, .f32⟩
  | .hbm, ⟨5, _⟩ => ⟨S4x1x1024, .f32⟩
  | .hbm, ⟨6, _⟩ => ⟨S1024x1024, .bf16⟩
  | .hbm, ⟨7, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x8192x1024 : Shape := ⟨3, ![4, 8192, 1024]⟩
abbrev S4x1024 : Shape := ⟨2, ![4, 1024]⟩
abbrev S4x8192x512 : Shape := ⟨3, ![4, 8192, 512]⟩
abbrev S1024x1024 : Shape := ⟨2, ![1024, 1024]⟩
abbrev S4x1x1024 : Shape := ⟨3, ![4, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x8192x512, .bf16⟩
  | .hbm, ⟨3, _⟩ => ⟨S4x8192x512, .bf16⟩
  | .hbm, ⟨4, _⟩ => ⟨S1024x1024, .f32⟩
  | .hbm, ⟨5, _⟩ => ⟨S4x8192x1024, .bf16⟩
  | .hbm, ⟨6, _⟩ => ⟨S4x8192x1024, .f32⟩
  | .hbm, ⟨7, _⟩ => ⟨S4x1x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x1024 : Shape := ⟨2, ![4, 1024]⟩
abbrev S4x8192x512 : Shape := ⟨3, ![4, 8192, 512]⟩
abbrev S4x8192x256 : Shape := ⟨3, ![4, 8192, 256]⟩
abbrev S768x1024 : Shape := ⟨2, ![768, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x256 : Shape := ⟨3, ![1, 512, 256]⟩
abbrev S512x256 : Shape := ⟨2, ![512, 256]⟩
abbrev S512x512 : Shape := ⟨2, ![512, 512]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 13
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x8192x512, .bf16⟩
  | .hbm, ⟨3, _⟩ => ⟨S4x8192x256, .f32⟩
  | .hbm, ⟨4, _⟩ => ⟨S4x8192x256, .f32⟩
  | .hbm, ⟨5, _⟩ => ⟨S4x8192x256, .f32⟩
  | .hbm, ⟨6, _⟩ => ⟨S4x8192x256, .f32⟩
  | .hbm, ⟨7, _⟩ => ⟨S4x8192x256, .f32⟩
  | .hbm, ⟨8, _⟩ => ⟨S4x8192x256, .f32⟩
  | .hbm, ⟨9, _⟩ => ⟨S768x1024, .f32⟩
  | .hbm, ⟨10, _⟩ => ⟨S4x1x1024, .f32⟩
  | .hbm, ⟨11, _⟩ => ⟨S768x1024, .bf16⟩
  | .hbm, ⟨12, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S768x1024, .bf16⟩
  | .local _ .vmem, ⟨19, _⟩ => ⟨S1x512x1024, .f32⟩
  | .local _ .vmem, ⟨20, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S4x8192x1024 : Shape := ⟨3, ![4, 8192, 1024]⟩
abbrev S4x1024 : Shape := ⟨2, ![4, 1024]⟩
abbrev S4x8192x512 : Shape := ⟨3, ![4, 8192, 512]⟩
abbrev S4x8192x256 : Shape := ⟨3, ![4, 8192, 256]⟩
abbrev S768x1024 : Shape := ⟨2, ![768, 1024]⟩
abbrev S1x4x8192x256 : Shape := ⟨4, ![1, 4, 8192, 256]⟩
abbrev S3x4x8192x256 : Shape := ⟨4, ![3, 4, 8192, 256]⟩
abbrev S_ : Shape := ⟨0, ![]⟩
abbrev S4x8192x768 : Shape := ⟨3, ![4, 8192, 768]⟩
abbrev S4x1x1024 : Shape := ⟨3, ![4, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x8192x512, .bf16⟩
  | .hbm, ⟨3, _⟩ => ⟨S4x8192x256, .f32⟩
  | .hbm, ⟨4, _⟩ => ⟨S4x8192x256, .f32⟩
  | .hbm, ⟨5, _⟩ => ⟨S4x8192x256, .f32⟩
  | .hbm, ⟨6, _⟩ => ⟨S4x8192x256, .f32⟩
  | .hbm, ⟨7, _⟩ => ⟨S4x8192x256, .f32⟩
  | .hbm, ⟨8, _⟩ => ⟨S4x8192x256, .f32⟩
  | .hbm, ⟨9, _⟩ => ⟨S768x1024, .f32⟩
  | .hbm, ⟨10, _⟩ => ⟨S1x4x8192x256, .f32⟩
  | .hbm, ⟨11, _⟩ => ⟨S1x4x8192x256, .f32⟩
  | .hbm, ⟨12, _⟩ => ⟨S1x4x8192x256, .f32⟩
  | .hbm, ⟨13, _⟩ => ⟨S3x4x8192x256, .f32⟩
  | .hbm, ⟨14, _⟩ => ⟨S_, .f32⟩
  | .hbm, ⟨15, _⟩ => ⟨S_, .f32⟩
  | .hbm, ⟨16, _⟩ => ⟨S3x4x8192x256, .f32⟩
  | .hbm, ⟨17, _⟩ => ⟨S3x4x8192x256, .f32⟩
  | .hbm, ⟨18, _⟩ => ⟨S_, .f32⟩
  | .hbm, ⟨19, _⟩ => ⟨S4x8192x256, .f32⟩
  | .hbm, ⟨20, _⟩ => ⟨S_, .f32⟩
  | .hbm, ⟨21, _⟩ => ⟨S4x8192x256, .f32⟩
  | .hbm, ⟨22, _⟩ => ⟨S4x8192x256, .f32⟩
  | .hbm, ⟨23, _⟩ => ⟨S1x4x8192x256, .f32⟩
  | .hbm, ⟨24, _⟩ => ⟨S3x4x8192x256, .f32⟩
  | .hbm, ⟨25, _⟩ => ⟨S3x4x8192x256, .f32⟩
  | .hbm, ⟨26, _⟩ => ⟨S3x4x8192x256, .f32⟩
  | .hbm, ⟨27, _⟩ => ⟨S_, .f32⟩
  | .hbm, ⟨28, _⟩ => ⟨S4x8192x256, .f32⟩
  | .hbm, ⟨29, _⟩ => ⟨S1x4x8192x256, .f32⟩
  | .hbm, ⟨30, _⟩ => ⟨S3x4x8192x256, .f32⟩
  | .hbm, ⟨31, _⟩ => ⟨S3x4x8192x256, .f32⟩
  | .hbm, ⟨32, _⟩ => ⟨S1x4x8192x256, .f32⟩
  | .hbm, ⟨33, _⟩ => ⟨S1x4x8192x256, .f32⟩
  | .hbm, ⟨34, _⟩ => ⟨S1x4x8192x256, .f32⟩
  | .hbm, ⟨35, _⟩ => ⟨S3x4x8192x256, .f32⟩
  | .hbm, ⟨36, _⟩ => ⟨S3x4x8192x256, .f32⟩
  | .hbm, ⟨37, _⟩ => ⟨S_, .f32⟩
  | .hbm, ⟨38, _⟩ => ⟨S4x8192x256, .f32⟩
  | .hbm, ⟨39, _⟩ => ⟨S4x8192x512, .f32⟩
  | .hbm, ⟨40, _⟩ => ⟨S4x8192x768, .f32⟩
  | .hbm, ⟨41, _⟩ => ⟨S4x1x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x1024 : Shape := ⟨2, ![4, 1024]⟩
abbrev S1024 : Shape := ⟨1, ![1024]⟩
abbrev S1024x3072 : Shape := ⟨2, ![1024, 3072]⟩
abbrev S64 : Shape := ⟨1, ![64]⟩
abbrev S4x8192 : Shape := ⟨2, ![4, 8192]⟩
abbrev S4x8192x1 : Shape := ⟨3, ![4, 8192, 1]⟩
abbrev S32 : Shape := ⟨1, ![32]⟩
abbrev S_ : Shape := ⟨0, ![]⟩
abbrev S1x1x32 : Shape := ⟨3, ![1, 1, 32]⟩
abbrev S4x8192x32 : Shape := ⟨3, ![4, 8192, 32]⟩
abbrev S4x8192x128 : Shape := ⟨3, ![4, 8192, 128]⟩
abbrev S4x1x1024 : Shape := ⟨3, ![4, 1, 1024]⟩
abbrev S1x1024 : Shape := ⟨2, ![1, 1024]⟩
abbrev S128 : Shape := ⟨1, ![128]⟩
abbrev S1x128 : Shape := ⟨2, ![1, 128]⟩
abbrev S4x8192x512 : Shape := ⟨3, ![4, 8192, 512]⟩
abbrev S4x32x1x512 : Shape := ⟨4, ![4, 32, 1, 512]⟩
abbrev S1x256x1024 : Shape := ⟨3, ![1, 256, 1024]⟩
abbrev S1x1x1024 : Shape := ⟨3, ![1, 1, 1024]⟩
abbrev S1x256x128 : Shape := ⟨3, ![1, 256, 128]⟩
abbrev S1x256x512 : Shape := ⟨3, ![1, 256, 512]⟩
abbrev S1x1x1x512 : Shape := ⟨4, ![1, 1, 1, 512]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩
abbrev S256x512 : Shape := ⟨2, ![256, 512]⟩
abbrev S1x1x1x128 : Shape := ⟨4, ![1, 1, 1, 128]⟩

abbrev nBuf : Space → Nat
  | .hbm => 50
  | .vmem => 32
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S4x8192, .i32⟩
  | .hbm, ⟨10, _⟩ => ⟨S4x8192, .f32⟩
  | .hbm, ⟨11, _⟩ => ⟨S4x8192x1, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x1x32, .f32⟩
  | .hbm, ⟨21, _⟩ => ⟨S4x8192x32, .f32⟩
  | .hbm, ⟨22, _⟩ => ⟨S4x8192x32, .f32⟩
  | .hbm, ⟨23, _⟩ => ⟨S4x8192x32, .f32⟩
  | .hbm, ⟨24, _⟩ => ⟨S4x8192x32, .f32⟩
  | .hbm, ⟨25, _⟩ => ⟨S4x8192x32, .f32⟩
  | .hbm, ⟨26, _⟩ => ⟨S4x8192x128, .f32⟩
  | .hbm, ⟨27, _⟩ => ⟨S4x8192x32, .f32⟩
  | .hbm, ⟨28, _⟩ => ⟨S4x8192x32, .f32⟩
  | .hbm, ⟨29, _⟩ => ⟨S4x8192x128, .f32⟩
  | .hbm, ⟨30, _⟩ => ⟨S4x1x1024, .f32⟩
  | .hbm, ⟨31, _⟩ => ⟨S4x1x1024, .f32⟩
  | .hbm, ⟨32, _⟩ => ⟨S1x1024, .f32⟩
  | .hbm, ⟨33, _⟩ => ⟨S1024x3072, .bf16⟩
  | .hbm, ⟨34, _⟩ => ⟨S128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S4x8192x512, .bf16⟩
  | .hbm, ⟨43, _⟩ => ⟨S4x8192x512, .bf16⟩
  | .hbm, ⟨44, _⟩ => ⟨S4x8192x512, .bf16⟩
  | .hbm, ⟨45, _⟩ => ⟨S4x8192x512, .bf16⟩
  | .hbm, ⟨46, _⟩ => ⟨S4x8192x512, .f32⟩
  | .hbm, ⟨47, _⟩ => ⟨S4x8192x512, .bf16⟩
  | .hbm, ⟨48, _⟩ => ⟨S4x8192x512, .bf16⟩
  | .hbm, ⟨49, _⟩ => ⟨S4x32x1x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .f32⟩
  | .local _ .vmem, ⟨25, _⟩ => ⟨S1x256x512, .f32⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x1x1x512, .f32⟩
  | .local _ .vmem, ⟨31, _⟩ => ⟨S1x1x1x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev main_v30_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference6Ideal.lean ====
abbrev S4x8192x1024 : Shape := ⟨3, ![4, 8192, 1024]⟩
abbrev S4x1024 : Shape := ⟨2, ![4, 1024]⟩
abbrev S1024 : Shape := ⟨1, ![1024]⟩
abbrev S1024x3072 : Shape := ⟨2, ![1024, 3072]⟩
abbrev S64 : Shape := ⟨1, ![64]⟩
abbrev S4x8192 : Shape := ⟨2, ![4, 8192]⟩
abbrev S_ : Shape := ⟨0, ![]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3072 : Shape := ⟨3, ![4, 8192, 3072]⟩
abbrev S4x8192x512 : Shape := ⟨3, ![4, 8192, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S32 : Shape := ⟨1, ![32]⟩
abbrev S1x1x32 : Shape := ⟨3, ![1, 1, 32]⟩
abbrev S4x8192x32 : Shape := ⟨3, ![4, 8192, 32]⟩
abbrev S4x8192x1x32 : Shape := ⟨4, ![4, 8192, 1, 32]⟩
abbrev S4x8192x8x32 : Shape := ⟨4, ![4, 8192, 8, 32]⟩
abbrev S4x8192x1536 : Shape := ⟨3, ![4, 8192, 1536]⟩
abbrev S4x8192x3x8x64 : Shape := ⟨5, ![4, 8192, 3, 8, 64]⟩
abbrev S4x8192x1x8x64 : Shape := ⟨5, ![4, 8192, 1, 8, 64]⟩
abbrev S4x32x256x512 : Shape := ⟨4, ![4, 32, 256, 512]⟩
abbrev S4x32x512 : Shape := ⟨3, ![4, 32, 512]⟩
abbrev S4x32x1x512 : Shape := ⟨4, ![4, 32, 1, 512]⟩

abbrev nBuf : Space → Nat
  | .hbm => 261
  | .vmem => 0
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S1024, .f32⟩
  | 4 => ⟨S1024x3072, .f32⟩
  | 5 => ⟨S64, .f32⟩
  | 6 => ⟨S64, .f32⟩
  | 7 => ⟨S64, .f32⟩
  | 8 => ⟨S64, .f32⟩
  | 9 => ⟨S4x8192, .i32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S4x1x1024, .f32⟩
  | 27 => ⟨S_, .f32⟩
  | 28 => ⟨S4x1x1024, .f32⟩
  | 29 => ⟨S4x1x1024, .f32⟩
  | 30 => ⟨S4x8192x1024, .f32⟩
  | 31 => ⟨S4x8192x1024, .f32⟩
  | 32 => ⟨S4x1x1024, .f32⟩
  | 33 => ⟨S4x8192x1024, .f32⟩
  | 34 => ⟨S4x8192x1024, .f32⟩
  | 35 => ⟨S4x8192x3072, .f32⟩
  | 36 => ⟨S4x8192x512, .f32⟩
  | 37 => ⟨S4x8192x8x64, .f32⟩
  | 38 => ⟨S4x8192x512, .f32⟩
  | 39 => ⟨S4x8192x8x64, .f32⟩
  | 40 => ⟨S4x8192x512, .f32⟩
  | 41 => ⟨S4x8192x8x64, .f32⟩
  | 42 => ⟨S_, .f32⟩
  | 43 => ⟨S4x8192x8, .f32⟩
  | 44 => ⟨S4x8192x8x1, .f32⟩
  | 45 => ⟨S_, .f32⟩
  | 46 => ⟨S4x8192x8x1, .f32⟩
  | 47 => ⟨S4x8192x8x1, .f32⟩
  | 48 => ⟨S_, .f32⟩
  | 49 => ⟨S4x8192x8x1, .f32⟩
  | 50 => ⟨S4x8192x8x1, .f32⟩
  | 51 => ⟨S4x8192x8x1, .f32⟩
  | 52 => ⟨S4x8192x8x64, .f32⟩
  | 53 => ⟨S4x8192x8x64, .f32⟩
  | 54 => ⟨S1x1x1x64, .f32⟩
  | 55 => ⟨S4x8192x8x64, .f32⟩
  | 56 => ⟨S4x8192x8x64, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S4x8192, .f32⟩
  | 66 => ⟨S4x8192x1, .f32⟩
  | 67 => ⟨S1x1x32, .f32⟩
  | 68 => ⟨S4x8192x32, .f32⟩
  | 69 => ⟨S4x8192x32, .f32⟩
  | 70 => ⟨S4x8192x32, .f32⟩
  | 71 => ⟨S4x8192x32, .f32⟩
  | 72 => ⟨S4x8192x1x32, .f32⟩
  | 73 => ⟨S4x8192x32, .f32⟩
  | 74 => ⟨S4x8192x1x32, .f32⟩
  | 75 => ⟨S4x8192x8x32, .f32⟩
  | 76 => ⟨S4x8192x8x32, .f32⟩
  | 77 => ⟨S4x8192x8x32, .f32⟩
  | 78 => ⟨S4x8192x8x32, .f32⟩
  | 79 => ⟨S4x8192x8x32, .f32⟩
  | 80 => ⟨S4x8192x8x32, .f32⟩
  | 81 => ⟨S4x8192x8x32, .f32⟩
  | 82 => ⟨S4x8192x8x32, .f32⟩
  | 83 => ⟨S4x8192x8x32, .f32⟩
  | 84 => ⟨S4x8192x8x32, .f32⟩
  | 85 => ⟨S4x8192x8x32, .f32⟩
  | 86 => ⟨S4x8192x8x32, .f32⟩
  | 87 => ⟨S4x8192x8x64, .f32⟩
  | 88 => ⟨S4x8192x512, .f32⟩
  | 89 => ⟨S4x8192x8x64, .f32⟩
  | 90 => ⟨S_, .f32⟩
  | 91 => ⟨S4x8192x8, .f32⟩
  | 92 => ⟨S4x8192x8x1, .f32⟩
  | 93 => ⟨S_, .f32⟩
  | 94 => ⟨S4x8192x8x1, .f32⟩
  | 95 => ⟨S4x8192x8x1, .f32⟩
  | 96 => ⟨S_, .f32⟩
  | 97 => ⟨S4x8192x8x1, .f32⟩
  | 98 => ⟨S4x8192x8x1, .f32⟩
  | 99 => ⟨S4x8192x8x1, .f32⟩
  | 100 => ⟨S4x8192x8x64, .f32⟩
  | 101 => ⟨S4x8192x8x64, .f32⟩
  | 102 => ⟨S1x1x1x64, .f32⟩
  | 103 => ⟨S4x8192x8x64, .f32⟩
  | 104 => ⟨S4x8192x8x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S4x8192, .f32⟩
  | 114 => ⟨S4x8192x1, .f32⟩
  | 115 => ⟨S1x1x32, .f32⟩
  | 116 => ⟨S4x8192x32, .f32⟩
  | 117 => ⟨S4x8192x32, .f32⟩
  | 118 => ⟨S4x8192x32, .f32⟩
  | 119 => ⟨S4x8192x32, .f32⟩
  | 120 => ⟨S4x8192x1x32, .f32⟩
  | 121 => ⟨S4x8192x32, .f32⟩
  | 122 => ⟨S4x8192x1x32, .f32⟩
  | 123 => ⟨S4x8192x8x32, .f32⟩
  | 124 => ⟨S4x8192x8x32, .f32⟩
  | 125 => ⟨S4x8192x8x32, .f32⟩
  | 126 => ⟨S4x8192x8x32, .f32⟩
  | 127 => ⟨S4x8192x8x32, .f32⟩
  | _ => ⟨S4x8192x1024, .f32⟩

abbrev hbmTy0_1 (i : Nat) : BufTy := match i % 128 with
  | 0 => ⟨S4x8192x8x32, .f32⟩
  | 1 => ⟨S4x8192x8x32, .f32⟩
  | 2 => ⟨S4x8192x8x32, .f32⟩
  | 3 => ⟨S4x8192x8x32, .f32⟩
  | 4 => ⟨S4x8192x8x32, .f32⟩
  | 5 => ⟨S4x8192x8x32, .f32⟩
  | 6 => ⟨S4x8192x8x32, .f32⟩
  | 7 => ⟨S4x8192x8x64, .f32⟩
  | 8 => ⟨S4x8192x512, .f32⟩
  | 9 => ⟨S4x8192x1536, .f32⟩
  | 10 => ⟨S4x8192x3x8x64, .f32⟩
  | 11 => ⟨S4x8192x1x8x64, .f32⟩
  | 12 => ⟨S4x8192x8x64, .f32⟩
  | 13 => ⟨S4x8192x8x64, .f32⟩
  | 14 => ⟨S_, .f32⟩
  | 15 => ⟨S4x8192x8, .f32⟩
  | 16 => ⟨S4x8192x8x1, .f32⟩
  | 17 => ⟨S_, .f32⟩
  | 18 => ⟨S4x8192x8x1, .f32⟩
  | 19 => ⟨S4x8192x8x1, .f32⟩
  | 20 => ⟨S_, .f32⟩
  | 21 => ⟨S4x8192x8x1, .f32⟩
  | 22 => ⟨S4x8192x8x1, .f32⟩
  | 23 => ⟨S4x8192x8x1, .f32⟩
  | 24 => ⟨S4x8192x8x64, .f32⟩
  | 25 => ⟨S4x8192x8x64, .f32⟩
  | 26 => ⟨S1x1x1x64, .f32⟩
  | 27 => ⟨S4x8192x8x64, .f32⟩
  | 28 => ⟨S4x8192x8x64, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S4x8192, .f32⟩
  | 38 => ⟨S4x8192x1, .f32⟩
  | 39 => ⟨S1x1x32, .f32⟩
  | 40 => ⟨S4x8192x32, .f32⟩
  | 41 => ⟨S4x8192x32, .f32⟩
  | 42 => ⟨S4x8192x32, .f32⟩
  | 43 => ⟨S4x8192x32, .f32⟩
  | 44 => ⟨S4x8192x1x32, .f32⟩
  | 45 => ⟨S4x8192x32, .f32⟩
  | 46 => ⟨S4x8192x1x32, .f32⟩
  | 47 => ⟨S4x8192x8x32, .f32⟩
  | 48 => ⟨S4x8192x8x32, .f32⟩
  | 49 => ⟨S4x8192x8x32, .f32⟩
  | 50 => ⟨S4x8192x8x32, .f32⟩
  | 51 => ⟨S4x8192x8x32, .f32⟩
  | 52 => ⟨S4x8192x8x32, .f32⟩
  | 53 => ⟨S4x8192x8x32, .f32⟩
  | 54 => ⟨S4x8192x8x32, .f32⟩
  | 55 => ⟨S4x8192x8x32, .f32⟩
  | 56 => ⟨S4x8192x8x32, .f32⟩
  | 57 => ⟨S4x8192x8x32, .f32⟩
  | 58 => ⟨S4x8192x8x32, .f32⟩
  | 59 => ⟨S4x8192x8x64, .f32⟩
  | 60 => ⟨S4x8192x512, .f32⟩
  | 61 => ⟨S4x8192x1x8x64, .f32⟩
  | 62 => ⟨S4x8192x8x64, .f32⟩
  | 63 => ⟨S4x8192x8x64, .f32⟩
  | 64 => ⟨S_, .f32⟩
  | 65 => ⟨S4x8192x8, .f32⟩
  | 66 => ⟨S4x8192x8x1, .f32⟩
  | 67 => ⟨S_, .f32⟩
  | 68 => ⟨S4x8192x8x1, .f32⟩
  | 69 => ⟨S4x8192x8x1, .f32⟩
  | 70 => ⟨S_, .f32⟩
  | 71 => ⟨S4x8192x8x1, .f32⟩
  | 72 => ⟨S4x8192x8x1, .f32⟩
  | 73 => ⟨S4x8192x8x1, .f32⟩
  | 74 => ⟨S4x8192x8x64, .f32⟩
  | 75 => ⟨S4x8192x8x64, .f32⟩
  | 76 => ⟨S1x1x1x64, .f32⟩
  | 77 => ⟨S4x8192x8x64, .f32⟩
  | 78 => ⟨S4x8192x8x64, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S4x8192, .f32⟩
  | 88 => ⟨S4x8192x1, .f32⟩
  | 89 => ⟨S1x1x32, .f32⟩
  | 90 => ⟨S4x8192x32, .f32⟩
  | 91 => ⟨S4x8192x32, .f32⟩
  | 92 => ⟨S4x8192x32, .f32⟩
  | 93 => ⟨S4x8192x32, .f32⟩
  | 94 => ⟨S4x8192x1x32, .f32⟩
  | 95 => ⟨S4x8192x32, .f32⟩
  | 96 => ⟨S4x8192x1x32, .f32⟩
  | 97 => ⟨S4x8192x8x32, .f32⟩
  | 98 => ⟨S4x8192x8x32, .f32⟩
  | 99 => ⟨S4x8192x8x32, .f32⟩
  | 100 => ⟨S4x8192x8x32, .f32⟩
  | 101 => ⟨S4x8192x8x32, .f32⟩
  | 102 => ⟨S4x8192x8x32, .f32⟩
  | 103 => ⟨S4x8192x8x32, .f32⟩
  | 104 => ⟨S4x8192x8x32, .f32⟩
  | 105 => ⟨S4x8192x8x32, .f32⟩
  | 106 => ⟨S4x8192x8x32, .f32⟩
  | 107 => ⟨S4x8192x8x32, .f32⟩
  | 108 => ⟨S4x8192x8x32, .f32⟩
  | 109 => ⟨S4x8192x8x64, .f32⟩
  | 110 => ⟨S4x8192x512, .f32⟩
  | 111 => ⟨S4x8192x1x8x64, .f32⟩
  | 112 => ⟨S4x8192x8x64, .f32⟩
  | 113 => ⟨S4x8192x512, .f32⟩
  | 114 => ⟨S4x32x256x512, .f32⟩
  | 115 => ⟨S_, .f32⟩
  | 116 => ⟨S4x32x512, .f32⟩
  | 117 => ⟨S4x32x1x512, .f32⟩
  | 118 => ⟨S_, .f32⟩
  | 119 => ⟨S4x32x1x512, .f32⟩
  | 120 => ⟨S4x32x1x512, .f32⟩
  | 121 => ⟨S_, .f32⟩
  | 122 => ⟨S4x8192x512, .f32⟩
  | 123 => ⟨S4x8192x512, .f32⟩
  | 124 => ⟨S4x8192x512, .bf16⟩
  | 125 => ⟨S4x8192x512, .bf16⟩
  | 126 => ⟨S4x8192x512, .bf16⟩
  | 127 => ⟨S_, .f32⟩
  | _ => ⟨S4x8192x1024, .f32⟩

abbrev hbmTy0_2 (i : Nat) : BufTy := match i % 128 with
  | 0 => ⟨S4x8192x512, .f32⟩
  | 1 => ⟨S4x8192x512, .f32⟩
  | 2 => ⟨S4x8192x512, .bf16⟩
  | 3 => ⟨S4x8192x512, .bf16⟩
  | 4 => ⟨S4x8192x512, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_11 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_13 : Ref sig .tc := ⟨.hbm, 142, rfl⟩
abbrev main_v118 : Ref sig .tc := ⟨.hbm, 143, rfl⟩
abbrev main_v119 : Ref sig .tc := ⟨.hbm, 144, rfl⟩
abbrev main_cst_14 : Ref sig .tc := ⟨.hbm, 145, rfl⟩
abbrev main_v120 : Ref sig .tc := ⟨.hbm, 146, rfl⟩
abbrev main_v121 : Ref sig .tc := ⟨.hbm, 147, rfl⟩
abbrev main_cst_15 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_16 : Ref sig .tc := ⟨.hbm, 159, rfl⟩
abbrev main_v132 : Ref sig .tc := ⟨.hbm, 160, rfl⟩
abbrev main_v133 : Ref sig .tc := ⟨.hbm, 161, rfl⟩
abbrev main_cst_17 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_18 : Ref sig .tc := ⟨.hbm, 192, rfl⟩
abbrev main_v163 : Ref sig .tc := ⟨.hbm, 193, rfl⟩
abbrev main_v164 : Ref sig .tc := ⟨.hbm, 194, rfl⟩
abbrev main_cst_19 : Ref sig .tc := ⟨.hbm, 195, rfl⟩
abbrev main_v165 : Ref sig .tc := ⟨.hbm, 196, rfl⟩
abbrev main_v166 : Ref sig .tc := ⟨.hbm, 197, rfl⟩
abbrev main_cst_20 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_cst_21 : Ref sig .tc := ⟨.hbm, 209, rfl⟩
abbrev main_v177 : Ref sig .tc := ⟨.hbm, 210, rfl⟩
abbrev main_v178 : Ref sig .tc := ⟨.hbm, 211, rfl⟩
abbrev main_cst_22 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_cst_23 : Ref sig .tc := ⟨.hbm, 243, rfl⟩
abbrev main_v209 : Ref sig .tc := ⟨.hbm, 244, rfl⟩
abbrev main_v210 : Ref sig .tc := ⟨.hbm, 245, rfl⟩
abbrev main_cst_24 : Ref sig .tc := ⟨.hbm, 246, rfl⟩
abbrev main_v211 : Ref sig .tc := ⟨.hbm, 247, rfl⟩
abbrev main_v212 : Ref sig .tc := ⟨.hbm, 248, rfl⟩
abbrev main_cst_25 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_cst_26 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩

abbrev nD : Nat := 1
abbrev τ : Topo := Topo.v7x

variable {F : FTy → Type} [FloatOps F]
-- ==== Proof.Run.lean ====
module
public import proofs.«01_k».proof.Proof.Gen.KernelIdeal.Value
public import Idealize.ShloMosaic.Lib.Tactic
@[expose] public section
set_option maxRecDepth 16384
noncomputable section
namespace Cert.KernelIdeal.Mla
open Cert.KernelIdeal Cert.KernelIdeal.Gen Idealize.ShloMosaic Idealize.ShloMosaic.TcCoe Idealize.SL.Sem

variable (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x1 .f32) (harg7 : arg7.IsWhole) (arg8 : Memref sig .tc .vmem S2x512x1 .f32) (harg8 : arg8.IsWhole) (arg9 : Memref sig .tc .vmem S2x512x128 .f32) (harg9 : arg9.IsWhole)

/-- The part of a query slab at an offset, as loaded from its block. -/
abbrev ldQ (off : Fin 3 → ℕ) (h : ∀ a, off a + S1x512x128.size a ≤ S1x512x256.size a)
    (X : BufTy.Contents (Elt Ideal) arg3.view.ty) : Vec Ideal S1x512x128 .bf16 :=
  View.readAt (Elt Ideal) arg3.view (Rect.unit (s := S1x512x256) off S1x512x128.size h).toLoadRect X
/-- A key block at an offset, as loaded from the keys of its head pair. -/
abbrev ldK (off : Fin 3 → ℕ) (h : ∀ a, off a + S1x512x128.size a ≤ S1x8192x256.size a)
    (X : BufTy.Contents (Elt Ideal) arg4.view.ty) : Vec Ideal S1x512x128 .bf16 :=
  View.readAt (Elt Ideal) arg4.view (Rect.unit (s := S1x8192x256) off S1x512x128.size h).toLoadRect X
/-- A value block at an offset, as loaded from the values of its head pair. -/
abbrev ldV (off : Fin 3 → ℕ) (h : ∀ a, off a + S1x512x128.size a ≤ S1x8192x128.size a)
    (X : BufTy.Contents (Elt Ideal) arg5.view.ty) : Vec Ideal S1x512x128 .bf16 :=
  View.readAt (Elt Ideal) arg5.view (Rect.unit (s := S1x8192x128) off S1x512x128.size h).toLoadRect X
/-- One head's part of the running maximum (or sum), as loaded. -/
abbrev ldS (m : Memref sig .tc .vmem S2x512x1 .f32) (off : Fin 3 → ℕ)
    (h : ∀ a, off a + S1x512x1.size a ≤ S2x512x1.size a)
    (X : BufTy.Contents (Elt Ideal) m.view.ty) : Vec Ideal S1x512x1 .f32 :=
  View.readAt (Elt Ideal) m.view (Rect.unit (s := S2x512x1) off S1x512x1.size h).toLoadRect X
/-- One head's part of the running numerator, as loaded. -/
abbrev ldA (off : Fin 3 → ℕ) (h : ∀ a, off a + S1x512x128.size a ≤ S2x512x128.size a)
    (X : BufTy.Contents (Elt Ideal) arg9.view.ty) : Vec Ideal S1x512x128 .f32 :=
  View.readAt (Elt Ideal) arg9.view (Rect.unit (s := S2x512x128) off S1x512x128.size h).toLoadRect X

/-- A write of one head's part of the running maximum or sum. -/
abbrev wrS (off : Fin 3 → ℕ) (h : ∀ a, off a + S1x512x1.size a ≤ S2x512x1.size a) (v : Vec Ideal S1x512x1 .f32) :
    View.Piece (Elt Ideal) S2x512x1 .f32 := ⟨Rect.unit (s := S2x512x1) off S1x512x1.size h, v⟩
/-- A write of one head's part of the running numerator. -/
abbrev wrA (off : Fin 3 → ℕ) (h : ∀ a, off a + S1x512x128.size a ≤ S2x512x128.size a) (v : Vec Ideal S1x512x128 .f32) :
    View.Piece (Elt Ideal) S2x512x128 .f32 := ⟨Rect.unit (s := S2x512x128) off S1x512x128.size h, v⟩

/-- What one trip of the loop writes: for each head the new running maximum, sum and numerator, each from
what the trip found. -/
theorem trip_eq (v1 v3 : FVec Ideal S512x128 .bf16) (w : BitVec 32) (X4 : BufTy.Contents (Elt Ideal) arg4.view.ty)
    (X5 : BufTy.Contents (Elt Ideal) arg5.view.ty) (k : Fin (k0_t1_loop i).trips)
    (f7 : BufTy.Contents (Elt Ideal) arg7.view.ty) (f8 : BufTy.Contents (Elt Ideal) arg8.view.ty) (f9 : BufTy.Contents (Elt Ideal) arg9.view.ty) :
    tripL_k0_t1 (F := Ideal) Variants.none c none i arg3 harg3 arg4 harg4 arg5 harg5 arg6 harg6 arg7 harg7 arg8 harg8 arg9 harg9 v1 v3 w X4 X5 k f7 f8 f9 =
     ([wrS ![1, 0, 0] inb_S2x512x1_S1x512x1_1_0_0 (k0_pay14 (k0_pay8 v3 (ldK arg4 (k0_off6 i k) (k0_off6_inb i k) X4) (ldS arg7 ![1, 0, 0] inb_S2x512x1_S1x512x1_1_0_0 f7))),
       wrS ![0, 0, 0] inb_S2x512x1_S1x512x1_0_0_0 (k0_pay14 (k0_pay8 v1 (ldK arg4 (k0_off4 i k) (k0_off4_inb i k) X4) (ldS arg7 ![0, 0, 0] inb_S2x512x1_S1x512x1_0_0_0 f7)))],
      [wrS ![1, 0, 0] inb_S2x512x1_S1x512x1_1_0_0 (k0_pay11 v3 (ldK arg4 (k0_off6 i k) (k0_off6_inb i k) X4) (ldS arg7 ![1, 0, 0] inb_S2x512x1_S1x512x1_1_0_0 f7) (ldS arg8 ![1, 0, 0] inb_S2x512x1_S1x512x1_1_0_0 f8)),
       wrS ![0, 0, 0] inb_S2x512x1_S1x512x1_0_0_0 (k0_pay11 v1 (ldK arg4 (k0_off4 i k) (k0_off4_inb i k) X4) (ldS arg7 ![0, 0, 0] inb_S2x512x1_S1x512x1_0_0_0 f7) (ldS arg8 ![0, 0, 0] inb_S2x512x1_S1x512x1_0_0_0 f8))],
      [wrA ![1, 0, 0] inb_S2x512x128_S1x512x128_1_0_0 (k0_pay13 (k0_pay12 v3 (ldK arg4 (k0_off6 i k) (k0_off6_inb i k) X4) (ldV arg5 (k0_off5 i k) (k0_off5_inb i k) X5) (ldS arg7 ![1, 0, 0] inb_S2x512x1_S1x512x1_1_0_0 f7) (ldA arg9 ![1, 0, 0] inb_S2x512x128_S1x512x128_1_0_0 f9))),
       wrA ![0, 0, 0] inb_S2x512x128_S1x512x128_0_0_0 (k0_pay13 (k0_pay12 v1 (ldK arg4 (k0_off4 i k) (k0_off4_inb i k) X4) (ldV arg5 (k0_off5 i k) (k0_off5_inb i k) X5) (ldS arg7 ![0, 0, 0] inb_S2x512x1_S1x512x1_0_0_0 f7) (ldA arg9 ![0, 0, 0] inb_S2x512x128_S1x512x128_0_0_0 f9)))]) := by
  unfold tripL_k0_t1 trip_k0_t1
  dsimp only
  sl_unfold_words
  rfl

/-- The first head's queries of a slab. -/
abbrev q0 (x0 : Vec Ideal S1x512x256 .bf16) : FVec Ideal S512x128 .bf16 := k0_pay40 (ldQ arg3 ![0, 0, 0] inb_S1x512x256_S1x512x128_0_0_0 (harg3.unread x0))
/-- The second head's queries of a slab. -/
abbrev q1 (x0 : Vec Ideal S1x512x256 .bf16) : FVec Ideal S512x128 .bf16 := k0_pay41 (ldQ arg3 ![0, 0, 128] inb_S1x512x256_S1x512x128_0_0_128 (harg3.unread x0))
/-- The diagonal block's writes to the running maximum. -/
abbrev dg7 (x0 : Vec Ideal S1x512x256 .bf16) (x1 : Vec Ideal S1x8192x256 .bf16) : List (View.Piece (Elt Ideal) S2x512x1 .f32) :=
  [wrS ![1, 0, 0] inb_S2x512x1_S1x512x1_1_0_0 (k0_pay53 (q1 arg3 harg3 x0) k0_pay42 (ldK arg4 (k0_off3 i) (k0_off3_inb i) (harg4.unread x1))),
   wrS ![0, 0, 0] inb_S2x512x1_S1x512x1_0_0_0 (k0_pay53 (q0 arg3 harg3 x0) k0_pay42 (ldK arg4 (k0_off1 i) (k0_off1_inb i) (harg4.unread x1)))]
/-- The diagonal block's writes to the running sum. -/
abbrev dg8 (x0 : Vec Ideal S1x512x256 .bf16) (x1 : Vec Ideal S1x8192x256 .bf16) : List (View.Piece (Elt Ideal) S2x512x1 .f32) :=
  [wrS ![1, 0, 0] inb_S2x512x1_S1x512x1_1_0_0 (k0_pay54 (q1 arg3 harg3 x0) k0_pay42 (ldK arg4 (k0_off3 i) (k0_off3_inb i) (harg4.unread x1))),
   wrS ![0, 0, 0] inb_S2x512x1_S1x512x1_0_0_0 (k0_pay54 (q0 arg3 harg3 x0) k0_pay42 (ldK arg4 (k0_off1 i) (k0_off1_inb i) (harg4.unread x1)))]
/-- The diagonal block's writes to the running numerator. -/
abbrev dg9 (x0 : Vec Ideal S1x512x256 .bf16) (x1 : Vec Ideal S1x8192x256 .bf16) (x2 : Vec Ideal S1x8192x128 .bf16) : List (View.Piece (Elt Ideal) S2x512x128 .f32) :=
  [wrA ![1, 0, 0] inb_S2x512x128_S1x512x128_1_0_0 (k0_pay55 (q1 arg3 harg3 x0) k0_pay42 (ldK arg4 (k0_off3 i) (k0_off3_inb i) (harg4.unread x1)) (ldV arg5 (k0_off2 i) (k0_off2_inb i) (harg5.unread x2))),
   wrA ![0, 0, 0] inb_S2x512x128_S1x512x128_0_0_0 (k0_pay55 (q0 arg3 harg3 x0) k0_pay42 (ldK arg4 (k0_off1 i) (k0_off1_inb i) (harg4.unread x1)) (ldV arg5 (k0_off2 i) (k0_off2_inb i) (harg5.unread x2)))]

/-- The pieces the loop's first trips write. -/
abbrev loopW (x0 : Vec Ideal S1x512x256 .bf16) (x1 : Vec Ideal S1x8192x256 .bf16) (x2 : Vec Ideal S1x8192x128 .bf16) (n : ℕ) :=
  pb_k0_t1 (F := Ideal) Variants.none c none i arg3 harg3 arg4 harg4 arg5 harg5 arg6 harg6 arg7 harg7 arg8 harg8 arg9 harg9 (q0 arg3 harg3 x0) (q1 arg3 harg3 x0) (0#32) (harg4.unread x1) (harg5.unread x2)
    (arg7.view.writes (Elt Ideal) arg7.view.junk (dg7 i arg3 harg3 arg4 harg4 x0 x1))
    (arg8.view.writes (Elt Ideal) arg8.view.junk (dg8 i arg3 harg3 arg4 harg4 x0 x1))
    (arg9.view.writes (Elt Ideal) arg9.view.junk (dg9 i arg3 harg3 arg4 harg4 arg5 harg5 x0 x1 x2)) n

/-- The second loop makes no trip. -/
theorem t2_trips : (k0_t2_loop i).trips = 0 := Nat.le_zero.mp (k0_t2_abs i).2.1

/-- The block the body leaves: each head's numerator over its sum, after the diagonal block and every trip. -/
theorem out_eq (x0 : Vec Ideal S1x512x256 .bf16) (x1 : Vec Ideal S1x8192x256 .bf16) (x2 : Vec Ideal S1x8192x128 .bf16) :
    out0_A_3 c i arg3 harg3 arg4 harg4 arg5 harg5 arg6 harg6 arg7 harg7 arg8 harg8 arg9 harg9 x0 x1 x2 =
      k0_pay5 (F := Ideal)
        (ldA arg9 ![0, 0, 0] inb_S2x512x128_S1x512x128_0_0_0 (arg9.view.writes (Elt Ideal) arg9.view.junk ((loopW c i arg3 harg3 arg4 harg4 arg5 harg5 arg6 harg6 arg7 harg7 arg8 harg8 arg9 harg9 x0 x1 x2 (k0_t1_loop i).trips).2.2 ++ dg9 i arg3 harg3 arg4 harg4 arg5 harg5 x0 x1 x2)))
        (ldS arg8 ![0, 0, 0] inb_S2x512x1_S1x512x1_0_0_0 (arg8.view.writes (Elt Ideal) arg8.view.junk ((loopW c i arg3 harg3 arg4 harg4 arg5 harg5 arg6 harg6 arg7 harg7 arg8 harg8 arg9 harg9 x0 x1 x2 (k0_t1_loop i).trips).2.1 ++ dg8 i arg3 harg3 arg4 harg4 x0 x1)))
        (ldA arg9 ![1, 0, 0] inb_S2x512x128_S1x512x128_1_0_0 (arg9.view.writes (Elt Ideal) arg9.view.junk ((loopW c i arg3 harg3 arg4 harg4 arg5 harg5 arg6 harg6 arg7 harg7 arg8 harg8 arg9 harg9 x0 x1 x2 (k0_t1_loop i).trips).2.2 ++ dg9 i arg3 harg3 arg4 harg4 arg5 harg5 x0 x1 x2)))
        (ldS arg8 ![1, 0, 0] inb_S2x512x1_S1x512x1_1_0_0 (arg8.view.writes (Elt Ideal) arg8.view.junk ((loopW c i arg3 harg3 arg4 harg4 arg5 harg5 arg6 harg6 arg7 harg7 arg8 harg8 arg9 harg9 x0 x1 x2 (k0_t1_loop i).trips).2.1 ++ dg8 i arg3 harg3 arg4 harg4 x0 x1))) := by
  unfold out0_A_3
  rw [View.read_writes_eq_canon _ _ _ (cover0_A_3 c i arg3 harg3 arg4 harg4 arg5 harg5 arg6 harg6 arg7 harg7 arg8 harg8 arg9 harg9 x0 x1 x2)]
  unfold kernelRun0_A
  dsimp only
  rw [View.canon_unit_zero (funext fun a => by fin_cases a <;> rfl)]
  sl_unfold_words
  have hz := t2_trips i
  change Scf.trips _ _ _ = 0 at hz
  rw [hz]
  rfl
end Cert.KernelIdeal.Mla
-- ==== Proof.Softmax.lean ====
/- The running softmax over the extended reals. A row of scores is cut in blocks of columns; a pass over some of the
   blocks keeps the greatest score met, the sum of the powers of two of the scores below it, and the same sum
   weighted by the values. One more block rescales what was kept by a power of two. This file says that what is
   kept depends only on which blocks were met, and that the quotient of the two sums at the end is the plain
   softmax, written with the exponential, of the row. Nothing here names a kernel. -/
module

public import Idealize.ShloMosaic.PureOps.Ideal
public import Idealize.ShloMosaic.PureOps.Ideal.Laws

@[expose] public section

noncomputable section

namespace Running

open Idealize.ShloMosaic

variable {n : ℕ}

/-- The greatest score of the blocks `S`. -/
def top (x : ℕ → Fin n → EReal) (S : Finset ℕ) : EReal := S.sup fun j => Finset.univ.sup (x j)

/-- The powers of two of the scores below the greatest, added up over the blocks `S`. -/
def den (x : ℕ → Fin n → EReal) (S : Finset ℕ) : EReal := ∑ j ∈ S, ∑ c, Ideal.exp2 (x j c - top x S)

/-- The same sum weighted by the values `w`. -/
def num (x w : ℕ → Fin n → EReal) (S : Finset ℕ) : EReal := ∑ j ∈ S, ∑ c, Ideal.exp2 (x j c - top x S) * w j c

/-- A power of two is not negative. -/
theorem exp2_nonneg (a : EReal) : 0 ≤ Ideal.exp2 a := by
  induction a with
  | bot => exact le_rfl
  | coe r =>
    show (0 : EReal) ≤ ((2 : ℝ) ^ r : ℝ)
    exact_mod_cast (Real.rpow_pos_of_pos two_pos r).le
  | top => exact _root_.le_top

/-- At a real exponent it is the real power. -/
theorem exp2_coe (r : ℝ) : Ideal.exp2 (r : EReal) = ((2 : ℝ) ^ r : ℝ) := rfl

/-- At minus infinity it vanishes. -/
theorem exp2_bot : Ideal.exp2 ⊥ = 0 := rfl

/-- A factor that is a real number and not negative goes into a finite sum of extended reals. -/
theorem mul_sum {ι : Type*} (S : Finset ι) (a : ℝ) (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi, ← ih]
    exact EReal.left_distrib_of_nonneg_of_ne_top (by exact_mod_cast ha) (EReal.coe_ne_top a) _ _

/-- Rescaling from one real reference point to another. -/
theorem exp2_rescale (m m' : ℝ) (x : EReal) (hx : x ≠ ⊤) :
    Ideal.exp2 ((m : EReal) - m') * Ideal.exp2 (x - m) = Ideal.exp2 (x - m') := by
  induction x with
  | bot => simp [exp2_bot]
  | coe r =>
    rw [← EReal.coe_sub, ← EReal.coe_sub, ← EReal.coe_sub, exp2_coe, exp2_coe, exp2_coe, ← EReal.coe_mul,
      ← Real.rpow_add two_pos]
    congr 2; ring
  | top => exact absurd rfl hx

/-- Each score is at most the greatest. -/
theorem le_top (x : ℕ → Fin n → EReal) {S : Finset ℕ} {j : ℕ} (hj : j ∈ S) (c : Fin n) : x j c ≤ top x S :=
  (Finset.le_sup (f := x j) (Finset.mem_univ c)).trans (Finset.le_sup (f := fun j => Finset.univ.sup (x j)) hj)

/-- The greatest score once block `j` is met too. -/
theorem top_insert (x : ℕ → Fin n → EReal) (S : Finset ℕ) (j : ℕ) :
    top x (insert j S) = max (top x S) (Finset.univ.sup (x j)) := by
  unfold top; rw [Finset.sup_insert, max_comm]

/-- Over one block alone. -/
theorem top_single (x : ℕ → Fin n → EReal) (j : ℕ) : top x {j} = Finset.univ.sup (x j) := by
  unfold top; rw [Finset.sup_singleton]

theorem den_single (x : ℕ → Fin n → EReal) (j : ℕ) :
    den x {j} = ∑ c, Ideal.exp2 (x j c - Finset.univ.sup (x j)) := by
  unfold den; rw [Finset.sum_singleton, top_single]

theorem num_single (x w : ℕ → Fin n → EReal) (j : ℕ) :
    num x w {j} = ∑ c, Ideal.exp2 (x j c - Finset.univ.sup (x j)) * w j c := by
  unfold num; rw [Finset.sum_singleton, top_single]

/-- The weighted sum once block `j` is met too: what was kept, rescaled, plus the block's own terms. -/
theorem num_insert (x w : ℕ → Fin n → EReal) (S : Finset ℕ) (j : ℕ) (hj : j ∉ S) (m m' : ℝ)
    (hm : top x S = m) (hm' : top x (insert j S) = m') :
    num x w (insert j S) = Ideal.exp2 (top x S - top x (insert j S)) * num x w S
      + ∑ c, Ideal.exp2 (x j c - top x (insert j S)) * w j c := by
  have ha : Ideal.exp2 ((m : EReal) - m') = (((2 : ℝ) ^ (m - m') : ℝ) : EReal) := by rw [← EReal.coe_sub, exp2_coe]
  unfold num
  rw [Finset.sum_insert hj, add_comm, hm, hm']
  congr 1
  rw [ha, mul_sum _ _ (Real.rpow_pos_of_pos two_pos _).le]
  refine Finset.sum_congr rfl fun k hk => ?_
  rw [mul_sum _ _ (Real.rpow_pos_of_pos two_pos _).le]
  refine Finset.sum_congr rfl fun c _ => ?_
  have hx : x k c ≠ ⊤ := fun h => by
    have := le_top x hk c
    rw [h, hm, top_le_iff] at this
    exact EReal.coe_ne_top m this
  rw [← mul_assoc, ← ha, exp2_rescale m m' _ hx]

/-- The plain sum likewise. -/
theorem den_eq_num (x : ℕ → Fin n → EReal) (S : Finset ℕ) : den x S = num x (fun _ _ => 1) S := by
  unfold den num; simp only [mul_one]

theorem den_insert (x : ℕ → Fin n → EReal) (S : Finset ℕ) (j : ℕ) (hj : j ∉ S) (m m' : ℝ)
    (hm : top x S = m) (hm' : top x (insert j S) = m') :
    den x (insert j S) = Ideal.exp2 (top x S - top x (insert j S)) * den x S
      + ∑ c, Ideal.exp2 (x j c - top x (insert j S)) := by
  rw [den_eq_num, den_eq_num, num_insert x _ S j hj m m' hm hm']; simp only [mul_one]

/-- Blocks that hold minus infinity alone change nothing. -/
theorem top_subset (x : ℕ → Fin n → EReal) {S T : Finset ℕ} (h : S ⊆ T) (hb : ∀ j ∈ T, j ∉ S → ∀ c, x j c = ⊥) :
    top x T = top x S := by
  refine le_antisymm (Finset.sup_le fun j hj => Finset.sup_le fun c _ => ?_) (Finset.sup_mono h)
  by_cases hS : j ∈ S
  · exact le_top x hS c
  · rw [hb j hj hS c]; exact bot_le

theorem num_subset (x w : ℕ → Fin n → EReal) {S T : Finset ℕ} (h : S ⊆ T) (hb : ∀ j ∈ T, j ∉ S → ∀ c, x j c = ⊥) :
    num x w T = num x w S := by
  unfold num
  rw [top_subset x h hb]
  refine (Finset.sum_subset h fun j hj hS => Finset.sum_eq_zero fun c _ => ?_).symm
  rw [hb j hj hS c, EReal.bot_sub, exp2_bot, zero_mul]

theorem den_subset (x : ℕ → Fin n → EReal) {S T : Finset ℕ} (h : S ⊆ T) (hb : ∀ j ∈ T, j ∉ S → ∀ c, x j c = ⊥) :
    den x T = den x S := by
  rw [den_eq_num, den_eq_num, num_subset x _ h hb]

/-- Each term of a real-topped row is a real number, and not negative. -/
theorem exp2_real (m : ℝ) (a : EReal) (ha : a ≠ ⊤) : ∃ r : ℝ, 0 ≤ r ∧ Ideal.exp2 (a - m) = r := by
  induction a with
  | bot => exact ⟨0, le_rfl, by simp [exp2_bot]⟩
  | coe s => exact ⟨(2 : ℝ) ^ (s - m), (Real.rpow_pos_of_pos two_pos _).le, by rw [← EReal.coe_sub, exp2_coe]⟩
  | top => exact absurd rfl ha

/-- A finite sum of real numbers that are not negative is one. -/
theorem sum_real {ι : Type*} (S : Finset ι) (f : ι → EReal) (hf : ∀ i ∈ S, ∃ r : ℝ, 0 ≤ r ∧ f i = r) :
    ∃ r : ℝ, 0 ≤ r ∧ ∑ i ∈ S, f i = r := by
  classical
  induction S using Finset.induction_on with
  | empty => exact ⟨0, le_rfl, by simp⟩
  | insert i S hi ih =>
    obtain ⟨r, hr, hr'⟩ := ih fun k hk => hf k (Finset.mem_insert_of_mem hk)
    obtain ⟨s, hs, hs'⟩ := hf i (Finset.mem_insert_self i S)
    exact ⟨s + r, add_nonneg hs hr, by rw [Finset.sum_insert hi, hr', hs', EReal.coe_add]⟩

/-- The greatest score, when real, is one of the scores. -/
theorem exists_top (x : ℕ → Fin n → EReal) (S : Finset ℕ) (m : ℝ) (hm : top x S = m) :
    ∃ j ∈ S, ∃ c, x j c = m := by
  by_contra hne
  push Not at hne
  have hlt : top x S < m := by
    refine (Finset.sup_lt_iff (EReal.bot_lt_coe m)).2 fun j hj => (Finset.sup_lt_iff (EReal.bot_lt_coe m)).2 fun c _ => ?_
    exact lt_of_le_of_ne (hm ▸ le_top x hj c) (hne j hj c)
  exact absurd hm hlt.ne

/-- The plain sum is then a positive real number. -/
theorem den_pos (x : ℕ → Fin n → EReal) (S : Finset ℕ) (m : ℝ) (hm : top x S = m) :
    ∃ d : ℝ, 0 < d ∧ den x S = d := by
  have hx : ∀ j ∈ S, ∀ c, x j c ≠ ⊤ := fun j hj c h => by
    have := le_top x hj c
    rw [h, hm, top_le_iff] at this
    exact EReal.coe_ne_top m this
  obtain ⟨d, hd, hd'⟩ := sum_real S (fun j => ∑ c, Ideal.exp2 (x j c - top x S)) fun j hj =>
    sum_real _ _ fun c _ => by rw [hm]; exact exp2_real m _ (hx j hj c)
  obtain ⟨j, hj, c, hc⟩ := exists_top x S m hm
  refine ⟨d, ?_, hd'⟩
  have h1 : (1 : EReal) ≤ den x S := by
    unfold den
    calc (1 : EReal) = Ideal.exp2 (x j c - top x S) := by
          rw [hc, hm, ← EReal.coe_sub, exp2_coe, sub_self, Real.rpow_zero]; rfl
      _ ≤ ∑ c, Ideal.exp2 (x j c - top x S) :=
          Finset.single_le_sum (f := fun c => Ideal.exp2 (x j c - top x S)) (fun _ _ => exp2_nonneg _) (Finset.mem_univ c)
      _ ≤ _ := Finset.single_le_sum (f := fun j => ∑ c, Ideal.exp2 (x j c - top x S))
          (fun _ _ => Finset.sum_nonneg fun _ _ => exp2_nonneg _) hj
  rw [show den x S = (d : EReal) from hd'] at h1
  exact_mod_cast lt_of_lt_of_le one_pos (by exact_mod_cast h1 : (1 : ℝ) ≤ d)

/-- The exponential of a score scaled by the logarithm of two is the power of two of the score. -/
theorem exp_scaled (m : ℝ) (a : EReal) (ha : a ≠ ⊤) :
    Ideal.exp (a * (Real.log 2 : ℝ) - m * (Real.log 2 : ℝ)) = Ideal.exp2 (a - m) := by
  have hl : (0 : ℝ) < Real.log 2 := Real.log_pos one_lt_two
  induction a with
  | bot =>
    rw [EReal.bot_mul_coe_of_pos hl, EReal.bot_sub, EReal.bot_sub]; rfl
  | coe s =>
    rw [← EReal.coe_mul, ← EReal.coe_mul, ← EReal.coe_sub, ← EReal.coe_sub, exp2_coe]
    show ((Real.exp _ : ℝ) : EReal) = _
    rw [Real.rpow_def_of_pos two_pos]
    congr 2; ring
  | top => exact absurd rfl ha

/-- Scaling by a positive real number keeps the order, so the greatest of the scaled scores is the greatest scaled. -/
theorem sup_scaled {ι : Type*} (S : Finset ι) (f : ι → EReal) (a : ℝ) (ha : 0 < a) :
    (S.sup fun i => f i * (a : EReal)) = S.sup f * (a : EReal) := by
  have hmono : Monotone fun y : EReal => y * (a : EReal) := fun y z h =>
    mul_le_mul_of_nonneg_right h (by exact_mod_cast ha.le)
  exact (Finset.comp_sup_eq_sup_comp (fun y : EReal => y * (a : EReal)) (fun y z => hmono.map_max)
    (EReal.bot_mul_coe_of_pos ha)).symm

/-- The quotient of the two sums over the blocks is the softmax of the row: each value weighted by its exponential
    over the sum of the exponentials, at the scores scaled by the logarithm of two. -/
theorem quotient (x w : ℕ → Fin n → EReal) (S : Finset ℕ) (m : ℝ) (hm : top x S = m) :
    Ideal.div (num x w S) (den x S)
      = ∑ j ∈ S, ∑ c, w j c * Ideal.div
          (Ideal.exp (x j c * (Real.log 2 : ℝ) - top x S * (Real.log 2 : ℝ)))
          (∑ j ∈ S, ∑ c, Ideal.exp (x j c * (Real.log 2 : ℝ) - top x S * (Real.log 2 : ℝ))) := by
  have hx : ∀ j ∈ S, ∀ c, x j c ≠ ⊤ := fun j hj c h => by
    have := le_top x hj c
    rw [h, hm, top_le_iff] at this
    exact EReal.coe_ne_top m this
  obtain ⟨d, hd, hd'⟩ := den_pos x S m hm
  have hD : (∑ j ∈ S, ∑ c, Ideal.exp (x j c * (Real.log 2 : ℝ) - top x S * (Real.log 2 : ℝ))) = (d : EReal) := by
    rw [← hd']; unfold den
    refine Finset.sum_congr rfl fun j hj => Finset.sum_congr rfl fun c _ => ?_
    rw [hm, exp_scaled m _ (hx j hj c)]
  have hq : 0 ≤ 1 / d := (one_div_pos.2 hd).le
  rw [hD, hd', Ideal.div_coe hd.ne', mul_comm]
  unfold num
  rw [mul_sum _ _ hq]
  refine Finset.sum_congr rfl fun j hj => ?_
  rw [mul_sum _ _ hq]
  refine Finset.sum_congr rfl fun c _ => ?_
  rw [Ideal.div_coe hd.ne', hm, exp_scaled m _ (hx j hj c), mul_comm (w j c), mul_comm ((1 / d : ℝ) : EReal),
    mul_assoc, mul_assoc, mul_comm (w j c)]

/-- A sum over the positions of a row, cut in blocks of `n`. -/
theorem sum_blocks {M : Type*} [AddCommMonoid M] (a : ℕ) (f : ℕ → M) :
    ∑ k : Fin (a * n), f k = ∑ j ∈ Finset.range a, ∑ c : Fin n, f (n * j + c) := by
  rw [Fin.sum_univ_eq_sum_range]
  induction a with
  | zero => simp
  | succ a ih =>
    rw [Nat.succ_mul, Finset.sum_range_add, ih, Finset.sum_range_succ, Nat.mul_comm a n]
    exact congrArg _ (Fin.sum_univ_eq_sum_range (fun x => f (n * a + x)) n).symm

/-- The greatest over the positions of a row, cut in blocks of `n`. -/
theorem sup_blocks (a : ℕ) (f : ℕ → EReal) :
    (Finset.univ.sup fun k : Fin (a * n) => f k)
      = (Finset.range a).sup fun j => Finset.univ.sup fun c : Fin n => f (n * j + c) := by
  refine le_antisymm (Finset.sup_le fun k _ => ?_) (Finset.sup_le fun j hj => Finset.sup_le fun c _ => ?_)
  · have hn : 0 < n := Nat.pos_of_ne_zero fun h => by have := k.isLt; simp [h] at this
    have hk : k.val / n < a := Nat.div_lt_of_lt_mul (lt_of_lt_of_eq k.isLt (Nat.mul_comm a n))
    calc f k = f (n * (k.val / n) + (⟨k.val % n, Nat.mod_lt _ hn⟩ : Fin n)) := by rw [Nat.div_add_mod]
      _ ≤ Finset.univ.sup fun c : Fin n => f (n * (k.val / n) + c) :=
          Finset.le_sup (f := fun c : Fin n => f (n * (k.val / n) + c)) (Finset.mem_univ _)
      _ ≤ _ := Finset.le_sup (f := fun j => Finset.univ.sup fun c : Fin n => f (n * j + c)) (Finset.mem_range.2 hk)
  · have hlt : n * j + c < a * n := by
      have h1 : (j + 1) * n ≤ a * n := Nat.mul_le_mul_right n (Finset.mem_range.1 hj)
      have h2 := c.isLt
      rw [Nat.succ_mul, Nat.mul_comm] at h1
      omega
    exact Finset.le_sup (f := fun k : Fin (a * n) => f k) (Finset.mem_univ ⟨n * j + c, hlt⟩)

end Running

end
-- ==== Proof.Steps.lean ====
module
public import proofs.«01_k».proof.Proof.Gen.KernelIdeal.Value
public import proofs.«01_k».proof.Proof.Softmax
public import Idealize.ShloMosaic.Lib.Tactic
public import Idealize.ShloMosaic.Lib.Pointwise
public import Idealize.ShloMosaic.Lib.WordCmp
@[expose] public section
set_option maxRecDepth 16384
noncomputable section
namespace Cert.KernelIdeal.Mla
open Cert.KernelIdeal Cert.KernelIdeal.Gen Idealize.ShloMosaic Idealize.ShloMosaic.TcCoe Idealize.SL.Sem

/-- The word of minus infinity denotes it. -/
theorem ofBits_negInf : Ideal.ofBits .f32 4286578688#32 = ⊥ := by simp [Ideal.ofBits, Ideal.ieee]

/-- The named mask denotes minus infinity. -/
theorem mask_bot : (Named.named κ "mask" (4048155338#32 : BitVec FTy.f32.bits) : Ideal .f32) = ⊥ := rfl

/-- The diagonal block's mask, as a condition on row and column. -/
theorem select_tri (a b : Fin 512) (x y : EReal) :
    Scalar.select (IntOp.cmpi .sge (BitVec.ofNat 32 a.val) (BitVec.ofNat 32 b.val)) x y = if b.val ≤ a.val then x else y := by
  rw [WordCmp.cmpi_sge_ofNat (by omega) (by omega)]
  by_cases h : b.val ≤ a.val
  · rw [if_pos h, decide_eq_true h]; rfl
  · rw [if_neg h, decide_eq_false h]; rfl

variable (q : FVec Ideal S512x128 .bf16) (K V : FVec Ideal S1x512x128 .bf16) (r : Fin 512)

/-- The masked scores of the diagonal block. -/
theorem diag_score (o : Fin 512) :
    k0_pay50 (F := Ideal) q k0_pay42 K (ix2 r o) = if o.val ≤ r.val then ∑ d : Fin 128, q (ix2 r d) * K (ix3 0 o d) else ⊥ := by
  pointwise [k0_pay50, k0_pay42]
  rw [mask_bot, select_tri]

/-- The scores of a block below the diagonal. -/
theorem score (o : Fin 512) :
    k0_pay6 (F := Ideal) q K (ix2 r o) = ∑ d : Fin 128, q (ix2 r d) * K (ix3 0 o d) := by
  pointwise [k0_pay6]
/-- For one row and one output column, the three running values are those of the blocks `S`. -/
def Holds (X W : ℕ → Fin 512 → EReal) (S : Finset ℕ) (e : Fin 128) (M L : FVec Ideal S1x512x1 .f32)
    (A : FVec Ideal S1x512x128 .f32) : Prop :=
  M (ix3 0 r 0) = Running.top X S ∧ L (ix3 0 r 0) = Running.den X S ∧ A (ix3 0 r e) = Running.num X W S

/-- After the diagonal block the running values are those of that block. -/
theorem start (X W : ℕ → Fin 512 → EReal) (j : ℕ) (e : Fin 128)
    (hX : ∀ o : Fin 512, X j o = if o.val ≤ r.val then ∑ d : Fin 128, q (ix2 r d) * K (ix3 0 o d) else ⊥)
    (hW : ∀ o : Fin 512, W j o = V (ix3 0 o e)) :
    Holds r X W {j} e (k0_pay53 q k0_pay42 K) (k0_pay54 q k0_pay42 K) (k0_pay55 q k0_pay42 K V) := by
  have hx : (fun x => k0_pay50 (F := Ideal) q k0_pay42 K (ix2 r x)) = X j := funext fun o => by rw [diag_score, hX]
  have hx' : ∀ x, k0_pay50 (F := Ideal) q k0_pay42 K (ix2 r x) = X j x := fun x => congrFun hx x
  refine ⟨?_, ?_, ?_⟩
  · rw [Running.top_single]
    pointwise [k0_pay53, k0_pay51]
    rw [hx, ofBits_negInf]; rfl
  · rw [Running.den_single]
    pointwise [k0_pay54, k0_pay52, k0_pay51]
    rw [hx, ofBits_negInf]
    exact Finset.sum_congr rfl fun x _ => by rw [hx' x]; rfl
  · rw [Running.num_single]
    pointwise [k0_pay55, k0_pay52, k0_pay51]
    rw [hx, ofBits_negInf]
    exact Finset.sum_congr rfl fun x _ => by rw [hx' x, hW x]; rfl

/-- A trip over block `j` takes the running values of `S` to those of `S` with `j`. -/
theorem step (X W : ℕ → Fin 512 → EReal) (S : Finset ℕ) (j : ℕ) (hj : j ∉ S) (e : Fin 128) (m m' : ℝ)
    (hm : Running.top X S = m) (hm' : Running.top X (insert j S) = m')
    (hX : ∀ o : Fin 512, X j o = ∑ d : Fin 128, q (ix2 r d) * K (ix3 0 o d))
    (hW : ∀ o : Fin 512, W j o = V (ix3 0 o e))
    (M L : FVec Ideal S1x512x1 .f32) (A : FVec Ideal S1x512x128 .f32) (h : Holds r X W S e M L A) :
    Holds r X W (insert j S) e (k0_pay14 (k0_pay8 q K M)) (k0_pay11 q K M L) (k0_pay13 (k0_pay12 q K V M A)) := by
  have hx : (fun x => k0_pay6 (F := Ideal) q K (ix2 r x)) = X j := funext fun o => by rw [score, hX]
  have hx' : ∀ x, k0_pay6 (F := Ideal) q K (ix2 r x) = X j x := fun x => congrFun hx x
  have hf : Finset.fold max ⊥ (X j) Finset.univ = Finset.univ.sup (X j) := rfl
  obtain ⟨h1, h2, h3⟩ := h
  refine ⟨?_, ?_, ?_⟩
  · pointwise [k0_pay14, k0_pay8, k0_pay7]
    rw [hx, ofBits_negInf, h1, hf, Running.top_insert]
  · rw [Running.den_insert X S j hj m m' hm hm']
    pointwise [k0_pay11, k0_pay10, k0_pay9, k0_pay8, k0_pay7]
    rw [hx, ofBits_negInf, h1, h2, hf, ← Running.top_insert]
    exact congrArg _ (Finset.sum_congr rfl fun x _ => by rw [hx' x]; rfl)
  · rw [Running.num_insert X W S j hj m m' hm hm']
    pointwise [k0_pay13, k0_pay12, k0_pay10, k0_pay9, k0_pay8, k0_pay7]
    rw [hx, ofBits_negInf, h1, h3, hf, ← Running.top_insert]
    exact congrArg _ (Finset.sum_congr rfl fun x _ => by rw [hx' x, hW x]; rfl)

/-- The block that is stored: the first head's quotient in the first 64 columns, the second's in the others. -/
theorem stored (A A' : FVec Ideal S1x512x128 .f32) (L L' : FVec Ideal S1x512x1 .f32) (e : Fin 128) :
    k0_pay5 (F := Ideal) A L A' L' (ix3 0 r e) =
      if e.val < 64 then Ideal.div (A (ix3 0 r e)) (L (ix3 0 r 0)) else Ideal.div (A' (ix3 0 r e)) (L' (ix3 0 r 0)) := by
  pointwise [k0_pay5]
  rw [show (64#32) = BitVec.ofNat 32 64 from rfl, WordCmp.cmpi_slt_ofNat (by omega) (by omega)]
  by_cases h : e.val < 64
  · rw [if_pos h, decide_eq_true h]; rfl
  · rw [if_neg h, decide_eq_false h]; rfl
end Cert.KernelIdeal.Mla
-- ==== Proof.Block.lean ====
module
public import proofs.«01_k».proof.Proof.Run
public import proofs.«01_k».proof.Proof.Steps
public import Idealize.ShloMosaic.Lib.WritesUnit
@[expose] public section
set_option maxRecDepth 16384
noncomputable section
namespace Cert.KernelIdeal.Mla
open Cert.KernelIdeal Cert.KernelIdeal.Gen Idealize.ShloMosaic Idealize.ShloMosaic.TcCoe Idealize.SL.Sem

/-- A finite sum of real numbers is real. -/
theorem real_sum {ι : Type*} (S : Finset ι) (f : ι → EReal) (hf : ∀ i, ∃ a : ℝ, f i = a) : ∃ a : ℝ, ∑ i ∈ S, f i = a := by
  classical
  induction S using Finset.induction_on with
  | empty => exact ⟨0, by simp⟩
  | insert i S hi ih =>
    obtain ⟨a, ha⟩ := hf i
    obtain ⟨b, hb⟩ := ih
    exact ⟨a + b, by rw [Finset.sum_insert hi, ha, hb, EReal.coe_add]⟩

/-- The greatest score is real when no score is plus infinity and one is real. -/
theorem top_real (x : ℕ → Fin 512 → EReal) (S : Finset ℕ) (hne : ∀ j o, x j o ≠ ⊤) (j : ℕ) (hj : j ∈ S) (o : Fin 512)
    (a : ℝ) (ha : x j o = a) : ∃ m : ℝ, Running.top x S = m := by
  have h1 : Running.top x S ≠ ⊤ := by
    refine ne_of_lt ((Finset.sup_lt_iff bot_lt_top).mpr fun j _ => (Finset.sup_lt_iff bot_lt_top).mpr fun o _ => ?_)
    exact lt_top_iff_ne_top.mpr (hne j o)
  have h2 : Running.top x S ≠ ⊥ := by
    intro h
    have := Running.le_top x hj o
    rw [h, ha] at this
    exact absurd this (not_le.mpr (EReal.bot_lt_coe a))
  exact ⟨(Running.top x S).toReal, (EReal.coe_toReal h1 h2).symm⟩

/-- The running values after the diagonal block `b` and the trips over the blocks before it. -/
theorem run (r : Fin 512) (X W : ℕ → Fin 512 → EReal) (b : ℕ) (e : Fin 128) (q : FVec Ideal S512x128 .bf16)
    (M L : ℕ → FVec Ideal S1x512x1 .f32) (A : ℕ → FVec Ideal S1x512x128 .f32)
    (hne : ∀ j o, X j o ≠ ⊤) (o : Fin 512) (a : ℝ) (ha : X b o = a)
    (h0 : ∃ K V : FVec Ideal S1x512x128 .bf16,
      (∀ o : Fin 512, X b o = if o.val ≤ r.val then ∑ d : Fin 128, q (ix2 r d) * K (ix3 0 o d) else ⊥) ∧
      (∀ o : Fin 512, W b o = V (ix3 0 o e)) ∧
      M 0 = k0_pay53 q k0_pay42 K ∧ L 0 = k0_pay54 q k0_pay42 K ∧ A 0 = k0_pay55 q k0_pay42 K V)
    (hs : ∀ n, n < b → ∃ K V : FVec Ideal S1x512x128 .bf16,
      (∀ o : Fin 512, X n o = ∑ d : Fin 128, q (ix2 r d) * K (ix3 0 o d)) ∧
      (∀ o : Fin 512, W n o = V (ix3 0 o e)) ∧
      M (n + 1) = k0_pay14 (k0_pay8 q K (M n)) ∧ L (n + 1) = k0_pay11 q K (M n) (L n) ∧
      A (n + 1) = k0_pay13 (k0_pay12 q K V (M n) (A n))) :
    ∀ n, n ≤ b → Holds r X W (insert b (Finset.range n)) e (M n) (L n) (A n) := by
  intro n
  induction n with
  | zero =>
    intro _
    obtain ⟨K, V, hX, hW, e1, e2, e3⟩ := h0
    rw [e1, e2, e3]
    have hS : insert b (Finset.range 0) = {b} := by simp
    rw [hS]
    exact start q K V r X W b e hX hW
  | succ n ih =>
    intro hn
    obtain ⟨K, V, hX, hW, e1, e2, e3⟩ := hs n (by omega)
    rw [e1, e2, e3, Finset.range_add_one, Finset.insert_comm]
    obtain ⟨m, hm⟩ := top_real X (insert b (Finset.range n)) hne b (Finset.mem_insert_self _ _) o a ha
    obtain ⟨m', hm'⟩ := top_real X (insert n (insert b (Finset.range n))) hne b
      (Finset.mem_insert_of_mem (Finset.mem_insert_self _ _)) o a ha
    exact step q K V r X W _ n (by simp; omega) e m m' hm hm' hX hW _ _ _ (ih (by omega))

/-- The scores of row `r` of slab `b` for head `s` of a pair, by key block, those above the diagonal masked. -/
def rowX (s : Fin 2) (x0 : Vec Ideal S1x512x256 .bf16) (x1 : Vec Ideal S1x8192x256 .bf16) (b : ℕ) (r : Fin 512) :
    ℕ → Fin 512 → EReal := fun j o =>
  if h : j < 16 then
    if 512 * j + o.val ≤ 512 * b + r.val then
      ∑ d : Fin 128, x0 (ix3 0 r (⟨128 * s.val + d.val, by omega⟩ : Fin 256))
        * x1 (ix3 0 (⟨512 * j + o.val, by omega⟩ : Fin 8192) (⟨128 * s.val + d.val, by omega⟩ : Fin 256))
    else ⊥
  else ⊥

/-- One column of the values, by key block. -/
def rowW (x2 : Vec Ideal S1x8192x128 .bf16) (e : Fin 128) : ℕ → Fin 512 → EReal := fun j o =>
  if h : j < 16 then x2 (ix3 0 (⟨512 * j + o.val, by omega⟩ : Fin 8192) e) else 0

theorem score_real (s : Fin 2) (x0 : Vec Ideal S1x512x256 .bf16) (x1 : Vec Ideal S1x8192x256 .bf16)
    (h0 : ∀ y, ∃ a : ℝ, x0 y = a) (h1 : ∀ y, ∃ a : ℝ, x1 y = a) (b : ℕ) (r : Fin 512) (j : ℕ) (o : Fin 512) (h : j < 16)
    (hle : 512 * j + o.val ≤ 512 * b + r.val) : ∃ a : ℝ, rowX s x0 x1 b r j o = a := by
  unfold rowX
  rw [dif_pos h, if_pos hle]
  refine real_sum _ _ fun d => ?_
  obtain ⟨a, ha⟩ := h0 (ix3 0 r (⟨128 * s.val + d.val, by omega⟩ : Fin 256))
  obtain ⟨a', ha'⟩ := h1 (ix3 0 (⟨512 * j + o.val, by omega⟩ : Fin 8192) (⟨128 * s.val + d.val, by omega⟩ : Fin 256))
  exact ⟨a * a', by rw [ha, ha', EReal.coe_mul]⟩

theorem score_ne_top (s : Fin 2) (x0 : Vec Ideal S1x512x256 .bf16) (x1 : Vec Ideal S1x8192x256 .bf16)
    (h0 : ∀ y, ∃ a : ℝ, x0 y = a) (h1 : ∀ y, ∃ a : ℝ, x1 y = a) (b : ℕ) (r : Fin 512) (j : ℕ) (o : Fin 512) :
    rowX s x0 x1 b r j o ≠ ⊤ := by
  by_cases h : j < 16
  · by_cases hle : 512 * j + o.val ≤ 512 * b + r.val
    · obtain ⟨a, ha⟩ := score_real s x0 x1 h0 h1 b r j o h hle
      rw [ha]; exact EReal.coe_ne_top a
    · unfold rowX; rw [dif_pos h, if_neg hle]; exact bot_ne_top
  · unfold rowX; rw [dif_neg h]; exact bot_ne_top

variable (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x1 .f32) (harg7 : arg7.IsWhole) (arg8 : Memref sig .tc .vmem S2x512x1 .f32) (harg8 : arg8.IsWhole) (arg9 : Memref sig .tc .vmem S2x512x128 .f32) (harg9 : arg9.IsWhole)

variable (x0 : Vec Ideal S1x512x256 .bf16) (x1 : Vec Ideal S1x8192x256 .bf16) (x2 : Vec Ideal S1x8192x128 .bf16)

/-- The slab of the first head reads its own piece. -/
theorem ldS_zero (m : Memref sig .tc .vmem S2x512x1 .f32) (f : BufTy.Contents (Elt Ideal) m.view.ty) (v1 v0 : Vec Ideal S1x512x1 .f32) :
    ldS m ![0, 0, 0] inb_S2x512x1_S1x512x1_0_0_0 (m.view.writes (Elt Ideal) f [wrS ![1, 0, 0] inb_S2x512x1_S1x512x1_1_0_0 v1, wrS ![0, 0, 0] inb_S2x512x1_S1x512x1_0_0_0 v0]) = v0 := by
  funext y
  refine (View.read_writes_cons_unit_of_not_mem m.view f inb_S2x512x1_S1x512x1_1_0_0 v1 [wrS ![0, 0, 0] inb_S2x512x1_S1x512x1_0_0_0 v0]
    ((Rect.unit (s := S2x512x1) ![0, 0, 0] S1x512x1.size inb_S2x512x1_S1x512x1_0_0_0).emb y) rfl 0 (Or.inl ?_)).trans ?_
  · show 0 + 1 * (y 0).val < 1
    have : (y 0).val < 1 := (y 0).isLt
    omega
  · exact View.read_writes_cons_unit_of_mem m.view f inb_S2x512x1_S1x512x1_0_0_0 v0 [] _ y rfl fun a => by
      exact congrArg (_ + ·) (Nat.one_mul _)

/-- The slab of the second head reads its own piece. -/
theorem ldS_one (m : Memref sig .tc .vmem S2x512x1 .f32) (f : BufTy.Contents (Elt Ideal) m.view.ty) (v1 v0 : Vec Ideal S1x512x1 .f32) :
    ldS m ![1, 0, 0] inb_S2x512x1_S1x512x1_1_0_0 (m.view.writes (Elt Ideal) f [wrS ![1, 0, 0] inb_S2x512x1_S1x512x1_1_0_0 v1, wrS ![0, 0, 0] inb_S2x512x1_S1x512x1_0_0_0 v0]) = v1 := by
  funext y
  exact View.read_writes_cons_unit_of_mem m.view f inb_S2x512x1_S1x512x1_1_0_0 v1 _ _ y rfl fun a => by
      exact congrArg (_ + ·) (Nat.one_mul _)

theorem ldA_zero (f : BufTy.Contents (Elt Ideal) arg9.view.ty) (v1 v0 : Vec Ideal S1x512x128 .f32) :
    ldA arg9 ![0, 0, 0] inb_S2x512x128_S1x512x128_0_0_0 (arg9.view.writes (Elt Ideal) f [wrA ![1, 0, 0] inb_S2x512x128_S1x512x128_1_0_0 v1, wrA ![0, 0, 0] inb_S2x512x128_S1x512x128_0_0_0 v0]) = v0 := by
  funext y
  refine (View.read_writes_cons_unit_of_not_mem arg9.view f inb_S2x512x128_S1x512x128_1_0_0 v1 [wrA ![0, 0, 0] inb_S2x512x128_S1x512x128_0_0_0 v0]
    ((Rect.unit (s := S2x512x128) ![0, 0, 0] S1x512x128.size inb_S2x512x128_S1x512x128_0_0_0).emb y) rfl 0 (Or.inl ?_)).trans ?_
  · show 0 + 1 * (y 0).val < 1
    have : (y 0).val < 1 := (y 0).isLt
    omega
  · exact View.read_writes_cons_unit_of_mem arg9.view f inb_S2x512x128_S1x512x128_0_0_0 v0 [] _ y rfl fun a => by
      exact congrArg (_ + ·) (Nat.one_mul _)

theorem ldA_one (f : BufTy.Contents (Elt Ideal) arg9.view.ty) (v1 v0 : Vec Ideal S1x512x128 .f32) :
    ldA arg9 ![1, 0, 0] inb_S2x512x128_S1x512x128_1_0_0 (arg9.view.writes (Elt Ideal) f [wrA ![1, 0, 0] inb_S2x512x128_S1x512x128_1_0_0 v1, wrA ![0, 0, 0] inb_S2x512x128_S1x512x128_0_0_0 v0]) = v1 := by
  funext y
  exact View.read_writes_cons_unit_of_mem arg9.view f inb_S2x512x128_S1x512x128_1_0_0 v1 _ _ y rfl fun a => by
      exact congrArg (_ + ·) (Nat.one_mul _)

/-- The running maximum after `n` trips, as it stands. -/
def C7 (n : ℕ) : BufTy.Contents (Elt Ideal) arg7.view.ty :=
  arg7.view.writes (Elt Ideal) arg7.view.junk ((loopW c i arg3 harg3 arg4 harg4 arg5 harg5 arg6 harg6 arg7 harg7 arg8 harg8 arg9 harg9 x0 x1 x2 n).1 ++ dg7 i arg3 harg3 arg4 harg4 x0 x1)
/-- The running sum after `n` trips. -/
def C8 (n : ℕ) : BufTy.Contents (Elt Ideal) arg8.view.ty :=
  arg8.view.writes (Elt Ideal) arg8.view.junk ((loopW c i arg3 harg3 arg4 harg4 arg5 harg5 arg6 harg6 arg7 harg7 arg8 harg8 arg9 harg9 x0 x1 x2 n).2.1 ++ dg8 i arg3 harg3 arg4 harg4 x0 x1)
/-- The running numerator after `n` trips. -/
def C9 (n : ℕ) : BufTy.Contents (Elt Ideal) arg9.view.ty :=
  arg9.view.writes (Elt Ideal) arg9.view.junk ((loopW c i arg3 harg3 arg4 harg4 arg5 harg5 arg6 harg6 arg7 harg7 arg8 harg8 arg9 harg9 x0 x1 x2 n).2.2 ++ dg9 i arg3 harg3 arg4 harg4 arg5 harg5 x0 x1 x2)

theorem C7_eq (n : ℕ) : C7 c i arg3 harg3 arg4 harg4 arg5 harg5 arg6 harg6 arg7 harg7 arg8 harg8 arg9 harg9 x0 x1 x2 n =
    arg7.view.writes (Elt Ideal) (arg7.view.writes (Elt Ideal) arg7.view.junk (dg7 i arg3 harg3 arg4 harg4 x0 x1)) (loopW c i arg3 harg3 arg4 harg4 arg5 harg5 arg6 harg6 arg7 harg7 arg8 harg8 arg9 harg9 x0 x1 x2 n).1 :=
  View.writes_append _ _ _ _
theorem C7_zero : C7 c i arg3 harg3 arg4 harg4 arg5 harg5 arg6 harg6 arg7 harg7 arg8 harg8 arg9 harg9 x0 x1 x2 0 = arg7.view.writes (Elt Ideal) arg7.view.junk (dg7 i arg3 harg3 arg4 harg4 x0 x1) := rfl
theorem C8_eq (n : ℕ) : C8 c i arg3 harg3 arg4 harg4 arg5 harg5 arg6 harg6 arg7 harg7 arg8 harg8 arg9 harg9 x0 x1 x2 n =
    arg8.view.writes (Elt Ideal) (arg8.view.writes (Elt Ideal) arg8.view.junk (dg8 i arg3 harg3 arg4 harg4 x0 x1)) (loopW c i arg3 harg3 arg4 harg4 arg5 harg5 arg6 harg6 arg7 harg7 arg8 harg8 arg9 harg9 x0 x1 x2 n).2.1 :=
  View.writes_append _ _ _ _
theorem C8_zero : C8 c i arg3 harg3 arg4 harg4 arg5 harg5 arg6 harg6 arg7 harg7 arg8 harg8 arg9 harg9 x0 x1 x2 0 = arg8.view.writes (Elt Ideal) arg8.view.junk (dg8 i arg3 harg3 arg4 harg4 x0 x1) := rfl
theorem C9_eq (n : ℕ) : C9 c i arg3 harg3 arg4 harg4 arg5 harg5 arg6 harg6 arg7 harg7 arg8 harg8 arg9 harg9 x0 x1 x2 n =
    arg9.view.writes (Elt Ideal) (arg9.view.writes (Elt Ideal) arg9.view.junk (dg9 i arg3 harg3 arg4 harg4 arg5 harg5 x0 x1 x2)) (loopW c i arg3 harg3 arg4 harg4 arg5 harg5 arg6 harg6 arg7 harg7 arg8 harg8 arg9 harg9 x0 x1 x2 n).2.2 :=
  View.writes_append _ _ _ _
theorem C9_zero : C9 c i arg3 harg3 arg4 harg4 arg5 harg5 arg6 harg6 arg7 harg7 arg8 harg8 arg9 harg9 x0 x1 x2 0 = arg9.view.writes (Elt Ideal) arg9.view.junk (dg9 i arg3 harg3 arg4 harg4 arg5 harg5 x0 x1 x2) := rfl

theorem C7_succ (k : Fin (k0_t1_loop i).trips) :
    C7 c i arg3 harg3 arg4 harg4 arg5 harg5 arg6 harg6 arg7 harg7 arg8 harg8 arg9 harg9 x0 x1 x2 (k.val + 1) = arg7.view.writes (Elt Ideal) (C7 c i arg3 harg3 arg4 harg4 arg5 harg5 arg6 harg6 arg7 harg7 arg8 harg8 arg9 harg9 x0 x1 x2 k.val)
      [wrS ![1, 0, 0] inb_S2x512x1_S1x512x1_1_0_0 (k0_pay14 (k0_pay8 (q1 arg3 harg3 x0) (ldK arg4 (k0_off6 i k) (k0_off6_inb i k) (harg4.unread x1)) (ldS arg7 ![1, 0, 0] inb_S2x512x1_S1x512x1_1_0_0 (C7 c i arg3 harg3 arg4 harg4 arg5 harg5 arg6 harg6 arg7 harg7 arg8 harg8 arg9 harg9 x0 x1 x2 k.val)))),
       wrS ![0, 0, 0] inb_S2x512x1_S1x512x1_0_0_0 (k0_pay14 (k0_pay8 (q0 arg3 harg3 x0) (ldK arg4 (k0_off4 i k) (k0_off4_inb i k) (harg4.unread x1)) (ldS arg7 ![0, 0, 0] inb_S2x512x1_S1x512x1_0_0_0 (C7 c i arg3 harg3 arg4 harg4 arg5 harg5 arg6 harg6 arg7 harg7 arg8 harg8 arg9 harg9 x0 x1 x2 k.val))))] := by
  simp only [C7_eq, C8_eq, C9_eq]
  unfold loopW
  rw [pb_k0_t1_succ, trip_eq, View.writes_append]

theorem C8_succ (k : Fin (k0_t1_loop i).trips) :
    C8 c i arg3 harg3 arg4 harg4 arg5 harg5 arg6 harg6 arg7 harg7 arg8 harg8 arg9 harg9 x0 x1 x2 (k.val + 1) = arg8.view.writes (Elt Ideal) (C8 c i arg3 harg3 arg4 harg4 arg5 harg5 arg6 harg6 arg7 harg7 arg8 harg8 arg9 harg9 x0 x1 x2 k.val)
      [wrS ![1, 0, 0] inb_S2x512x1_S1x512x1_1_0_0 (k0_pay11 (q1 arg3 harg3 x0) (ldK arg4 (k0_off6 i k) (k0_off6_inb i k) (harg4.unread x1)) (ldS arg7 ![1, 0, 0] inb_S2x512x1_S1x512x1_1_0_0 (C7 c i arg3 harg3 arg4 harg4 arg5 harg5 arg6 harg6 arg7 harg7 arg8 harg8 arg9 harg9 x0 x1 x2 k.val)) (ldS arg8 ![1, 0, 0] inb_S2x512x1_S1x512x1_1_0_0 (C8 c i arg3 harg3 arg4 harg4 arg5 harg5 arg6 harg6 arg7 harg7 arg8 harg8 arg9 harg9 x0 x1 x2 k.val))),
       wrS ![0, 0, 0] inb_S2x512x1_S1x512x1_0_0_0 (k0_pay11 (q0 arg3 harg3 x0) (ldK arg4 (k0_off4 i k) (k0_off4_inb i k) (harg4.unread x1)) (ldS arg7 ![0, 0, 0] inb_S2x512x1_S1x512x1_0_0_0 (C7 c i arg3 harg3 arg4 harg4 arg5 harg5 arg6 harg6 arg7 harg7 arg8 harg8 arg9 harg9 x0 x1 x2 k.val)) (ldS arg8 ![0, 0, 0] inb_S2x512x1_S1x512x1_0_0_0 (C8 c i arg3 harg3 arg4 harg4 arg5 harg5 arg6 harg6 arg7 harg7 arg8 harg8 arg9 harg9 x0 x1 x2 k.val)))] := by
  simp only [C7_eq, C8_eq, C9_eq]
  unfold loopW
  rw [pb_k0_t1_succ, trip_eq, View.writes_append]

theorem C9_succ (k : Fin (k0_t1_loop i).trips) :
    C9 c i arg3 harg3 arg4 harg4 arg5 harg5 arg6 harg6 arg7 harg7 arg8 harg8 arg9 harg9 x0 x1 x2 (k.val + 1) = arg9.view.writes (Elt Ideal) (C9 c i arg3 harg3 arg4 harg4 arg5 harg5 arg6 harg6 arg7 harg7 arg8 harg8 arg9 harg9 x0 x1 x2 k.val)
      [wrA ![1, 0, 0] inb_S2x512x128_S1x512x128_1_0_0 (k0_pay13 (k0_pay12 (q1 arg3 harg3 x0) (ldK arg4 (k0_off6 i k) (k0_off6_inb i k) (harg4.unread x1)) (ldV arg5 (k0_off5 i k) (k0_off5_inb i k) (harg5.unread x2)) (ldS arg7 ![1, 0, 0] inb_S2x512x1_S1x512x1_1_0_0 (C7 c i arg3 harg3 arg4 harg4 arg5 harg5 arg6 harg6 arg7 harg7 arg8 harg8 arg9 harg9 x0 x1 x2 k.val)) (ldA arg9 ![1, 0, 0] inb_S2x512x128_S1x512x128_1_0_0 (C9 c i arg3 harg3 arg4 harg4 arg5 harg5 arg6 harg6 arg7 harg7 arg8 harg8 arg9 harg9 x0 x1 x2 k.val)))),
       wrA ![0, 0, 0] inb_S2x512x128_S1x512x128_0_0_0 (k0_pay13 (k0_pay12 (q0 arg3 harg3 x0) (ldK arg4 (k0_off4 i k) (k0_off4_inb i k) (harg4.unread x1)) (ldV arg5 (k0_off5 i k) (k0_off5_inb i k) (harg5.unread x2)) (ldS arg7 ![0, 0, 0] inb_S2x512x1_S1x512x1_0_0_0 (C7 c i arg3 harg3 arg4 harg4 arg5 harg5 arg6 harg6 arg7 harg7 arg8 harg8 arg9 harg9 x0 x1 x2 k.val)) (ldA arg9 ![0, 0, 0] inb_S2x512x128_S1x512x128_0_0_0 (C9 c i arg3 harg3 arg4 harg4 arg5 harg5 arg6 harg6 arg7 harg7 arg8 harg8 arg9 harg9 x0 x1 x2 k.val))))] := by
  simp only [C7_eq, C8_eq, C9_eq]
  unfold loopW
  rw [pb_k0_t1_succ, trip_eq, View.writes_append]

/-- A load of a block reads the array at the block's offset. -/
theorem ldQ_read (off : Fin 3 → ℕ) (h : ∀ a, off a + S1x512x128.size a ≤ S1x512x256.size a) (a b : ℕ) (ho : off = ![0, a, b])
    (o : Fin 512) (d : Fin 128) (ha : a + 512 ≤ 512) (hb : b + 128 ≤ 256) :
    ldQ arg3 off h (harg3.unread x0) (ix3 0 o d) = x0 (ix3 0 (⟨a + o.val, by omega⟩ : Fin 512) (⟨b + d.val, by omega⟩ : Fin 256)) := by
  subst ho
  refine (congrFun (harg3.read_unread x0) _).trans (congrArg x0 (funext fun z => Fin.ext ?_))
  fin_cases z
  · rfl
  · show a + 1 * o.val = a + o.val
    rw [Nat.one_mul]
  · show b + 1 * d.val = b + d.val
    rw [Nat.one_mul]

/-- A load of a block reads the array at the block's offset. -/
theorem ldK_read (off : Fin 3 → ℕ) (h : ∀ a, off a + S1x512x128.size a ≤ S1x8192x256.size a) (a b : ℕ) (ho : off = ![0, a, b])
    (o : Fin 512) (d : Fin 128) (ha : a + 512 ≤ 8192) (hb : b + 128 ≤ 256) :
    ldK arg4 off h (harg4.unread x1) (ix3 0 o d) = x1 (ix3 0 (⟨a + o.val, by omega⟩ : Fin 8192) (⟨b + d.val, by omega⟩ : Fin 256)) := by
  subst ho
  refine (congrFun (harg4.read_unread x1) _).trans (congrArg x1 (funext fun z => Fin.ext ?_))
  fin_cases z
  · rfl
  · show a + 1 * o.val = a + o.val
    rw [Nat.one_mul]
  · show b + 1 * d.val = b + d.val
    rw [Nat.one_mul]

/-- A load of a block reads the array at the block's offset. -/
theorem ldV_read (off : Fin 3 → ℕ) (h : ∀ a, off a + S1x512x128.size a ≤ S1x8192x128.size a) (a b : ℕ) (ho : off = ![0, a, b])
    (o : Fin 512) (d : Fin 128) (ha : a + 512 ≤ 8192) (hb : b + 128 ≤ 128) :
    ldV arg5 off h (harg5.unread x2) (ix3 0 o d) = x2 (ix3 0 (⟨a + o.val, by omega⟩ : Fin 8192) (⟨b + d.val, by omega⟩ : Fin 128)) := by
  subst ho
  refine (congrFun (harg5.read_unread x2) _).trans (congrArg x2 (funext fun z => Fin.ext ?_))
  fin_cases z
  · rfl
  · show a + 1 * o.val = a + o.val
    rw [Nat.one_mul]
  · show b + 1 * d.val = b + d.val
    rw [Nat.one_mul]

/-- The loop makes one trip for each block before the slab's. -/
theorem t1_trips : (k0_t1_loop i).trips = (i 2).val := by
  have h_c0 : Affine.IsInt 0#32 (0) := Affine.ofNat _ (by omega)
  have r_i2 : (i 2).val < 16 := (i 2).isLt
  have h_arg2 : Affine.IsInt (BitVec.ofNat 32 (i 2).val) (((i 2).val : Int)) := Affine.ofNat _ (by omega)
  have h_v63 : Affine.IsInt _ (((i 2).val : Int)) := Affine.subi h_arg2 h_c0 (by omega)
  have h_c1 : Affine.IsInt 1#32 (1) := Affine.ofNat _ (by omega)
  have h_v65 : Affine.IsInt _ (((i 2).val : Int)) := Affine.divsi h_v63 h_c1 (by omega)
  have h_v66 : Affine.IsInt _ (((i 2).val : Int)) := Affine.muli h_v65 h_c1 (by omega)
  have h_v67 : Affine.IsInt _ (((i 2).val : Int)) := Affine.addi h_c0 h_v66 (by omega)
  have h_c1' : Affine.IsInt 1#32 (1) := Affine.ofNat _ (by omega)
  exact Affine.trips_eq h_c0 h_v67 h_c1' _ (by omega)

theorem q0_read (r : Fin 512) (d : Fin 128) : q0 arg3 harg3 x0 (ix2 r d) = x0 (ix3 0 r (⟨128 * (0 : Fin 2).val + d.val, by simp; omega⟩ : Fin 256)) := by
  unfold q0
  pointwise [k0_pay40]
  refine (ldQ_read arg3 harg3 x0 ![0, 0, 0] _ 0 0 rfl r d (by omega) (by omega)).trans ?_
  congr 2 <;> simp
theorem q1_read (r : Fin 512) (d : Fin 128) : q1 arg3 harg3 x0 (ix2 r d) = x0 (ix3 0 r (⟨128 * (1 : Fin 2).val + d.val, by simp; omega⟩ : Fin 256)) := by
  unfold q1
  pointwise [k0_pay41]
  refine (ldQ_read arg3 harg3 x0 ![0, 0, 128] _ 0 128 rfl r d (by omega) (by omega)).trans ?_
  congr 2 <;> simp

/-- The running values of this head of the pair after every trip. -/
theorem holds_zero (h0 : ∀ y, ∃ a : ℝ, x0 y = a) (h1 : ∀ y, ∃ a : ℝ, x1 y = a) (r : Fin 512) (e : Fin 128) :
    Holds r (rowX 0 x0 x1 (i 2).val r) (rowW x2 e) (insert (i 2).val (Finset.range (i 2).val)) e
      (ldS arg7 ![0, 0, 0] inb_S2x512x1_S1x512x1_0_0_0 (C7 c i arg3 harg3 arg4 harg4 arg5 harg5 arg6 harg6 arg7 harg7 arg8 harg8 arg9 harg9 x0 x1 x2 (i 2).val)) (ldS arg8 ![0, 0, 0] inb_S2x512x1_S1x512x1_0_0_0 (C8 c i arg3 harg3 arg4 harg4 arg5 harg5 arg6 harg6 arg7 harg7 arg8 harg8 arg9 harg9 x0 x1 x2 (i 2).val))
      (ldA arg9 ![0, 0, 0] inb_S2x512x128_S1x512x128_0_0_0 (C9 c i arg3 harg3 arg4 harg4 arg5 harg5 arg6 harg6 arg7 harg7 arg8 harg8 arg9 harg9 x0 x1 x2 (i 2).val)) := by
  have hb : (i 2).val < 16 := (i 2).isLt
  obtain ⟨a, ha⟩ := score_real 0 x0 x1 h0 h1 (i 2).val r (i 2).val 0 hb (by simp)
  refine run r _ _ (i 2).val e (q0 arg3 harg3 x0) (fun n => ldS arg7 ![0, 0, 0] inb_S2x512x1_S1x512x1_0_0_0 (C7 c i arg3 harg3 arg4 harg4 arg5 harg5 arg6 harg6 arg7 harg7 arg8 harg8 arg9 harg9 x0 x1 x2 n))
    (fun n => ldS arg8 ![0, 0, 0] inb_S2x512x1_S1x512x1_0_0_0 (C8 c i arg3 harg3 arg4 harg4 arg5 harg5 arg6 harg6 arg7 harg7 arg8 harg8 arg9 harg9 x0 x1 x2 n)) (fun n => ldA arg9 ![0, 0, 0] inb_S2x512x128_S1x512x128_0_0_0 (C9 c i arg3 harg3 arg4 harg4 arg5 harg5 arg6 harg6 arg7 harg7 arg8 harg8 arg9 harg9 x0 x1 x2 n))
    (score_ne_top 0 x0 x1 h0 h1 (i 2).val r) 0 a ha
    ⟨ldK arg4 (k0_off1 i) (k0_off1_inb i) (harg4.unread x1), ldV arg5 (k0_off2 i) (k0_off2_inb i) (harg5.unread x2), ?_, ?_, ?_, ?_, ?_⟩ ?_ _ le_rfl
  · intro o
    unfold rowX
    rw [dif_pos hb]
    refine if_congr (by omega) (Finset.sum_congr rfl fun d _ => ?_) rfl
    rw [q0_read, ldK_read arg4 harg4 x1 (k0_off1 i) (k0_off1_inb i) (512 * (i 2).val) 0 (k0_off1_eq i) o d (by omega) (by omega)]
    congr 4
  · intro o
    unfold rowW
    rw [dif_pos hb, ldV_read arg5 harg5 x2 (k0_off2 i) (k0_off2_inb i) (512 * (i 2).val) 0 (k0_off2_eq i) o e (by omega) (by omega)]
    congr 2; simp
  · exact (congrArg _ (C7_zero c i arg3 harg3 arg4 harg4 arg5 harg5 arg6 harg6 arg7 harg7 arg8 harg8 arg9 harg9 x0 x1 x2)).trans (ldS_zero arg7 _ _ _)
  · exact (congrArg _ (C8_zero c i arg3 harg3 arg4 harg4 arg5 harg5 arg6 harg6 arg7 harg7 arg8 harg8 arg9 harg9 x0 x1 x2)).trans (ldS_zero arg8 _ _ _)
  · exact (congrArg _ (C9_zero c i arg3 harg3 arg4 harg4 arg5 harg5 arg6 harg6 arg7 harg7 arg8 harg8 arg9 harg9 x0 x1 x2)).trans (ldA_zero arg9 _ _ _)
  · intro n hn
    have ht : n < (k0_t1_loop i).trips := by rw [t1_trips]; exact hn
    refine ⟨ldK arg4 (k0_off4 i ⟨n, ht⟩) (k0_off4_inb i ⟨n, ht⟩) (harg4.unread x1), ldV arg5 (k0_off5 i ⟨n, ht⟩) (k0_off5_inb i ⟨n, ht⟩) (harg5.unread x2), ?_, ?_, ?_, ?_, ?_⟩
    · intro o
      unfold rowX
      rw [dif_pos (by omega : n < 16), if_pos (by omega)]
      refine Finset.sum_congr rfl fun d _ => ?_
      rw [q0_read, ldK_read arg4 harg4 x1 (k0_off4 i ⟨n, ht⟩) (k0_off4_inb i ⟨n, ht⟩) (512 * n) 0 (k0_off4_eq i ⟨n, ht⟩) o d (by omega) (by omega)]
      congr 4
    · intro o
      unfold rowW
      rw [dif_pos (by omega : n < 16), ldV_read arg5 harg5 x2 (k0_off5 i ⟨n, ht⟩) (k0_off5_inb i ⟨n, ht⟩) (512 * n) 0 (k0_off5_eq i ⟨n, ht⟩) o e (by omega) (by omega)]
      congr 2; simp
    · exact (congrArg _ (C7_succ c i arg3 harg3 arg4 harg4 arg5 harg5 arg6 harg6 arg7 harg7 arg8 harg8 arg9 harg9 x0 x1 x2 ⟨n, ht⟩)).trans (ldS_zero arg7 _ _ _)
    · exact (congrArg _ (C8_succ c i arg3 harg3 arg4 harg4 arg5 harg5 arg6 harg6 arg7 harg7 arg8 harg8 arg9 harg9 x0 x1 x2 ⟨n, ht⟩)).trans (ldS_zero arg8 _ _ _)
    · exact (congrArg _ (C9_succ c i arg3 harg3 arg4 harg4 arg5 harg5 arg6 harg6 arg7 harg7 arg8 harg8 arg9 harg9 x0 x1 x2 ⟨n, ht⟩)).trans (ldA_zero arg9 _ _ _)

/-- The running values of this head of the pair after every trip. -/
theorem holds_one (h0 : ∀ y, ∃ a : ℝ, x0 y = a) (h1 : ∀ y, ∃ a : ℝ, x1 y = a) (r : Fin 512) (e : Fin 128) :
    Holds r (rowX 1 x0 x1 (i 2).val r) (rowW x2 e) (insert (i 2).val (Finset.range (i 2).val)) e
      (ldS arg7 ![1, 0, 0] inb_S2x512x1_S1x512x1_1_0_0 (C7 c i arg3 harg3 arg4 harg4 arg5 harg5 arg6 harg6 arg7 harg7 arg8 harg8 arg9 harg9 x0 x1 x2 (i 2).val)) (ldS arg8 ![1, 0, 0] inb_S2x512x1_S1x512x1_1_0_0 (C8 c i arg3 harg3 arg4 harg4 arg5 harg5 arg6 harg6 arg7 harg7 arg8 harg8 arg9 harg9 x0 x1 x2 (i 2).val))
      (ldA arg9 ![1, 0, 0] inb_S2x512x128_S1x512x128_1_0_0 (C9 c i arg3 harg3 arg4 harg4 arg5 harg5 arg6 harg6 arg7 harg7 arg8 harg8 arg9 harg9 x0 x1 x2 (i 2).val)) := by
  have hb : (i 2).val < 16 := (i 2).isLt
  obtain ⟨a, ha⟩ := score_real 1 x0 x1 h0 h1 (i 2).val r (i 2).val 0 hb (by simp)
  refine run r _ _ (i 2).val e (q1 arg3 harg3 x0) (fun n => ldS arg7 ![1, 0, 0] inb_S2x512x1_S1x512x1_1_0_0 (C7 c i arg3 harg3 arg4 harg4 arg5 harg5 arg6 harg6 arg7 harg7 arg8 harg8 arg9 harg9 x0 x1 x2 n))
    (fun n => ldS arg8 ![1, 0, 0] inb_S2x512x1_S1x512x1_1_0_0 (C8 c i arg3 harg3 arg4 harg4 arg5 harg5 arg6 harg6 arg7 harg7 arg8 harg8 arg9 harg9 x0 x1 x2 n)) (fun n => ldA arg9 ![1, 0, 0] inb_S2x512x128_S1x512x128_1_0_0 (C9 c i arg3 harg3 arg4 harg4 arg5 harg5 arg6 harg6 arg7 harg7 arg8 harg8 arg9 harg9 x0 x1 x2 n))
    (score_ne_top 1 x0 x1 h0 h1 (i 2).val r) 0 a ha
    ⟨ldK arg4 (k0_off3 i) (k0_off3_inb i) (harg4.unread x1), ldV arg5 (k0_off2 i) (k0_off2_inb i) (harg5.unread x2), ?_, ?_, ?_, ?_, ?_⟩ ?_ _ le_rfl
  · intro o
    unfold rowX
    rw [dif_pos hb]
    refine if_congr (by omega) (Finset.sum_congr rfl fun d _ => ?_) rfl
    rw [q1_read, ldK_read arg4 harg4 x1 (k0_off3 i) (k0_off3_inb i) (512 * (i 2).val) 128 (k0_off3_eq i) o d (by omega) (by omega)]
    rfl
  · intro o
    unfold rowW
    rw [dif_pos hb, ldV_read arg5 harg5 x2 (k0_off2 i) (k0_off2_inb i) (512 * (i 2).val) 0 (k0_off2_eq i) o e (by omega) (by omega)]
    congr 2; simp
  · exact (congrArg _ (C7_zero c i arg3 harg3 arg4 harg4 arg5 harg5 arg6 harg6 arg7 harg7 arg8 harg8 arg9 harg9 x0 x1 x2)).trans (ldS_one arg7 _ _ _)
  · exact (congrArg _ (C8_zero c i arg3 harg3 arg4 harg4 arg5 harg5 arg6 harg6 arg7 harg7 arg8 harg8 arg9 harg9 x0 x1 x2)).trans (ldS_one arg8 _ _ _)
  · exact (congrArg _ (C9_zero c i arg3 harg3 arg4 harg4 arg5 harg5 arg6 harg6 arg7 harg7 arg8 harg8 arg9 harg9 x0 x1 x2)).trans (ldA_one arg9 _ _ _)
  · intro n hn
    have ht : n < (k0_t1_loop i).trips := by rw [t1_trips]; exact hn
    refine ⟨ldK arg4 (k0_off6 i ⟨n, ht⟩) (k0_off6_inb i ⟨n, ht⟩) (harg4.unread x1), ldV arg5 (k0_off5 i ⟨n, ht⟩) (k0_off5_inb i ⟨n, ht⟩) (harg5.unread x2), ?_, ?_, ?_, ?_, ?_⟩
    · intro o
      unfold rowX
      rw [dif_pos (by omega : n < 16), if_pos (by omega)]
      refine Finset.sum_congr rfl fun d _ => ?_
      rw [q1_read, ldK_read arg4 harg4 x1 (k0_off6 i ⟨n, ht⟩) (k0_off6_inb i ⟨n, ht⟩) (512 * n) 128 (k0_off6_eq i ⟨n, ht⟩) o d (by omega) (by omega)]
      rfl
    · intro o
      unfold rowW
      rw [dif_pos (by omega : n < 16), ldV_read arg5 harg5 x2 (k0_off5 i ⟨n, ht⟩) (k0_off5_inb i ⟨n, ht⟩) (512 * n) 0 (k0_off5_eq i ⟨n, ht⟩) o e (by omega) (by omega)]
      congr 2; simp
    · exact (congrArg _ (C7_succ c i arg3 harg3 arg4 harg4 arg5 harg5 arg6 harg6 arg7 harg7 arg8 harg8 arg9 harg9 x0 x1 x2 ⟨n, ht⟩)).trans (ldS_one arg7 _ _ _)
    · exact (congrArg _ (C8_succ c i arg3 harg3 arg4 harg4 arg5 harg5 arg6 harg6 arg7 harg7 arg8 harg8 arg9 harg9 x0 x1 x2 ⟨n, ht⟩)).trans (ldS_one arg8 _ _ _)
    · exact (congrArg _ (C9_succ c i arg3 harg3 arg4 harg4 arg5 harg5 arg6 harg6 arg7 harg7 arg8 harg8 arg9 harg9 x0 x1 x2 ⟨n, ht⟩)).trans (ldA_one arg9 _ _ _)

/-- The blocks met are, for the sums, all sixteen: the scores of the others are minus infinity. -/
theorem holds_all (s : Fin 2) (b : ℕ) (hb : b < 16) (r : Fin 512) :
    insert b (Finset.range b) ⊆ Finset.range 16 ∧
      ∀ j ∈ Finset.range 16, j ∉ insert b (Finset.range b) → ∀ o, rowX s x0 x1 b r j o = ⊥ := by
  refine ⟨fun j hj => ?_, fun j hj hn o => ?_⟩
  · simp only [Finset.mem_insert, Finset.mem_range] at hj ⊢
    omega
  · simp only [Finset.mem_insert, Finset.mem_range, not_or] at hj hn
    unfold rowX
    rw [dif_pos hj, if_neg (by omega)]

/-- The block the body leaves, element by element: the softmax-weighted mean of one value column over all key
blocks, the first head's in the first 64 columns and the second head's in the others. -/
theorem out_read (h0 : ∀ y, ∃ a : ℝ, x0 y = a) (h1 : ∀ y, ∃ a : ℝ, x1 y = a) (r : Fin 512) (e : Fin 128) :
    out0_A_3 c i arg3 harg3 arg4 harg4 arg5 harg5 arg6 harg6 arg7 harg7 arg8 harg8 arg9 harg9 x0 x1 x2 (ix3 0 r e) =
      Ideal.div (Running.num (rowX ⟨e.val / 64, by omega⟩ x0 x1 (i 2).val r) (rowW x2 e) (Finset.range 16))
        (Running.den (rowX ⟨e.val / 64, by omega⟩ x0 x1 (i 2).val r) (Finset.range 16)) := by
  have hb : (i 2).val < 16 := (i 2).isLt
  rw [out_eq, stored, t1_trips]
  by_cases h : e.val < 64
  · rw [if_pos h]
    have he : (⟨e.val / 64, by omega⟩ : Fin 2) = 0 := Fin.ext (by simp; omega)
    rw [he]
    obtain ⟨hs, hn⟩ := holds_all x0 x1 0 (i 2).val hb r
    rw [Running.num_subset _ _ hs hn, Running.den_subset _ hs hn]
    obtain ⟨-, g2, g3⟩ := holds_zero c i arg3 harg3 arg4 harg4 arg5 harg5 arg6 harg6 arg7 harg7 arg8 harg8 arg9 harg9 x0 x1 x2 h0 h1 r e
    rw [← g2, ← g3]; rfl
  · rw [if_neg h]
    have he : (⟨e.val / 64, by omega⟩ : Fin 2) = 1 := Fin.ext (by simp; omega)
    rw [he]
    obtain ⟨hs, hn⟩ := holds_all x0 x1 1 (i 2).val hb r
    rw [Running.num_subset _ _ hs hn, Running.den_subset _ hs hn]
    obtain ⟨-, g2, g3⟩ := holds_one c i arg3 harg3 arg4 harg4 arg5 harg5 arg6 harg6 arg7 harg7 arg8 harg8 arg9 harg9 x0 x1 x2 h0 h1 r e
    rw [← g2, ← g3]; rfl
end Cert.KernelIdeal.Mla
-- ==== Proof.Rows.lean ====
module
public import proofs.«01_k».proof.Proof.Softmax
@[expose] public section
noncomputable section
namespace Running
open Idealize.ShloMosaic

/-- The scores of position `p` of head `h` in batch `n`, by blocks of 512 key positions; those of later positions are
minus infinity. -/
def gX (Q K : Fin 4 → Fin 8192 → Fin 1024 → EReal) (n : Fin 4) (h : Fin 8) (p : Fin 8192) : ℕ → Fin 512 → EReal := fun j o =>
  if hj : j < 16 then
    if 512 * j + o.val ≤ p.val then
      ∑ d : Fin 128, Q n p ⟨128 * h.val + d.val, by omega⟩ * K n ⟨512 * j + o.val, by omega⟩ ⟨128 * h.val + d.val, by omega⟩
    else ⊥
  else ⊥

/-- Column `f` of the values of batch `n`, by blocks of 512 key positions. -/
def gW (V : Fin 4 → Fin 8192 → Fin 512 → EReal) (n : Fin 4) (f : Fin 512) : ℕ → Fin 512 → EReal := fun j o =>
  if hj : j < 16 then V n ⟨512 * j + o.val, by omega⟩ f else 0

/-- One element of the attention's result: the weighted mean of a value column. -/
def att (Q K : Fin 4 → Fin 8192 → Fin 1024 → EReal) (V : Fin 4 → Fin 8192 → Fin 512 → EReal)
    (n : Fin 4) (p : Fin 8192) (f : Fin 512) : EReal :=
  Ideal.div (num (gX Q K n ⟨f.val / 64, by omega⟩ p) (gW V n f) (Finset.range 16))
    (den (gX Q K n ⟨f.val / 64, by omega⟩ p) (Finset.range 16))

end Running
-- ==== Proof.Result.lean ====
module
public import proofs.«01_k».proof.Proof.Block
public import proofs.«01_k».proof.Proof.Rows
public import Idealize.ShloMosaic.Lib.Pipeline.Covers
@[expose] public section
set_option maxRecDepth 16384
noncomputable section
namespace Cert.KernelIdeal.Mla
open Cert.KernelIdeal Cert.KernelIdeal.Gen Idealize.ShloMosaic Idealize.ShloMosaic.TcCoe Idealize.SL.Sem

variable (m : (ℓ : Loc nD τ sig) → Buf (Elt Ideal) ℓ) (c : Dev nD)

/-- The queries, by batch, position and column. -/
def argQ (n : Fin 4) (p : Fin 8192) (f : Fin 1024) : EReal := (m ((c : Thread nD τ).loc main_arg0) : Vec Ideal S4x8192x1024 .bf16) (ix3 n p f)
/-- The keys, by batch, position and column. -/
def argK (n : Fin 4) (p : Fin 8192) (f : Fin 1024) : EReal := (m ((c : Thread nD τ).loc main_arg1) : Vec Ideal S4x8192x1024 .bf16) (ix3 n p f)
/-- The values, by batch, position and column. -/
def argV (n : Fin 4) (p : Fin 8192) (f : Fin 512) : EReal := (m ((c : Thread nD τ).loc main_arg2) : Vec Ideal S4x8192x512 .bf16) (ix3 n p f)

/-- The result array the kernel leaves. -/
def result : Vec Ideal S4x8192x512 .bf16 := fun y => Running.att (argQ m c) (argK m c) (argV m c) (y 0) (y 1) (y 2)

variable (t : Fin cfg0.N)

theorem co0 : ((grid0.coords t) 0).val < 4 := ((grid0.coords t) 0).isLt
theorem co1 : ((grid0.coords t) 1).val < 4 := ((grid0.coords t) 1).isLt
theorem co2 : ((grid0.coords t) 2).val < 16 := ((grid0.coords t) 2).isLt

theorem toNat_small (a : ℕ) (h : a < 16) : (BitVec.ofNat 32 a).toNat = a := WordCmp.toNat_ofNat_of_lt (by omega)

/-- A point's blocks of the three arguments. -/
abbrev b0 : Vec Ideal S1x512x256 .bf16 := iblk m c 0 t
abbrev b1 : Vec Ideal S1x8192x256 .bf16 := iblk m c 1 t
abbrev b2 : Vec Ideal S1x8192x128 .bf16 := iblk m c 2 t

/-- The query slab of a grid point. -/
theorem iblk0_read (r : Fin 512) (d : Fin 256) : b0 m c t (ix3 0 r d) =
    argQ m c ⟨_, co0 t⟩ ⟨512 * ((grid0.coords t) 2).val + r.val, by have := co2 t; omega⟩
      ⟨256 * ((grid0.coords t) 1).val + d.val, by have := co1 t; omega⟩ := by
  have h0 := co0 t; have h1 := co1 t; have h2 := co2 t
  unfold b0 iblk argQ
  rw [View.read_apply]
  refine congrArg (m ((c : Thread nD τ).loc main_arg0)) (funext fun a => Fin.ext ?_)
  fin_cases a
  · show (BitVec.ofNat 32 ((grid0.coords t) 0).val).toNat * 1 + 1 * 0 = ((grid0.coords t) 0).val
    rw [toNat_small _ (by omega)]; omega
  · show (BitVec.ofNat 32 ((grid0.coords t) 2).val).toNat * 512 + 1 * r.val = _ + r.val
    rw [toNat_small _ (by omega)]; omega
  · show (BitVec.ofNat 32 ((grid0.coords t) 1).val).toNat * 256 + 1 * d.val = _ + d.val
    rw [toNat_small _ (by omega)]; omega

/-- The keys of a grid point's batch and head pair. -/
theorem iblk1_read (r : Fin 8192) (d : Fin 256) : b1 m c t (ix3 0 r d) =
    argK m c ⟨_, co0 t⟩ r ⟨256 * ((grid0.coords t) 1).val + d.val, by have := co1 t; omega⟩ := by
  have h0 := co0 t; have h1 := co1 t
  unfold b1 iblk argK
  rw [View.read_apply]
  refine congrArg (m ((c : Thread nD τ).loc main_arg1)) (funext fun a => Fin.ext ?_)
  fin_cases a
  · show (BitVec.ofNat 32 ((grid0.coords t) 0).val).toNat * 1 + 1 * 0 = ((grid0.coords t) 0).val
    rw [toNat_small _ (by omega)]; omega
  · show 0 * 8192 + 1 * r.val = r.val
    omega
  · show (BitVec.ofNat 32 ((grid0.coords t) 1).val).toNat * 256 + 1 * d.val = _ + d.val
    rw [toNat_small _ (by omega)]; omega

/-- The values of a grid point's batch and head pair. -/
theorem iblk2_read (r : Fin 8192) (d : Fin 128) : b2 m c t (ix3 0 r d) =
    argV m c ⟨_, co0 t⟩ r ⟨128 * ((grid0.coords t) 1).val + d.val, by have := co1 t; omega⟩ := by
  have h0 := co0 t; have h1 := co1 t
  unfold b2 iblk argV
  rw [View.read_apply]
  refine congrArg (m ((c : Thread nD τ).loc main_arg2)) (funext fun a => Fin.ext ?_)
  fin_cases a
  · show (BitVec.ofNat 32 ((grid0.coords t) 0).val).toNat * 1 + 1 * 0 = ((grid0.coords t) 0).val
    rw [toNat_small _ (by omega)]; omega
  · show 0 * 8192 + 1 * r.val = r.val
    omega
  · show (BitVec.ofNat 32 ((grid0.coords t) 1).val).toNat * 128 + 1 * d.val = _ + d.val
    rw [toNat_small _ (by omega)]; omega

/-- A slab row's scores are those of its position and head. -/
theorem rowX_eq (s : Fin 2) (r : Fin 512) :
    rowX s (b0 m c t) (b1 m c t) ((grid0.coords t) 2).val r =
      Running.gX (argQ m c) (argK m c) ⟨_, co0 t⟩ ⟨2 * ((grid0.coords t) 1).val + s.val, by have := co1 t; omega⟩
        ⟨512 * ((grid0.coords t) 2).val + r.val, by have := co2 t; omega⟩ := by
  funext j o
  unfold rowX Running.gX
  refine dite_congr rfl (fun hj => if_congr Iff.rfl (Finset.sum_congr rfl fun d _ => ?_) rfl) fun _ => rfl
  refine congrArg₂ (· * ·) ((iblk0_read m c t r _).trans ?_) ((iblk1_read m c t _ _).trans ?_)
  · refine congrArg _ (Fin.ext ?_)
    show 256 * _ + (128 * s.val + d.val) = 128 * (2 * _ + s.val) + d.val
    omega
  · refine congrArg _ (Fin.ext ?_)
    show 256 * _ + (128 * s.val + d.val) = 128 * (2 * _ + s.val) + d.val
    omega

/-- A block's value column is the array's. -/
theorem rowW_eq (e : Fin 128) :
    rowW (b2 m c t) e = Running.gW (argV m c) ⟨_, co0 t⟩ ⟨128 * ((grid0.coords t) 1).val + e.val, by have := co1 t; omega⟩ := by
  funext j o
  unfold rowW Running.gW
  exact dite_congr rfl (fun hj => iblk2_read m c t _ e) fun _ => rfl

variable (hQ : ∀ n p f, ∃ a : ℝ, argQ m c n p f = a) (hK : ∀ n p f, ∃ a : ℝ, argK m c n p f = a)
include hQ hK

/-- What a grid point writes back is its block of the result. -/
theorem flushed_eq (hf : (cfg0.win 3).flush t = true) :
    (dats m 0 c).flushed 3 t = ((cfg0.win 3).blk t).view.read (Elt Ideal) (result m c) := by
  have h0 := co0 t; have h1 := co1 t; have h2 := co2 t
  have k0 : ∀ y, ∃ a : ℝ, b0 m c t y = a := fun y => by
    have hy : y = ix3 (0 : Fin 1) (y 1 : Fin 512) (y 2 : Fin 256) :=
      (eq_ix3 y).trans (congrArg (fun z : Fin 1 => ix3 z (y 1 : Fin 512) (y 2 : Fin 256)) (Subsingleton.elim _ _))
    rw [hy]
    exact (iblk0_read m c t _ _).symm ▸ hQ _ _ _
  have k1 : ∀ y, ∃ a : ℝ, b1 m c t y = a := fun y => by
    have hy : y = ix3 (0 : Fin 1) (y 1 : Fin 8192) (y 2 : Fin 256) :=
      (eq_ix3 y).trans (congrArg (fun z : Fin 1 => ix3 z (y 1 : Fin 8192) (y 2 : Fin 256)) (Subsingleton.elim _ _))
    rw [hy]
    exact (iblk1_read m c t _ _).symm ▸ hK _ _ _
  rw [Value.flushed3_A]
  refine funext fun (y : S1x512x128.Idx) => ?_
  obtain ⟨r, e, rfl⟩ : ∃ (r : Fin 512) (e : Fin 128), y = ix3 (0 : Fin 1) r e :=
    ⟨y 1, y 2, (eq_ix3 y).trans (congrArg (fun z : Fin 1 => ix3 z (y 1 : Fin 512) (y 2 : Fin 128)) (Subsingleton.elim _ _))⟩
  refine (out_read _ _ _ _ _ _ _ _ _ _ _ _ _ _ _ _ (b0 m c t) (b1 m c t) (b2 m c t) k0 k1 r e).trans ?_
  rw [rowX_eq, rowW_eq, View.read_apply]
  have e0 : (((cfg0.win 3).blk t).view.emb (ix3 0 r e) 0 : Fin 4) = ⟨_, co0 t⟩ := Fin.ext (by
    show (BitVec.ofNat 32 ((grid0.coords t) 0).val).toNat * 1 + 1 * 0 = ((grid0.coords t) 0).val
    rw [toNat_small _ (by omega)]; omega)
  have e1 : (((cfg0.win 3).blk t).view.emb (ix3 0 r e) 1 : Fin 8192) = (⟨512 * ((grid0.coords t) 2).val + r.val, by omega⟩ : Fin 8192) := Fin.ext (by
    show (BitVec.ofNat 32 ((grid0.coords t) 2).val).toNat * 512 + 1 * r.val = _ + r.val
    rw [toNat_small _ (by omega)]; omega)
  have e2 : (((cfg0.win 3).blk t).view.emb (ix3 0 r e) 2 : Fin 512) = (⟨128 * ((grid0.coords t) 1).val + e.val, by omega⟩ : Fin 512) := Fin.ext (by
    show (BitVec.ofNat 32 ((grid0.coords t) 1).val).toNat * 128 + 1 * e.val = _ + e.val
    rw [toNat_small _ (by omega)]; omega)
  show _ = Running.att _ _ _ (((cfg0.win 3).blk t).view.emb (ix3 0 r e) 0 : Fin 4) (((cfg0.win 3).blk t).view.emb (ix3 0 r e) 1 : Fin 8192) (((cfg0.win 3).blk t).view.emb (ix3 0 r e) 2 : Fin 512)
  rw [e0, e1, e2]
  unfold Running.att
  have hh : (⟨2 * ((grid0.coords t) 1).val + (⟨e.val / 64, by omega⟩ : Fin 2).val, by show _ + e.val / 64 < 8; omega⟩ : Fin 8) =
      ⟨(⟨128 * ((grid0.coords t) 1).val + e.val, by omega⟩ : Fin 512).val / 64, by show (_ + _) / 64 < 8; omega⟩ := Fin.ext (by
    show 2 * _ + e.val / 64 = (128 * _ + e.val) / 64
    omega)
  rw [hh]
  rfl

/-- The blocks cover the array, so it ends holding the result. -/
theorem final : (dats m 0 c).arrAt 3 cfg0.N = result m c := by
  refine (dats m 0 c).arrAt_eq_of_cover 3 (result m c) (fun t hf => flushed_eq m c t hQ hK hf) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 2).val / 128, by show _ < 4; omega⟩ | ⟨2, _⟩ => ⟨(y 1).val / 512, by show _ < 16; omega⟩)
  have t0 : ((grid0.coords t) 0).val = (y 0).val := by rw [ht]
  have t1 : ((grid0.coords t) 1).val = (y 2).val / 128 := by rw [ht]
  have t2 : ((grid0.coords t) 2).val = (y 1).val / 512 := by rw [ht]
  refine ⟨t, flush0_3 t, ?_⟩
  show y ∈ ((View.whole main_v0).slice (win0_3.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 2).val).toNat * 512 ≤ (y 1).val ∧ (y 1).val < (BitVec.ofNat 32 ((grid0.coords t) 2).val).toNat * 512 + 512
    rw [toNat_small _ (by omega)]; omega
  · show (BitVec.ofNat 32 ((grid0.coords t) 1).val).toNat * 128 ≤ (y 2).val ∧ (y 2).val < (BitVec.ofNat 32 ((grid0.coords t) 1).val).toNat * 128 + 128
    rw [toNat_small _ (by omega)]; omega

end Cert.KernelIdeal.Mla
-- ==== Proof.RefRead.lean ====
module
public import proofs.«01_k».proof.Proof.Rows
public import proofs.«01_k».proof.Proof.Gen.ReferenceIdeal.Read
public import Idealize.ShloMosaic.Lib.Pointwise
public import Idealize.ShloMosaic.Lib.WordCmp
@[expose] public section
set_option maxRecDepth 16384
noncomputable section

/-! The reference, read element by element: the scores of a row, their greatest, the weights, the result. -/

namespace Cert.ReferenceIdeal.Mla
open Idealize.ShloMosaic Idealize.SL.Sem Cert.ReferenceIdeal Cert.ReferenceIdeal.Read Cert.ReferenceIdeal.Gen

variable (x0 x1 : (⟨S4x8192x1024, .bf16⟩ : BufTy).Contents (Elt Ideal)) (x2 : (⟨S4x8192x512, .bf16⟩ : BufTy).Contents (Elt Ideal))

/-- The score of key `k` for position `p` of head `h` in batch `n`, before it is turned to the natural base; a later
key's is minus infinity. -/
def flat (n : Fin 4) (h : Fin 8) (p k : Fin 8192) : EReal :=
  if k.val ≤ p.val then
    ∑ d : Fin 128, (x0 (ix3 n p ⟨128 * h.val + d.val, by omega⟩) : EReal) * x1 (ix3 n k ⟨128 * h.val + d.val, by omega⟩)
  else ⊥

theorem two_bits : (FloatOps.ofBits .f32 0x40000000#32 : Ideal .f32) = ((2 : ℝ) : EReal) := by
  show Ideal.ofBits .f32 _ = _
  simp [Ideal.ofBits, Ideal.ieee, -EReal.coe_mul]; norm_num

theorem negInf_bits : (FloatOps.ofBits .f32 0xFF800000#32 : Ideal .f32) = (⊥ : EReal) := by
  show Ideal.ofBits .f32 _ = _
  simp [Ideal.ofBits, Ideal.ieee]

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

/-- The query read at a head's position is the argument's element. -/
theorem q_read (n : Fin 4) (p : Fin 8192) (h : Fin 8) (d : Fin 128) :
    val_main_v0 (F := Ideal) x0 (ix4 n p h d) = x0 (ix3 n p ⟨128 * h.val + d.val, by omega⟩) := by
  rw [val_main_v0_apply]
  refine congrArg x0 ((eq_ix3 _).trans ?_)
  congr 1 <;> apply Fin.ext <;> simp [idx_main_v0, ix4] <;> omega

theorem k_read (n : Fin 4) (p : Fin 8192) (h : Fin 8) (d : Fin 128) :
    val_main_v1 (F := Ideal) x1 (ix4 n p h d) = x1 (ix3 n p ⟨128 * h.val + d.val, by omega⟩) := by
  rw [val_main_v1_apply]
  refine congrArg x1 ((eq_ix3 _).trans ?_)
  congr 1 <;> apply Fin.ext <;> simp [idx_main_v1, ix4] <;> omega

theorem v_read (n : Fin 4) (p : Fin 8192) (h : Fin 8) (d : Fin 64) :
    val_main_v2 (F := Ideal) x2 (ix4 n p h d) = x2 (ix3 n p ⟨64 * h.val + d.val, by omega⟩) := by
  rw [val_main_v2_apply]
  refine congrArg x2 ((eq_ix3 _).trans ?_)
  congr 1 <;> apply Fin.ext <;> simp [idx_main_v2, ix4] <;> omega

/-- A masked score is the plain one times ln 2. -/
theorem score_read (n : Fin 4) (h : Fin 8) (p k : Fin 8192) :
    (val_main_v13 (F := Ideal) x0 x1 (ix4 n h p k) : EReal) = flat x0 x1 n h p k * ((Real.log 2 : ℝ) : EReal) := by
  have hdot : (val_main_v4 (F := Ideal) x0 x1 (ix4 n h p k) : EReal)
      = ∑ d : Fin 128, (x0 (ix3 n p ⟨128 * h.val + d.val, by omega⟩) : EReal) * x1 (ix3 n k ⟨128 * h.val + d.val, by omega⟩) := by
    rw [val_main_v4_apply]
    refine Finset.sum_congr rfl fun d _ => ?_
    rw [show lidx_main_v4 (ix4 n h p k) d = ix4 n p h d from eq_ix4 _, show ridx_main_v4 (ix4 n h p k) d = ix4 n k h d from eq_ix4 _,
      q_read, k_read]
  have hs : (val_main_v7 (F := Ideal) x0 x1 (ix4 n h p k) : EReal)
      = (∑ d : Fin 128, (x0 (ix3 n p ⟨128 * h.val + d.val, by omega⟩) : EReal) * x1 (ix3 n k ⟨128 * h.val + d.val, by omega⟩))
        * ((Real.log 2 : ℝ) : EReal) := by
    rw [← hdot, ← log_two, ← two_bits]
    rfl
  have hc : val_main_call0_v1 (F := Ideal) (ix4 n h p k) = BitVec.ofBool (decide (k.val ≤ p.val)) := by
    rw [val_main_call0_v1_apply, val_main_v12_apply, val_main_v10_apply, val_main_v8_apply, val_main_v11_apply,
      val_main_v9_apply]
    exact WordCmp.cmpi_sge_ofNat (w := 32) (lt_of_lt_of_le p.isLt (by norm_num)) (lt_of_lt_of_le k.isLt (by norm_num))
  have hb : (val_main_call0_v2 (F := Ideal) (ix4 n h p k) : EReal) = ⊥ := by
    rw [val_main_call0_v2_apply]; exact negInf_bits
  have hl : (0 : ℝ) < Real.log 2 := Real.log_pos one_lt_two
  rw [val_main_v13_apply, hc]
  unfold flat
  by_cases hk : k.val ≤ p.val
  · rw [if_pos hk, decide_eq_true hk]; exact hs
  · rw [if_neg hk, decide_eq_false hk, EReal.bot_mul_coe_of_pos hl]; exact hb

/-- The greatest score of a row, before it is turned to the natural base. -/
def rowTop (n : Fin 4) (h : Fin 8) (p : Fin 8192) : EReal := Finset.univ.sup (flat x0 x1 n h p)

/-- The greatest score of a row is the plain one times ln 2. -/
theorem top_read (n : Fin 4) (h : Fin 8) (p : Fin 8192) :
    (val_main_v16 (F := Ideal) x0 x1 (ix3 n h p) : EReal) = rowTop x0 x1 n h p * ((Real.log 2 : ℝ) : EReal) := by
  have hl : (0 : ℝ) < Real.log 2 := Real.log_pos one_lt_two
  have h15 : (val_main_v15 (F := Ideal) (ix3 n h p) : EReal) = ⊥ := by
    rw [val_main_v15_apply]; exact negInf_bits
  have h14 : (val_main_v14 (F := Ideal) x0 x1 (ix3 n h p) : EReal)
      = Finset.univ.sup fun k : Fin 8192 => (val_main_v13 (F := Ideal) x0 x1 (ix4 n h p k) : EReal) := by
    have hr : S4x8x8192x8192.Reduces [3] S4x8x8192 := by decide
    unfold val_main_v14
    rw [Host.reduce_eq_fold_single _ _ _ _ hr]
    rw [show (val_main_cst_1 (F := Ideal) (Shape.Idx.first h_S_) : EReal) = ⊥ from negInf_bits]
    refine Finset.sup_congr rfl fun (k : Fin 8192) _ => ?_
    exact congrArg (val_main_v13 (F := Ideal) x0 x1) (eq_ix4 (hr.lift (ix3 n h p) k))
  rw [val_main_v16_apply]
  show max (val_main_v15 (F := Ideal) (ix3 n h p) : EReal) (val_main_v14 (F := Ideal) x0 x1 (ix3 n h p)) = _
  rw [h15, h14, max_eq_right bot_le]
  simp only [score_read]
  exact Running.sup_scaled _ _ _ hl

/-- What a key contributes to its row's sum. -/
def part (n : Fin 4) (h : Fin 8) (p k : Fin 8192) : EReal :=
  Ideal.exp (flat x0 x1 n h p k * ((Real.log 2 : ℝ) : EReal) - rowTop x0 x1 n h p * ((Real.log 2 : ℝ) : EReal))

theorem exp_read (n : Fin 4) (h : Fin 8) (p k : Fin 8192) :
    (val_main_v20 (F := Ideal) x0 x1 (ix4 n h p k) : EReal) = part x0 x1 n h p k := by
  have h18 : (val_main_v18 (F := Ideal) x0 x1 (ix4 n h p k) : EReal) = rowTop x0 x1 n h p * ((Real.log 2 : ℝ) : EReal) := by
    rw [val_main_v18_apply, val_main_v17_apply, ← top_read]
    exact congrArg (val_main_v16 (F := Ideal) x0 x1) (eq_ix3 _)
  unfold part
  rw [← h18, ← score_read]
  rfl

/-- The weight of a key. -/
theorem weight_read (n : Fin 4) (h : Fin 8) (p k : Fin 8192) :
    (val_main_v25 (F := Ideal) x0 x1 (ix4 n h p k) : EReal)
      = Ideal.div (part x0 x1 n h p k) (∑ k, part x0 x1 n h p k) := by
  have h23 : (val_main_v23 (F := Ideal) x0 x1 (ix4 n h p k) : EReal) = ∑ k, part x0 x1 n h p k := by
    rw [val_main_v23_apply, val_main_v22_apply, val_main_v21_apply,
      show (val_main_cst_3 (F := Ideal) (Shape.Idx.first h_S_) : EReal) = 0 from Ideal.ofBits_zero .f32, zero_add]
    refine Finset.sum_congr rfl fun k _ => ?_
    rw [← exp_read]
    exact congrArg (val_main_v20 (F := Ideal) x0 x1) (eq_ix4 _)
  rw [← h23, ← exp_read]
  rfl

/-- An element of the reference's result: the weighted sum of a value column over all keys. -/
theorem result_read (n : Fin 4) (p : Fin 8192) (f : Fin 512) :
    (val_main_v29 (F := Ideal) x0 x1 x2 (ix3 n p f) : EReal)
      = ∑ k : Fin 8192, (x2 (ix3 n k f) : EReal)
          * Ideal.div (part x0 x1 n ⟨f.val / 64, by omega⟩ p k) (∑ k, part x0 x1 n ⟨f.val / 64, by omega⟩ p k) := by
  have h28 : idx_main_v27 (idx_main_v28 (ix3 n p f)) = ix4 n (⟨f.val / 64, by omega⟩ : Fin 8) (⟨f.val % 64, by omega⟩ : Fin 64) p := by
    refine (eq_ix4 _).trans ?_
    congr 1 <;> apply Fin.ext <;> simp [idx_main_v27, idx_main_v28, ix3] <;> omega
  show (val_main_v28 (F := Ideal) x0 x1 x2 (ix3 n p f) : EReal) = _
  rw [val_main_v28_apply, val_main_v27_apply, h28, val_main_v26_apply]
  refine Finset.sum_congr rfl fun k _ => ?_
  rw [← weight_read]
  refine congrArg₂ (· * ·) ?_ (congrArg (val_main_v25 (F := Ideal) x0 x1) (eq_ix4 _))
  rw [show lidx_main_v26 (ix4 n (⟨f.val / 64, by omega⟩ : Fin 8) (⟨f.val % 64, by omega⟩ : Fin 64) p) k
    = ix4 n k (⟨f.val / 64, by omega⟩ : Fin 8) (⟨f.val % 64, by omega⟩ : Fin 64) from eq_ix4 _, v_read]
  refine congrArg (fun z => (x2 (ix3 n k z) : EReal)) (Fin.ext ?_)
  show 64 * (f.val / 64) + f.val % 64 = f.val
  omega

end Cert.ReferenceIdeal.Mla
-- ==== Proof.Same.lean ====
module
public import proofs.«01_k».proof.Proof.RefRead
public import proofs.«01_k».proof.Proof.Block
@[expose] public section
set_option maxRecDepth 16384
noncomputable section

/-! The reference's rows are the kernel's: its 8192 keys, taken 512 at a time, give the attention's element. -/

namespace Cert.ReferenceIdeal.Mla
open Idealize.ShloMosaic Running

/-- A sum over all keys, 512 at a time. -/
theorem sum_keys (f : Fin 8192 → EReal) (g : ℕ → Fin 512 → EReal)
    (h : ∀ j (hj : j < 16) (o : Fin 512), g j o = f ⟨512 * j + o.val, by omega⟩) :
    ∑ k, f k = ∑ j ∈ Finset.range 16, ∑ o, g j o := by
  have hb := sum_blocks (n := 512) 16 fun k => if hk : k < 8192 then f ⟨k, hk⟩ else 0
  refine (Finset.sum_congr rfl fun (k : Fin 8192) _ => (dif_pos k.isLt).symm).trans (hb.trans ?_)
  refine Finset.sum_congr rfl fun j hj => Finset.sum_congr rfl fun o _ => ?_
  have hj := Finset.mem_range.1 hj
  rw [h j hj o, dif_pos (show 512 * j + o.val < 8192 by omega)]

/-- The greatest over all keys, 512 at a time. -/
theorem sup_keys (f : Fin 8192 → EReal) (g : ℕ → Fin 512 → EReal)
    (h : ∀ j (hj : j < 16) (o : Fin 512), g j o = f ⟨512 * j + o.val, by omega⟩) :
    Finset.univ.sup f = top g (Finset.range 16) := by
  have hb := sup_blocks (n := 512) 16 fun k => if hk : k < 8192 then f ⟨k, hk⟩ else ⊥
  refine (Finset.sup_congr rfl fun (k : Fin 8192) _ => (dif_pos k.isLt).symm).trans (hb.trans ?_)
  refine Finset.sup_congr rfl fun j hj => Finset.sup_congr rfl fun o _ => ?_
  have hj := Finset.mem_range.1 hj
  rw [h j hj o, dif_pos (show 512 * j + o.val < 8192 by omega)]

variable (x0 x1 : (⟨S4x8192x1024, .bf16⟩ : BufTy).Contents (Elt Ideal)) (x2 : (⟨S4x8192x512, .bf16⟩ : BufTy).Contents (Elt Ideal))

/-- A score is a real number when the queries and keys are, unless it is masked. -/
theorem flat_real (h0 : ∀ i, ∃ a : ℝ, (x0 i : EReal) = a) (h1 : ∀ i, ∃ a : ℝ, (x1 i : EReal) = a)
    (n : Fin 4) (h : Fin 8) (p k : Fin 8192) (hk : k.val ≤ p.val) : ∃ a : ℝ, flat x0 x1 n h p k = a := by
  unfold flat
  rw [if_pos hk]
  refine Cert.KernelIdeal.Mla.real_sum _ _ fun d => ?_
  obtain ⟨a, ha⟩ := h0 (ix3 n p ⟨128 * h.val + d.val, by omega⟩)
  obtain ⟨b, hb⟩ := h1 (ix3 n k ⟨128 * h.val + d.val, by omega⟩)
  exact ⟨a * b, by rw [ha, hb, EReal.coe_mul]⟩

theorem flat_ne_top (h0 : ∀ i, ∃ a : ℝ, (x0 i : EReal) = a) (h1 : ∀ i, ∃ a : ℝ, (x1 i : EReal) = a)
    (n : Fin 4) (h : Fin 8) (p k : Fin 8192) : flat x0 x1 n h p k ≠ ⊤ := by
  by_cases hk : k.val ≤ p.val
  · obtain ⟨a, ha⟩ := flat_real x0 x1 h0 h1 n h p k hk
    rw [ha]; exact EReal.coe_ne_top a
  · unfold flat; rw [if_neg hk]; exact bot_ne_top

/-- Each element of the reference's result is the attention's, when the queries and keys are real numbers. -/
theorem same (h0 : ∀ i, ∃ a : ℝ, (x0 i : EReal) = a) (h1 : ∀ i, ∃ a : ℝ, (x1 i : EReal) = a)
    (n : Fin 4) (p : Fin 8192) (f : Fin 512) :
    (Read.val_main_v29 (F := Ideal) x0 x1 x2 (ix3 n p f) : EReal)
      = att (fun n p c => x0 (ix3 n p c)) (fun n p c => x1 (ix3 n p c)) (fun n p c => x2 (ix3 n p c)) n p f := by
  rw [result_read]
  unfold att
  generalize (⟨f.val / 64, by omega⟩ : Fin 8) = h
  have hg : ∀ j (hj : j < 16) (o : Fin 512), gX (fun n p c => x0 (ix3 n p c)) (fun n p c => x1 (ix3 n p c)) n h p j o
      = flat x0 x1 n h p ⟨512 * j + o.val, by omega⟩ := fun j hj o => by unfold gX; rw [dif_pos hj]; rfl
  have hw : ∀ j (hj : j < 16) (o : Fin 512), gW (fun n p c => x2 (ix3 n p c)) n f j o
      = (x2 (ix3 n ⟨512 * j + o.val, by omega⟩ f) : EReal) := fun j hj o => by unfold gW; rw [dif_pos hj]
  have hx : ∀ j o, gX (fun n p c => x0 (ix3 n p c)) (fun n p c => x1 (ix3 n p c)) n h p j o ≠ ⊤ := fun j o => by
    by_cases hj : j < 16
    · rw [hg j hj o]; exact flat_ne_top x0 x1 h0 h1 n h p _
    · unfold gX; rw [dif_neg hj]; exact bot_ne_top
  generalize gX (fun n p c => x0 (ix3 n p c)) (fun n p c => x1 (ix3 n p c)) n h p = X at hg hx ⊢
  generalize gW (fun n p c => x2 (ix3 n p c)) n f = W at hw ⊢
  obtain ⟨a, ha⟩ := flat_real x0 x1 h0 h1 n h p ⟨0, by omega⟩ (Nat.zero_le _)
  obtain ⟨m, hm⟩ := Cert.KernelIdeal.Mla.top_real X (Finset.range 16) hx 0 (by simp) 0 a ((hg 0 (by omega) 0).trans ha)
  rw [quotient X W _ m hm]
  have ht : rowTop x0 x1 n h p = top X (Finset.range 16) := sup_keys _ _ hg
  have hp : ∀ j (hj : j < 16) (o : Fin 512), Ideal.exp (X j o * (Real.log 2 : ℝ) - top X (Finset.range 16) * (Real.log 2 : ℝ))
      = part x0 x1 n h p ⟨512 * j + o.val, by omega⟩ := fun j hj o => by
    unfold part; rw [hg j hj o, ht]
  have hd := sum_keys _ _ hp
  rw [hd]
  exact sum_keys _ _ fun j hj o => by rw [hw j hj o, hp j hj o]

end Cert.ReferenceIdeal.Mla
-- ==== Proof.Finite.lean ====
module
public import proofs.«01_k».proof.Pre_finite_scores
public import Idealize.ShloMosaic.Lib.Pointwise
public import Idealize.ShloMosaic.Lib.ReduceAll
public import Idealize.ShloMosaic.Lib.Affine
@[expose] public section
set_option maxRecDepth 16384
noncomputable section

/-! What the precondition says: every query and every key is a real number. -/

namespace Cert.Pre_finite_scores
open Idealize.ShloMosaic

theorem facts : Facts where
  bitsLt_bf16_f32 := by decide
  bcast_S_S4x8192x1024 := by decide
  reducesTo_S4x8192x1024_S_d0_1_2 := by decide
  h_S_ := by decide

theorem inf_bits : (Ideal.ofBits .f32 0x7F800000#32) = (⊤ : EReal) := by
  simp [Ideal.ofBits, Ideal.ieee]

/-- Something whose absolute value lies under plus infinity is a real number. -/
theorem real_of_abs (a : EReal) (h : max a (-a) < ⊤) : ∃ r : ℝ, a = r := by
  induction a with
  | bot => simp at h
  | coe r => exact ⟨r, rfl⟩
  | top => simp at h

/-- One array's test holds only where all its elements are real numbers. -/
theorem all_real [Facts] (x : FVec Ideal S4x8192x1024 .bf16)
    (h : Host.reduce IntOp.andi (cmpf (F := Ideal) .olt (Host.absf (extf .f32 x Facts.bitsLt_bf16_f32))
        (broadcastInDim S4x8192x1024 ![] Facts.bcast_S_S4x8192x1024 (constant S_ .f32 0x7F800000#32)))
      (constantI S_ 1 1#1) Facts.reducesTo_S4x8192x1024_S_d0_1_2 Facts.h_S_ (fun a => a.elim0) = 1#1)
    (i : S4x8192x1024.Idx) : ∃ r : ℝ, (x i : EReal) = r := by
  have : Subsingleton S_.Idx := ⟨fun a b => funext fun k => k.elim0⟩
  have hi : Ideal.cmp .olt (max (x i : EReal) (-(x i : EReal))) (Ideal.ofBits .f32 0x7F800000#32) = 1#1 :=
    Host.reduce_andi_all _ _ _ _ _ h i
  rw [inf_bits] at hi
  exact real_of_abs _ ((Ideal.cmp_olt_eq_one _ _).1 hi)

/-- Under the precondition every query and every key is a real number. -/
theorem reals [Facts] (q k : FVec Ideal S4x8192x1024 .bf16) (v : FVec Ideal S4x8192x512 .bf16)
    (h : fn (F := Ideal) q k v = fun _ => 1#1) :
    (∀ i, ∃ r : ℝ, (q i : EReal) = r) ∧ ∀ i, ∃ r : ℝ, (k i : EReal) = r := by
  have h0 := congrFun h (fun a => a.elim0)
  have h1 := IntOp.andi_eq_one.1 h0
  exact ⟨all_real q h1.1, all_real k h1.2⟩

end Cert.Pre_finite_scores
-- ==== Proof.MlpRow.lean ====
module
public import proofs.«01_k».proof.Proof.Softmax
public import Idealize.ShloMosaic.Lib.Pointwise
@[expose] public section
noncomputable section

/-! The feed-forward layer, element by element. -/

namespace Mlp
open Idealize.ShloMosaic

/-- One entry of a row normalised by its root mean square, weighted, scaled and shifted. -/
def normed (x w sc sh : Fin 1024 → EReal) (d : Fin 1024) : EReal :=
  x d * Ideal.rsqrt (Ideal.div (∑ k : Fin 1024, x k * x k) (Ideal.ofBits .f32 0x44800000#32) + Ideal.ofBits .f32 0x358637BD#32) * w d
    * (1 + sc d) + sh d

/-- The squared rectifier of a row's product with one column. -/
def act (h w : Fin 1024 → EReal) : EReal := max (∑ d : Fin 1024, h d * w d) 0 * max (∑ d : Fin 1024, h d * w d) 0

/-- An element of the layer's output: the input plus the gated output of the two products. -/
def out (x : Fin 4 → Fin 8192 → Fin 1024 → EReal) (sh sc g : Fin 4 → Fin 1024 → EReal) (w : Fin 1024 → EReal)
    (w1 : Fin 1024 → Fin 4096 → EReal) (w2 : Fin 4096 → Fin 1024 → EReal) (n : Fin 4) (p : Fin 8192) (f : Fin 1024) : EReal :=
  x n p f + g n f * ∑ k : Fin 4096, act (normed (x n p) w (sc n) (sh n)) (fun d => w1 d k) * w2 k f

/-- A sum over the hidden units, taken a quarter at a time from zero. -/
theorem sum_quarters (F : Fin 4096 → EReal) : ∑ k, F k =
    0 + (∑ k : Fin 1024, F ⟨k.val, by omega⟩) + (∑ k : Fin 1024, F ⟨1024 + k.val, by omega⟩)
      + (∑ k : Fin 1024, F ⟨2048 + k.val, by omega⟩) + ∑ k : Fin 1024, F ⟨3072 + k.val, by omega⟩ := by
  have hb := Running.sum_blocks (n := 1024) 4 fun k => if hk : k < 4096 then F ⟨k, hk⟩ else 0
  refine (Finset.sum_congr rfl fun (k : Fin 4096) _ => (dif_pos k.isLt).symm).trans (hb.trans ?_)
  simp only [Finset.sum_range_succ, Finset.sum_range_zero]
  refine congrArg₂ (· + ·) (congrArg₂ (· + ·) (congrArg₂ (· + ·) (congrArg (0 + ·) ?_) ?_) ?_) ?_ <;>
    exact Finset.sum_congr rfl fun k _ => (dif_pos (by omega)).trans (congrArg F (Fin.ext (by simp)))

end Mlp
-- ==== Proof.Mlp.lean ====
module
public import proofs.«01_k».proof.Proof.Gen.Kernel2Ideal.Value
public import proofs.«01_k».proof.Proof.MlpRow
public import Idealize.ShloMosaic.Lib.WordCmp
public import Idealize.ShloMosaic.Lib.Pipeline.Covers
public import Idealize.ShloMosaic.Lib.StableHlo.RunRead
@[expose] public section
set_option maxRecDepth 16384
noncomputable section
namespace Cert.Kernel2Ideal.Block
open Cert.Kernel2Ideal Cert.Kernel2Ideal.Gen Idealize.ShloMosaic Idealize.ShloMosaic.TcCoe Idealize.SL.Sem

theorem pay3_read (v0 : Vec Ideal S1x512x1024 .f32) (v2 : Vec Ideal S1x1024 .f32) (v16 v22 : Vec Ideal S1x1x1024 .f32)
    (r : Fin 512) (d : Fin 1024) : k0_pay3 v0 v2 v16 v22 (ix2 r d) =
      Mlp.normed (fun k => v0 (ix3 0 r k)) (fun k => v2 (ix2 0 k)) (fun k => v16 (ix3 0 0 k)) (fun k => v22 (ix3 0 0 k)) d := by
  pointwise [k0_pay3, k0_pay2]
  rfl

theorem pay5_read (v0 : Vec Ideal S1x512x1024 .f32) (v2 : Vec Ideal S1x1024 .f32) (v16 v22 : Vec Ideal S1x1x1024 .f32)
    (w : Vec Ideal S1024x1024 .bf16) (r : Fin 512) (d : Fin 1024) : k0_pay5 v0 v2 v16 v22 w (ix2 r d) =
      Mlp.act (fun d => k0_pay3 v0 v2 v16 v22 (ix2 r d)) (fun k => w (ix2 k d)) := by
  pointwise [k0_pay5]
  rfl

theorem pay6_read (h : FVec Ideal S512x1024 .bf16) (z : FVec Ideal S512x1024 .f32) (a : FVec Ideal S512x1024 .bf16)
    (w20 w11 w21 w12 w22 w13 w23 : Vec Ideal S1024x1024 .bf16) (r : Fin 512) (f : Fin 1024) :
    k0_pay6 h z a w20 w11 w21 w12 w22 w13 w23 (ix2 r f) =
      z (ix2 r f) + (∑ k : Fin 1024, a (ix2 r k) * w20 (ix2 k f))
        + (∑ k : Fin 1024, Mlp.act (fun d => h (ix2 r d)) (fun d => w11 (ix2 d k)) * w21 (ix2 k f))
        + (∑ k : Fin 1024, Mlp.act (fun d => h (ix2 r d)) (fun d => w12 (ix2 d k)) * w22 (ix2 k f))
        + (∑ k : Fin 1024, Mlp.act (fun d => h (ix2 r d)) (fun d => w13 (ix2 d k)) * w23 (ix2 k f)) := by
  pointwise [k0_pay6]
  rfl

theorem pay1_read (x a : FVec Ideal S512x1024 .f32) (g : Vec Ideal S1x1x1024 .f32) (r : Fin 512) (f : Fin 1024) :
    k0_pay1 x a g (ix3 0 r f) = x (ix2 r f) + g (ix3 0 0 f) * a (ix2 r f) := by
  pointwise [k0_pay1]

theorem pay4_read (r : Fin 512) (f : Fin 1024) : k0_pay4 (F := Ideal) (ix2 r f) = 0 := by
  pointwise [k0_pay4]

theorem pay2_read (v0 : Vec Ideal S1x512x1024 .f32) (r : Fin 512) (f : Fin 1024) : k0_pay2 v0 (ix2 r f) = v0 (ix3 0 r f) := by
  pointwise [k0_pay2]

/-- A quarter of the first weights, by column. -/
theorem ld_w1 (x : Vec Ideal S1024x4096 .bf16) (o : ℕ) (ho : o + 1024 ≤ 4096) (inb) (d k : Fin 1024) :
    View.ld x (Rect.unit (s := S1024x4096) ![0, o] S1024x1024.size inb) (ix2 d k) = x (ix2 d (⟨o + k.val, by omega⟩ : Fin 4096)) := by
  refine congrArg x (funext fun a => Fin.ext ?_)
  fin_cases a
  · show 0 + 1 * d.val = d.val; omega
  · show o + 1 * k.val = o + k.val; omega

/-- A quarter of the second weights, by row. -/
theorem ld_w2 (x : Vec Ideal S4096x1024 .bf16) (o : ℕ) (ho : o + 1024 ≤ 4096) (inb) (k f : Fin 1024) :
    View.ld x (Rect.unit (s := S4096x1024) ![o, 0] S1024x1024.size inb) (ix2 k f) = x (ix2 (⟨o + k.val, by omega⟩ : Fin 4096) f) := by
  refine congrArg x (funext fun a => Fin.ext ?_)
  fin_cases a
  · show o + 1 * k.val = o + k.val; omega
  · show 0 + 1 * f.val = f.val; omega

/-- What the body stores, element by element. -/
theorem out_read (x0 : Vec Ideal S1x512x1024 .f32) (x1 x2 x3 : Vec Ideal S1x1x1024 .f32) (x4 : Vec Ideal S1x1024 .f32)
    (x5 : Vec Ideal S1024x4096 .bf16) (x6 : Vec Ideal S4096x1024 .bf16) (r : Fin 512) (f : Fin 1024) :
    out0_7 x0 x1 x2 x3 x4 x5 x6 (ix3 0 r f) = x0 (ix3 0 r f) + x3 (ix3 0 0 f) * ∑ k : Fin 4096,
      Mlp.act (Mlp.normed (fun d => x0 (ix3 0 r d)) (fun d => x4 (ix2 0 d)) (fun d => x2 (ix3 0 0 d)) fun d => x1 (ix3 0 0 d))
        (fun d => x5 (ix2 d k)) * x6 (ix2 k f) := by
  have e0 : View.ld x0 r0_0 = x0 := View.ld_unit_zero (funext fun a => by fin_cases a <;> rfl) _ _
  have e1 : View.ld x1 r0_2 = x1 := View.ld_unit_zero (funext fun a => by fin_cases a <;> rfl) _ _
  have e2 : View.ld x2 r0_2 = x2 := View.ld_unit_zero (funext fun a => by fin_cases a <;> rfl) _ _
  have e3 : View.ld x3 r0_2 = x3 := View.ld_unit_zero (funext fun a => by fin_cases a <;> rfl) _ _
  have e4 : View.ld x4 r0_1 = x4 := View.ld_unit_zero (funext fun a => by fin_cases a <;> rfl) _ _
  unfold out0_7
  rw [View.canon_unit_zero (funext fun a => by fin_cases a <;> rfl), e0, e1, e2, e3, e4, pay1_read, pay2_read, pay6_read, pay4_read,
    Mlp.sum_quarters]
  simp only [pay5_read]
  have hh : (fun d => k0_pay3 x0 x4 x2 x1 (ix2 r d)) =
      Mlp.normed (fun d => x0 (ix3 0 r d)) (fun d => x4 (ix2 0 d)) (fun d => x2 (ix3 0 0 d)) fun d => x1 (ix3 0 0 d) :=
    funext fun d => pay3_read x0 x4 x2 x1 r d
  rw [hh]
  simp only [ld_w1 x5 0 (by norm_num), ld_w1 x5 1024 (by norm_num), ld_w1 x5 2048 (by norm_num), ld_w1 x5 3072 (by norm_num),
    ld_w2 x6 0 (by norm_num), ld_w2 x6 1024 (by norm_num), ld_w2 x6 2048 (by norm_num), ld_w2 x6 3072 (by norm_num), Nat.zero_add]

variable (m : (ℓ : Loc nD τ sig) → Buf (Elt Ideal) ℓ) (c : Dev nD)

/-! The arrays the kernel's region finds: the arguments, reshaped or cast. -/

theorem V_v0 : V m c main_v0 = shapeCast S4x1x1024 (m ((c : Thread nD τ).loc main_arg1)) shapeCasts_S4x1024_S4x1x1024 :=
  (StableHlo.after_last_write (i := 0) [main_v1, main_v2, main_v3, main_v4, main_v5] rfl rfl (by decide) _).trans
    (StableHlo.reshape_result (Val := Elt Ideal) main_arg1 main_v0 rfl shapeCasts_S4x1024_S4x1x1024 _ _ _)

theorem V_v1 : V m c main_v1 = shapeCast S4x1x1024 (m ((c : Thread nD τ).loc main_arg2)) shapeCasts_S4x1024_S4x1x1024 :=
  (StableHlo.after_last_write (i := 1) [main_v2, main_v3, main_v4, main_v5] rfl rfl (by decide) _).trans
    (StableHlo.reshape_result (Val := Elt Ideal) main_arg2 main_v1 rfl shapeCasts_S4x1024_S4x1x1024 _ _ _)

theorem V_v2 : V m c main_v2 = shapeCast S4x1x1024 (m ((c : Thread nD τ).loc main_arg3)) shapeCasts_S4x1024_S4x1x1024 :=
  (StableHlo.after_last_write (i := 2) [main_v3, main_v4, main_v5] rfl rfl (by decide) _).trans
    (StableHlo.reshape_result (Val := Elt Ideal) main_arg3 main_v2 rfl shapeCasts_S4x1024_S4x1x1024 _ _ _)

theorem V_v3 : V m c main_v3 = shapeCast S1x1024 (m ((c : Thread nD τ).loc main_arg4)) shapeCasts_S1024_S1x1024 :=
  (StableHlo.after_last_write (i := 3) [main_v4, main_v5] rfl rfl (by decide) _).trans
    (StableHlo.reshape_result (Val := Elt Ideal) main_arg4 main_v3 rfl shapeCasts_S1024_S1x1024 _ _ _)

theorem V_v4 : V m c main_v4 = (m ((c : Thread nD τ).loc main_arg5) : Vec Ideal S1024x4096 .f32) :=
  (StableHlo.after_last_write (i := 4) [main_v5] rfl rfl (by decide) _).trans
    (StableHlo.unary_result (Val := Elt Ideal) main_arg5 main_v4 _ _ _ _)

theorem V_v5 : V m c main_v5 = (m ((c : Thread nD τ).loc main_arg6) : Vec Ideal S4096x1024 .f32) :=
  (StableHlo.after_last_write (i := 5) [] rfl rfl (by decide) _).trans
    (StableHlo.unary_result (Val := Elt Ideal) main_arg6 main_v5 _ _ _ _)

/-- A modulation row read through its added axis. -/
theorem modulation_read (x : Vec Ideal S4x1024 .f32) (n : Fin 4) (d : Fin 1024) :
    shapeCast S4x1x1024 x shapeCasts_S4x1024_S4x1x1024 (ix3 n 0 d) = x (ix2 n d) := by
  pointwise

/-- The norm's weights read through their added axis. -/
theorem norm_read (x : Vec Ideal S1024 .f32) (d : Fin 1024) :
    shapeCast S1x1024 x shapeCasts_S1024_S1x1024 (ix2 0 d) = x (ix1 d) := by
  pointwise

/-- The result array the kernel leaves. -/
def result : Vec Ideal S4x8192x1024 .f32 := fun y =>
  Mlp.out (fun n p k => (m ((c : Thread nD τ).loc main_arg0) : Vec Ideal S4x8192x1024 .f32) (ix3 n p k))
    (fun n k => (m ((c : Thread nD τ).loc main_arg1) : Vec Ideal S4x1024 .f32) (ix2 n k))
    (fun n k => (m ((c : Thread nD τ).loc main_arg2) : Vec Ideal S4x1024 .f32) (ix2 n k))
    (fun n k => (m ((c : Thread nD τ).loc main_arg3) : Vec Ideal S4x1024 .f32) (ix2 n k))
    (fun k => (m ((c : Thread nD τ).loc main_arg4) : Vec Ideal S1024 .f32) (ix1 k))
    (fun d k => (m ((c : Thread nD τ).loc main_arg5) : Vec Ideal S1024x4096 .f32) (ix2 d k))
    (fun k f => (m ((c : Thread nD τ).loc main_arg6) : Vec Ideal S4096x1024 .f32) (ix2 k f)) (y 0) (y 1) (y 2)

variable (t : Fin cfg0.N)

theorem co0 : ((grid0.coords t) 0).val < 4 := ((grid0.coords t) 0).isLt
theorem co1 : ((grid0.coords t) 1).val < 16 := ((grid0.coords t) 1).isLt
theorem toNat_small (a : ℕ) (h : a < 16) : (BitVec.ofNat 32 a).toNat = a := WordCmp.toNat_ofNat_of_lt (by omega)

/-- A point's blocks of the seven inputs. -/
abbrev b0 : Vec Ideal S1x512x1024 .f32 := iblk m c 0 t
abbrev b1 : Vec Ideal S1x1x1024 .f32 := iblk m c 1 t
abbrev b2 : Vec Ideal S1x1x1024 .f32 := iblk m c 2 t
abbrev b3 : Vec Ideal S1x1x1024 .f32 := iblk m c 3 t
abbrev b4 : Vec Ideal S1x1024 .f32 := iblk m c 4 t
abbrev b5 : Vec Ideal S1024x4096 .bf16 := iblk m c 5 t
abbrev b6 : Vec Ideal S4096x1024 .bf16 := iblk m c 6 t

theorem b0_read (r : Fin 512) (d : Fin 1024) : b0 m c t (ix3 0 r d) =
    (m ((c : Thread nD τ).loc main_arg0) : Vec Ideal S4x8192x1024 .f32)
      (ix3 (⟨_, co0 t⟩ : Fin 4) (⟨512 * ((grid0.coords t) 1).val + r.val, by have := co1 t; omega⟩ : Fin 8192) d) := by
  have h0 := co0 t; have h1 := co1 t
  unfold b0 iblk
  rw [View.read_apply]
  refine (congrFun (V_main_arg0 m c) _).trans (congrArg (m ((c : Thread nD τ).loc main_arg0)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 1024 + 1 * d.val = d.val
    omega

theorem b1_read (d : Fin 1024) : b1 m c t (ix3 0 0 d) =
    (m ((c : Thread nD τ).loc main_arg1) : Vec Ideal S4x1024 .f32) (ix2 (⟨_, co0 t⟩ : Fin 4) d) := by
  have h0 := co0 t
  refine Eq.trans ?_ (modulation_read _ _ _)
  unfold b1 iblk
  rw [View.read_apply]
  refine (congrFun (V_v0 m c) _).trans (congrArg (shapeCast S4x1x1024 _ shapeCasts_S4x1024_S4x1x1024) (funext fun a => Fin.ext ?_))
  fin_cases a
  · show (BitVec.ofNat 32 ((grid0.coords t) 0).val).toNat * 1 + 1 * 0 = ((grid0.coords t) 0).val
    rw [toNat_small _ (by omega)]; omega
  · rfl
  · show 0 * 1024 + 1 * d.val = d.val
    omega

theorem b2_read (d : Fin 1024) : b2 m c t (ix3 0 0 d) =
    (m ((c : Thread nD τ).loc main_arg2) : Vec Ideal S4x1024 .f32) (ix2 (⟨_, co0 t⟩ : Fin 4) d) := by
  have h0 := co0 t
  refine Eq.trans ?_ (modulation_read _ _ _)
  unfold b2 iblk
  rw [View.read_apply]
  refine (congrFun (V_v1 m c) _).trans (congrArg (shapeCast S4x1x1024 _ shapeCasts_S4x1024_S4x1x1024) (funext fun a => Fin.ext ?_))
  fin_cases a
  · show (BitVec.ofNat 32 ((grid0.coords t) 0).val).toNat * 1 + 1 * 0 = ((grid0.coords t) 0).val
    rw [toNat_small _ (by omega)]; omega
  · rfl
  · show 0 * 1024 + 1 * d.val = d.val
    omega

theorem b3_read (d : Fin 1024) : b3 m c t (ix3 0 0 d) =
    (m ((c : Thread nD τ).loc main_arg3) : Vec Ideal S4x1024 .f32) (ix2 (⟨_, co0 t⟩ : Fin 4) d) := by
  have h0 := co0 t
  refine Eq.trans ?_ (modulation_read _ _ _)
  unfold b3 iblk
  rw [View.read_apply]
  refine (congrFun (V_v2 m c) _).trans (congrArg (shapeCast S4x1x1024 _ shapeCasts_S4x1024_S4x1x1024) (funext fun a => Fin.ext ?_))
  fin_cases a
  · show (BitVec.ofNat 32 ((grid0.coords t) 0).val).toNat * 1 + 1 * 0 = ((grid0.coords t) 0).val
    rw [toNat_small _ (by omega)]; omega
  · rfl
  · show 0 * 1024 + 1 * d.val = d.val
    omega

theorem b4_read (d : Fin 1024) : b4 m c t (ix2 0 d) = (m ((c : Thread nD τ).loc main_arg4) : Vec Ideal S1024 .f32) (ix1 d) := by
  refine Eq.trans ?_ (norm_read _ _)
  unfold b4 iblk
  rw [View.read_apply]
  refine (congrFun (V_v3 m c) _).trans (congrArg (shapeCast S1x1024 _ shapeCasts_S1024_S1x1024) (funext fun a => Fin.ext ?_))
  fin_cases a
  · rfl
  · show 0 * 1024 + 1 * d.val = d.val
    omega

theorem b5_read (d : Fin 1024) (k : Fin 4096) : b5 m c t (ix2 d k) =
    (m ((c : Thread nD τ).loc main_arg5) : Vec Ideal S1024x4096 .f32) (ix2 d k) := by
  unfold b5 iblk
  rw [View.read_apply]
  refine (congrFun (V_v4 m c) _).trans (congrArg (m ((c : Thread nD τ).loc main_arg5)) (funext fun a => Fin.ext ?_))
  fin_cases a
  · show 0 * 1024 + 1 * d.val = d.val
    omega
  · show 0 * 4096 + 1 * k.val = k.val
    omega

theorem b6_read (k : Fin 4096) (f : Fin 1024) : b6 m c t (ix2 k f) =
    (m ((c : Thread nD τ).loc main_arg6) : Vec Ideal S4096x1024 .f32) (ix2 k f) := by
  unfold b6 iblk
  rw [View.read_apply]
  refine (congrFun (V_v5 m c) _).trans (congrArg (m ((c : Thread nD τ).loc main_arg6)) (funext fun a => Fin.ext ?_))
  fin_cases a
  · show 0 * 4096 + 1 * k.val = k.val
    omega
  · show 0 * 1024 + 1 * f.val = f.val
    omega

/-- What a grid point writes back is its block of the result. -/
theorem flushed_eq (hf : (cfg0.win 7).flush t = true) :
    (dats m 0 c).flushed 7 t = ((cfg0.win 7).blk t).view.read (Elt Ideal) (result m c) := by
  have h0 := co0 t; have h1 := co1 t
  rw [Value.flushed7]
  refine funext fun (y : S1x512x1024.Idx) => ?_
  obtain ⟨r, f, rfl⟩ : ∃ (r : Fin 512) (f : Fin 1024), y = ix3 (0 : Fin 1) r f :=
    ⟨y 1, y 2, (eq_ix3 y).trans (congrArg (fun z : Fin 1 => ix3 z (y 1 : Fin 512) (y 2 : Fin 1024)) (Subsingleton.elim _ _))⟩
  refine (out_read (b0 m c t) (b1 m c t) (b2 m c t) (b3 m c t) (b4 m c t) (b5 m c t) (b6 m c t) r f).trans ?_
  simp only [b0_read, b1_read, b2_read, b3_read, b4_read, b5_read, b6_read]
  rw [View.read_apply]
  have e0 : (((cfg0.win 7).blk t).view.emb (ix3 0 r f) 0 : Fin 4) = ⟨_, co0 t⟩ := Fin.ext (by
    show (BitVec.ofNat 32 ((grid0.coords t) 0).val).toNat * 1 + 1 * 0 = ((grid0.coords t) 0).val
    rw [toNat_small _ (by omega)]; omega)
  have e1 : (((cfg0.win 7).blk t).view.emb (ix3 0 r f) 1 : Fin 8192) = (⟨512 * ((grid0.coords t) 1).val + r.val, by omega⟩ : Fin 8192) := Fin.ext (by
    show (BitVec.ofNat 32 ((grid0.coords t) 1).val).toNat * 512 + 1 * r.val = _ + r.val
    rw [toNat_small _ (by omega)]; omega)
  have e2 : (((cfg0.win 7).blk t).view.emb (ix3 0 r f) 2 : Fin 1024) = f := Fin.ext (by
    show 0 * 1024 + 1 * f.val = f.val
    omega)
  refine Eq.trans ?_ (show result m c (((cfg0.win 7).blk t).view.emb (ix3 0 r f)) = _ from rfl)
  unfold result
  rw [e0, e1, e2]
  rfl

/-- The blocks cover the array, so it ends holding the result. -/
theorem final : (dats m 0 c).arrAt 7 cfg0.N = result m c := by
  refine (dats m 0 c).arrAt_eq_of_cover 7 (result m c) (fun t hf => flushed_eq m c t hf) fun y => ?_
  have y0 : (y 0).val < 4 := (y 0).isLt
  have y1 : (y 1).val < 8192 := (y 1).isLt
  have y2 : (y 2).val < 1024 := (y 2).isLt
  obtain ⟨t, ht⟩ := Pipeline.Grid.coords_surjective grid0 (fun a => match a with
    | ⟨0, _⟩ => ⟨(y 0).val, y0⟩ | ⟨1, _⟩ => ⟨(y 1).val / 512, by show _ < 16; omega⟩)
  have t0 : ((grid0.coords t) 0).val = (y 0).val := by rw [ht]
  have t1 : ((grid0.coords t) 1).val = (y 1).val / 512 := by rw [ht]
  refine ⟨t, flush0_7 t, ?_⟩
  show y ∈ ((View.whole main_v6).slice (win0_7.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 512 ≤ (y 1).val ∧ (y 1).val < (BitVec.ofNat 32 ((grid0.coords t) 1).val).toNat * 512 + 512
    rw [toNat_small _ (by omega)]; omega
  · show 0 * 1024 ≤ (y 2).val ∧ (y 2).val < 0 * 1024 + 1024
    omega

end Cert.Kernel2Ideal.Block
-- ==== Proof.MlpRef.lean ====
module
public import proofs.«01_k».proof.Proof.MlpRow
public import proofs.«01_k».proof.Proof.Gen.Reference2Ideal.Read
@[expose] public section
set_option maxRecDepth 16384
noncomputable section

/-! The feed-forward layer's reference, read element by element. -/

namespace Cert.Reference2Ideal.Element
open Idealize.ShloMosaic Idealize.SL.Sem Cert.Reference2Ideal Cert.Reference2Ideal.Read Cert.Reference2Ideal.Gen

variable (x0 : (⟨S4x8192x1024, .f32⟩ : BufTy).Contents (Elt Ideal)) (x1 x2 x3 : (⟨S4x1024, .f32⟩ : BufTy).Contents (Elt Ideal))
  (x4 : (⟨S1024, .f32⟩ : BufTy).Contents (Elt Ideal)) (x5 : (⟨S1024x4096, .f32⟩ : BufTy).Contents (Elt Ideal))
  (x6 : (⟨S4096x1024, .f32⟩ : BufTy).Contents (Elt Ideal))

theorem one_bits : (FloatOps.ofBits .f32 0x3F800000#32 : Ideal .f32) = (1 : EReal) := by
  show Ideal.ofBits .f32 _ = _
  simp [Ideal.ofBits, Ideal.ieee, -EReal.coe_mul]
  norm_num

/-- The normalised, scaled and shifted row. -/
theorem normed_read (n : Fin 4) (p : Fin 8192) (d : Fin 1024) :
    (val_main_v20 (F := Ideal) x0 x1 x2 x4 (ix3 n p d) : EReal) =
      Mlp.normed (fun k => x0 (ix3 n p k)) (fun k => x4 (ix1 k)) (fun k => x2 (ix2 n k)) (fun k => x1 (ix2 n k)) d := by
  have h7 : (val_main_v8 (F := Ideal) x0 (ix3 n p d) : EReal) = Ideal.rsqrt (Ideal.div (∑ k : Fin 1024, (x0 (ix3 n p k) : EReal) * x0 (ix3 n p k))
      (Ideal.ofBits .f32 0x44800000#32) + Ideal.ofBits .f32 0x358637BD#32) := by
    rw [val_main_v8_apply, val_main_v7_apply, val_main_v6_apply, val_main_v4_apply, val_main_v5_apply, val_main_v3_apply,
      val_main_v2_apply, val_main_v1_apply, show (val_main_cst (F := Ideal) (Shape.Idx.first h_S_) : EReal) = 0 from Ideal.ofBits_zero .f32, zero_add]
    have hs : (∑ k : Fin 1024, (val_main_v0 (F := Ideal) x0 (idx_main_v1 (idx_main_v2 (idx_main_v8 (ix3 n p d))) k) : EReal))
        = ∑ k : Fin 1024, (x0 (ix3 n p k) : EReal) * x0 (ix3 n p k) := Finset.sum_congr rfl fun k _ => by
      rw [show idx_main_v1 (idx_main_v2 (idx_main_v8 (ix3 n p d))) k = ix3 n p k from eq_ix3 _]; rfl
    rw [hs]; rfl
  have h11 : (val_main_v11 (F := Ideal) x4 (ix3 n p d) : EReal) = x4 (ix1 d) := by
    rw [val_main_v11_apply, val_main_v10_apply]; exact congrArg x4 (eq_ix1 _)
  have h16 : (val_main_v16 (F := Ideal) x2 (ix3 n p d) : EReal) = 1 + x2 (ix2 n d) := by
    rw [val_main_v16_apply, val_main_v15_apply, val_main_v14_apply, val_main_v13_apply, val_main_cst_2_apply, one_bits]
    exact congrArg (fun z => (1 : EReal) + x2 z) (eq_ix2 _)
  have h19 : (val_main_v19 (F := Ideal) x1 (ix3 n p d) : EReal) = x1 (ix2 n d) := by
    rw [val_main_v19_apply, val_main_v18_apply]; exact congrArg x1 (eq_ix2 _)
  unfold Mlp.normed
  beta_reduce
  rw [← h7, ← h11, ← h16, ← h19]
  rfl

/-- An element of the reference's result. -/
theorem result_read (n : Fin 4) (p : Fin 8192) (f : Fin 1024) :
    (val_main_v29 (F := Ideal) x0 x1 x2 x3 x4 x5 x6 (ix3 n p f) : EReal) =
      Mlp.out (fun n p k => x0 (ix3 n p k)) (fun n k => x1 (ix2 n k)) (fun n k => x2 (ix2 n k)) (fun n k => x3 (ix2 n k))
        (fun k => x4 (ix1 k)) (fun d k => x5 (ix2 d k)) (fun k f => x6 (ix2 k f)) n p f := by
  have h27 : (val_main_v27 (F := Ideal) x3 (ix3 n p f) : EReal) = x3 (ix2 n f) := by
    rw [val_main_v27_apply, val_main_v24_apply]; exact congrArg x3 (eq_ix2 _)
  have h23 : ∀ k : Fin 4096, (val_main_v23 (F := Ideal) x0 x1 x2 x4 x5 (ix3 n p k) : EReal) =
      max (∑ d : Fin 1024, Mlp.normed (fun k => x0 (ix3 n p k)) (fun k => x4 (ix1 k)) (fun k => x2 (ix2 n k)) (fun k => x1 (ix2 n k)) d
        * x5 (ix2 d k)) 0 := fun k => by
    rw [val_main_v23_apply, val_main_v22_apply, val_main_cst_3_apply, val_main_v21_apply,
      show (FloatOps.ofBits .f32 0x00000000#32 : Ideal .f32) = (0 : EReal) from Ideal.ofBits_zero .f32]
    refine congrArg (max · (0 : EReal)) (Finset.sum_congr rfl fun d _ => ?_)
    rw [show lidx_main_v21 (ix3 n p k) d = ix3 n p d from eq_ix3 _, normed_read]
    exact congrArg (fun z => _ * (x5 z : EReal)) (eq_ix2 _)
  have h26 : (val_main_v26 (F := Ideal) x0 x1 x2 x4 x5 x6 (ix3 n p f) : EReal) =
      ∑ k : Fin 4096, Mlp.act (Mlp.normed (fun k => x0 (ix3 n p k)) (fun k => x4 (ix1 k)) (fun k => x2 (ix2 n k)) fun k => x1 (ix2 n k))
        (fun d => x5 (ix2 d k)) * x6 (ix2 k f) := by
    rw [val_main_v26_apply]
    refine Finset.sum_congr rfl fun k _ => ?_
    rw [show lidx_main_v26 (ix3 n p f) k = ix3 n p k from eq_ix3 _, val_main_v25_apply, h23]
    exact congrArg (fun z => _ * (x6 z : EReal)) (eq_ix2 _)
  unfold Mlp.out
  beta_reduce
  rw [← h26, ← h27]
  rfl

end Cert.Reference2Ideal.Element
-- ==== Proof.OutRow.lean ====
module
public import proofs.«01_k».proof.Proof.Softmax
public import Idealize.ShloMosaic.Lib.Pointwise
public import Idealize.ShloMosaic.Lib.Pipeline.Value
@[expose] public section
noncomputable section

/-! The output projections, element by element: two groups of heads side by side, times the weights, gated and added to the input. -/

namespace Proj
open Idealize.ShloMosaic

/-- The input plus the gated product of the joined groups with one column of the weights. -/
def out {q : ℕ} (x g : EReal) (a wa : Fin 512 → EReal) (b wb : Fin q → EReal) : EReal :=
  x + g * (∑ k, a k * wa k + ∑ k, b k * wb k)

/-- A sum over the joined axis is the sum over the first group plus the sum over the second. -/
theorem sum_joined {q : ℕ} (F : Fin (512 + q) → EReal) :
    ∑ k, F k = ∑ k : Fin 512, F ⟨k.val, by omega⟩ + ∑ k : Fin q, F ⟨512 + k.val, by omega⟩ :=
  Fin.sum_univ_add F

/-- Arrays joined on their last axis, read in the first. -/
theorem join_first {q r : ℕ} (a : (⟨3, ![4, 8192, 512]⟩ : Shape).Idx → EReal) (b : (⟨3, ![4, 8192, q]⟩ : Shape).Idx → EReal)
    (h : Shape.Concatenates [⟨3, ![4, 8192, 512]⟩, ⟨3, ![4, 8192, q]⟩] ⟨3, ![4, 8192, r]⟩ 2) (n : Fin 4) (p : Fin 8192)
    (k : Fin 512) (hk : k.val < r) :
    concatenate (⟨3, ![4, 8192, r]⟩ : Shape) 2 [⟨⟨3, ![4, 8192, 512]⟩, a⟩, ⟨⟨3, ![4, 8192, q]⟩, b⟩] h (ix3 n p (⟨k.val, hk⟩ : Fin r))
      = a (ix3 n p k) :=
  concatenate_pair_apply_left 2 a b h _ rfl _ fun b => by fin_cases b <;> rfl

/-- And in the second. -/
theorem join_second {q r : ℕ} (a : (⟨3, ![4, 8192, 512]⟩ : Shape).Idx → EReal) (b : (⟨3, ![4, 8192, q]⟩ : Shape).Idx → EReal)
    (h : Shape.Concatenates [⟨3, ![4, 8192, 512]⟩, ⟨3, ![4, 8192, q]⟩] ⟨3, ![4, 8192, r]⟩ 2) (n : Fin 4) (p : Fin 8192)
    (k : Fin q) (hk : 512 + k.val < r) :
    concatenate (⟨3, ![4, 8192, r]⟩ : Shape) 2 [⟨⟨3, ![4, 8192, 512]⟩, a⟩, ⟨⟨3, ![4, 8192, q]⟩, b⟩] h (ix3 n p (⟨512 + k.val, hk⟩ : Fin r))
      = b (ix3 n p k) :=
  concatenate_pair_apply_right 2 a b h _ rfl rfl _ (fun b hb => by fin_cases b <;> first | rfl | exact absurd rfl hb)
    (Nat.add_comm _ _)

/-- Three arrays stacked on a new first axis, read in the one an index names. -/
theorem stacked (a : Fin 3 → (⟨4, ![1, 4, 8192, 256]⟩ : Shape).Idx → EReal)
    (h : Shape.Concatenates [⟨4, ![1, 4, 8192, 256]⟩, ⟨4, ![1, 4, 8192, 256]⟩, ⟨4, ![1, 4, 8192, 256]⟩] ⟨4, ![3, 4, 8192, 256]⟩ 0)
    (s : Fin 3) (n : Fin 4) (p : Fin 8192) (e : Fin 256) :
    concatenate (⟨4, ![3, 4, 8192, 256]⟩ : Shape) 0 [⟨⟨4, ![1, 4, 8192, 256]⟩, a 0⟩, ⟨⟨4, ![1, 4, 8192, 256]⟩, a 1⟩,
        ⟨⟨4, ![1, 4, 8192, 256]⟩, a 2⟩] h (ix4 s n p e)
      = a s (ix4 0 n p e) :=
  concatenate_ofFn_unit_apply (t := ⟨4, ![3, 4, 8192, 256]⟩) 0 a h rfl rfl _ s rfl _
    fun b hb => by fin_cases b <;> first | rfl | exact absurd rfl hb

/-- How a mixture weighs the term with log-denominator `a`: two to its excess over the greatest. -/
def weigh (l : Fin 3 → EReal) (s : Fin 3) : EReal := Ideal.exp2 (l s - max (max (l 0) (l 1)) (l 2))

/-- Three terms mixed by their log-denominators. -/
def mix (l o : Fin 3 → EReal) : EReal :=
  Ideal.div (weigh l 0 * o 0 + weigh l 1 * o 1 + weigh l 2 * o 2) (weigh l 0 + weigh l 1 + weigh l 2)

/-- The mixture is the softmax of the scaled log-denominators, applied to the terms. -/
theorem mix_eq (l o : Fin 3 → EReal) (hl : ∀ s, ∃ r : ℝ, l s = r) :
    ∑ s, Ideal.div (Ideal.exp (l s * (Real.log 2 : ℝ) - (Finset.univ.sup fun s => l s * ((Real.log 2 : ℝ) : EReal))))
        (∑ s, Ideal.exp (l s * (Real.log 2 : ℝ) - (Finset.univ.sup fun s => l s * ((Real.log 2 : ℝ) : EReal)))) * o s
      = mix l o := by
  have htop : Finset.univ.sup l = max (max (l 0) (l 1)) (l 2) := by
    rw [Fin.univ_succ, Finset.sup_cons, Finset.sup_map, Fin.univ_succ, Finset.sup_cons, Finset.sup_map, Finset.univ_unique,
      Finset.sup_singleton, ← max_assoc]
    rfl
  obtain ⟨m, hm⟩ : ∃ m : ℝ, Finset.univ.sup l = m := by
    obtain ⟨a, ha⟩ := hl 0; obtain ⟨b, hb⟩ := hl 1; obtain ⟨c, hc⟩ := hl 2
    refine ⟨max (max a b) c, ?_⟩
    rw [htop, ha, hb, hc, EReal.coe_strictMono.monotone.map_max, EReal.coe_strictMono.monotone.map_max]
  have hq := Running.quotient (n := 3) (fun _ => l) (fun _ => o) {0} m (by rw [Running.top_single, hm])
  rw [Running.num_single, Running.den_single, Running.top_single] at hq
  simp only [Finset.sum_singleton] at hq
  rw [Running.sup_scaled _ _ _ (Real.log_pos one_lt_two)]
  unfold mix weigh
  rw [← htop]
  rw [Fin.sum_univ_three (fun c => Ideal.exp2 (l c - Finset.univ.sup l) * o c),
    Fin.sum_univ_three (fun c => Ideal.exp2 (l c - Finset.univ.sup l))] at hq
  rw [hq]
  exact Finset.sum_congr rfl fun s _ => mul_comm _ _

end Proj
-- ==== Proof.OddOut.lean ====
module
public import proofs.«01_k».proof.Proof.Gen.Kernel4Ideal.Value
public import proofs.«01_k».proof.Proof.OutRow
public import Idealize.ShloMosaic.Lib.WordCmp
public import Idealize.ShloMosaic.Lib.Pipeline.Covers
public import Idealize.ShloMosaic.Lib.StableHlo.RunRead
@[expose] public section
set_option maxRecDepth 16384
noncomputable section
namespace Cert.Kernel4Ideal.Block
open Cert.Kernel4Ideal Cert.Kernel4Ideal.Gen Idealize.ShloMosaic Idealize.ShloMosaic.TcCoe Idealize.SL.Sem

theorem pay1_read (a : Vec Ideal S1x512x512 .bf16) (wa : Vec Ideal S512x1024 .bf16) (b : Vec Ideal S1x512x512 .bf16)
    (wb : Vec Ideal S512x1024 .bf16) (x : Vec Ideal S1x512x1024 .f32) (g : Vec Ideal S1x1x1024 .f32) (r : Fin 512) (f : Fin 1024) :
    k0_pay1 a wa b wb x g (ix3 0 r f) = Proj.out (x (ix3 0 r f)) (g (ix3 0 0 f)) (fun k => a (ix3 0 r k)) (fun k => wa (ix2 k f))
      (fun k => b (ix3 0 r k)) fun k => wb (ix2 k f) := by
  pointwise [k0_pay1]
  rfl

/-- Half of the weights, by row. -/
theorem ld_w (x : Vec Ideal S1024x1024 .bf16) (o : ℕ) (ho : o + 512 ≤ 1024) (inb) (k : Fin 512) (f : Fin 1024) :
    View.ld x (Rect.unit (s := S1024x1024) ![o, 0] S512x1024.size inb) (ix2 k f) = x (ix2 (⟨o + k.val, by omega⟩ : Fin 1024) f) := by
  refine congrArg x (funext fun a => Fin.ext ?_)
  fin_cases a
  · show o + 1 * k.val = o + k.val; omega
  · show 0 + 1 * f.val = f.val; omega

/-- What the body stores, element by element. -/
theorem out_read (x0 : Vec Ideal S1x512x1024 .f32) (x1 : Vec Ideal S1x1x1024 .f32) (x2 x3 : Vec Ideal S1x512x512 .bf16)
    (x4 : Vec Ideal S1024x1024 .bf16) (r : Fin 512) (f : Fin 1024) :
    out0_5 x0 x1 x2 x3 x4 (ix3 0 r f) = Proj.out (x0 (ix3 0 r f)) (x1 (ix3 0 0 f)) (fun k => x2 (ix3 0 r k))
      (fun k => x4 (ix2 (⟨k.val, by omega⟩ : Fin 1024) f)) (fun k => x3 (ix3 0 r k))
      fun k : Fin 512 => x4 (ix2 (⟨512 + k.val, by omega⟩ : Fin 1024) f) := by
  have e0 : View.ld x0 r0_3 = x0 := View.ld_unit_zero (funext fun a => by fin_cases a <;> rfl) _ _
  have e1 : View.ld x1 r0_4 = x1 := View.ld_unit_zero (funext fun a => by fin_cases a <;> rfl) _ _
  have e2 : View.ld x2 r0_0 = x2 := View.ld_unit_zero (funext fun a => by fin_cases a <;> rfl) _ _
  have e3 : View.ld x3 r0_0 = x3 := View.ld_unit_zero (funext fun a => by fin_cases a <;> rfl) _ _
  unfold out0_5
  rw [View.canon_unit_zero (funext fun a => by fin_cases a <;> rfl), e0, e1, e2, e3, pay1_read]
  simp only [ld_w x4 0 (by norm_num), ld_w x4 512 (by norm_num), Nat.zero_add]

variable (m : (ℓ : Loc nD τ sig) → Buf (Elt Ideal) ℓ) (c : Dev nD)

/-! The arrays the kernel's region finds: the arguments, reshaped or cast. -/

theorem V_v0 : V m c main_v0 = shapeCast S4x1x1024 (m ((c : Thread nD τ).loc main_arg1)) shapeCasts_S4x1024_S4x1x1024 :=
  (StableHlo.after_last_write (i := 0) [main_v1] rfl rfl (by decide) _).trans
    (StableHlo.reshape_result (Val := Elt Ideal) main_arg1 main_v0 rfl shapeCasts_S4x1024_S4x1x1024 _ _ _)

theorem V_v1 : V m c main_v1 = (m ((c : Thread nD τ).loc main_arg4) : Vec Ideal S1024x1024 .f32) :=
  (StableHlo.after_last_write (i := 1) [] rfl rfl (by decide) _).trans
    (StableHlo.unary_result (Val := Elt Ideal) main_arg4 main_v1 _ _ _ _)

/-- The gate's row read through its added axis. -/
theorem gate_read (x : Vec Ideal S4x1024 .f32) (n : Fin 4) (d : Fin 1024) :
    shapeCast S4x1x1024 x shapeCasts_S4x1024_S4x1x1024 (ix3 n 0 d) = x (ix2 n d) := by
  pointwise

/-- An element of the result, from the arguments. -/
def element (x : Vec Ideal S4x8192x1024 .f32) (g : Vec Ideal S4x1024 .f32) (a b : Vec Ideal S4x8192x512 .bf16)
    (w : Vec Ideal S1024x1024 .f32) (n : Fin 4) (p : Fin 8192) (f : Fin 1024) : EReal :=
  Proj.out (x (ix3 n p f)) (g (ix2 n f)) (fun k => a (ix3 n p k)) (fun k => w (ix2 (⟨k.val, by omega⟩ : Fin 1024) f))
    (fun k => b (ix3 n p k)) fun k : Fin 512 => w (ix2 (⟨512 + k.val, by omega⟩ : Fin 1024) f)

/-- The result array the kernel leaves. -/
def result : Vec Ideal S4x8192x1024 .f32 := fun y =>
  element (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1) (y 2)

variable (t : Fin cfg0.N)

theorem co0 : ((grid0.coords t) 0).val < 4 := ((grid0.coords t) 0).isLt
theorem co1 : ((grid0.coords t) 1).val < 16 := ((grid0.coords t) 1).isLt
theorem toNat_small (a : ℕ) (h : a < 16) : (BitVec.ofNat 32 a).toNat = a := WordCmp.toNat_ofNat_of_lt (by omega)

/-- A point's blocks of the five inputs. -/
abbrev b0 : Vec Ideal S1x512x1024 .f32 := iblk m c 0 t
abbrev b1 : Vec Ideal S1x1x1024 .f32 := iblk m c 1 t
abbrev b2 : Vec Ideal S1x512x512 .bf16 := iblk m c 2 t
abbrev b3 : Vec Ideal S1x512x512 .bf16 := iblk m c 3 t
abbrev b4 : Vec Ideal S1024x1024 .bf16 := iblk m c 4 t

theorem b0_read (r : Fin 512) (d : Fin 1024) : b0 m c t (ix3 0 r d) =
    (m ((c : Thread nD τ).loc main_arg0) : Vec Ideal S4x8192x1024 .f32)
      (ix3 (⟨_, co0 t⟩ : Fin 4) (⟨512 * ((grid0.coords t) 1).val + r.val, by have := co1 t; omega⟩ : Fin 8192) d) := by
  have h0 := co0 t; have h1 := co1 t
  unfold b0 iblk
  rw [View.read_apply]
  refine (congrFun (V_main_arg0 m c) _).trans (congrArg (m ((c : Thread nD τ).loc main_arg0)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 1024 + 1 * d.val = d.val
    omega

theorem b1_read (d : Fin 1024) : b1 m c t (ix3 0 0 d) =
    (m ((c : Thread nD τ).loc main_arg1) : Vec Ideal S4x1024 .f32) (ix2 (⟨_, co0 t⟩ : Fin 4) d) := by
  have h0 := co0 t
  refine Eq.trans ?_ (gate_read _ _ _)
  unfold b1 iblk
  rw [View.read_apply]
  refine (congrFun (V_v0 m c) _).trans (congrArg (shapeCast S4x1x1024 _ shapeCasts_S4x1024_S4x1x1024) (funext fun a => Fin.ext ?_))
  fin_cases a
  · show (BitVec.ofNat 32 ((grid0.coords t) 0).val).toNat * 1 + 1 * 0 = ((grid0.coords t) 0).val
    rw [toNat_small _ (by omega)]; omega
  · rfl
  · show 0 * 1024 + 1 * d.val = d.val
    omega

theorem b2_read (r d : Fin 512) : b2 m c t (ix3 0 r d) =
    (m ((c : Thread nD τ).loc main_arg2) : Vec Ideal S4x8192x512 .bf16)
      (ix3 (⟨_, co0 t⟩ : Fin 4) (⟨512 * ((grid0.coords t) 1).val + r.val, by have := co1 t; omega⟩ : Fin 8192) d) := by
  have h0 := co0 t; have h1 := co1 t
  unfold b2 iblk
  rw [View.read_apply]
  refine (congrFun (V_main_arg2 m c) _).trans (congrArg (m ((c : Thread nD τ).loc main_arg2)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 512 + 1 * d.val = d.val
    omega

theorem b3_read (r d : Fin 512) : b3 m c t (ix3 0 r d) =
    (m ((c : Thread nD τ).loc main_arg3) : Vec Ideal S4x8192x512 .bf16)
      (ix3 (⟨_, co0 t⟩ : Fin 4) (⟨512 * ((grid0.coords t) 1).val + r.val, by have := co1 t; omega⟩ : Fin 8192) d) := by
  have h0 := co0 t; have h1 := co1 t
  unfold b3 iblk
  rw [View.read_apply]
  refine (congrFun (V_main_arg3 m c) _).trans (congrArg (m ((c : Thread nD τ).loc main_arg3)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 512 + 1 * d.val = d.val
    omega

theorem b4_read (k f : Fin 1024) : b4 m c t (ix2 k f) =
    (m ((c : Thread nD τ).loc main_arg4) : Vec Ideal S1024x1024 .f32) (ix2 k f) := by
  unfold b4 iblk
  rw [View.read_apply]
  refine (congrFun (V_v1 m c) _).trans (congrArg (m ((c : Thread nD τ).loc main_arg4)) (funext fun a => Fin.ext ?_))
  fin_cases a
  · show 0 * 1024 + 1 * k.val = k.val
    omega
  · show 0 * 1024 + 1 * f.val = f.val
    omega

/-- What a grid point writes back is its block of the result. -/
theorem flushed_eq (hf : (cfg0.win 5).flush t = true) :
    (dats m 0 c).flushed 5 t = ((cfg0.win 5).blk t).view.read (Elt Ideal) (result m c) := by
  have h0 := co0 t; have h1 := co1 t
  rw [Value.flushed5]
  refine funext fun (y : S1x512x1024.Idx) => ?_
  obtain ⟨r, f, rfl⟩ : ∃ (r : Fin 512) (f : Fin 1024), y = ix3 (0 : Fin 1) r f :=
    ⟨y 1, y 2, (eq_ix3 y).trans (congrArg (fun z : Fin 1 => ix3 z (y 1 : Fin 512) (y 2 : Fin 1024)) (Subsingleton.elim _ _))⟩
  refine (out_read (b0 m c t) (b1 m c t) (b2 m c t) (b3 m c t) (b4 m c t) r f).trans ?_
  simp only [b0_read, b1_read, b2_read, b3_read, b4_read]
  rw [View.read_apply]
  have e0 : (((cfg0.win 5).blk t).view.emb (ix3 0 r f) 0 : Fin 4) = ⟨_, co0 t⟩ := Fin.ext (by
    show (BitVec.ofNat 32 ((grid0.coords t) 0).val).toNat * 1 + 1 * 0 = ((grid0.coords t) 0).val
    rw [toNat_small _ (by omega)]; omega)
  have e1 : (((cfg0.win 5).blk t).view.emb (ix3 0 r f) 1 : Fin 8192) = (⟨512 * ((grid0.coords t) 1).val + r.val, by omega⟩ : Fin 8192) := Fin.ext (by
    show (BitVec.ofNat 32 ((grid0.coords t) 1).val).toNat * 512 + 1 * r.val = _ + r.val
    rw [toNat_small _ (by omega)]; omega)
  have e2 : (((cfg0.win 5).blk t).view.emb (ix3 0 r f) 2 : Fin 1024) = f := Fin.ext (by
    show 0 * 1024 + 1 * f.val = f.val
    omega)
  refine Eq.trans ?_ (show result m c (((cfg0.win 5).blk t).view.emb (ix3 0 r f)) = _ from rfl)
  unfold result
  rw [e0, e1, e2]
  rfl

/-- The blocks cover the array, so it ends holding the result. -/
theorem final : (dats m 0 c).arrAt 5 cfg0.N = result m c := by
  refine (dats m 0 c).arrAt_eq_of_cover 5 (result m c) (fun t hf => flushed_eq m c t hf) fun y => ?_
  have y0 : (y 0).val < 4 := (y 0).isLt
  have y1 : (y 1).val < 8192 := (y 1).isLt
  have y2 : (y 2).val < 1024 := (y 2).isLt
  obtain ⟨t, ht⟩ := Pipeline.Grid.coords_surjective grid0 (fun a => match a with
    | ⟨0, _⟩ => ⟨(y 0).val, y0⟩ | ⟨1, _⟩ => ⟨(y 1).val / 512, by show _ < 16; omega⟩)
  have t0 : ((grid0.coords t) 0).val = (y 0).val := by rw [ht]
  have t1 : ((grid0.coords t) 1).val = (y 1).val / 512 := by rw [ht]
  refine ⟨t, flush0_5 t, ?_⟩
  show y ∈ ((View.whole main_v2).slice (win0_5.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 512 ≤ (y 1).val ∧ (y 1).val < (BitVec.ofNat 32 ((grid0.coords t) 1).val).toNat * 512 + 512
    rw [toNat_small _ (by omega)]; omega
  · show 0 * 1024 ≤ (y 2).val ∧ (y 2).val < 0 * 1024 + 1024
    omega

end Cert.Kernel4Ideal.Block
-- ==== Proof.OddOutRef.lean ====
module
public import proofs.«01_k».proof.Proof.OutRow
public import proofs.«01_k».proof.Proof.Gen.Reference4Ideal.Read
@[expose] public section
set_option maxRecDepth 16384
noncomputable section

/-! The output projection's reference (differential and sparse heads), read element by element. -/

namespace Cert.Reference4Ideal.Element
open Idealize.ShloMosaic Idealize.SL.Sem Cert.Reference4Ideal Cert.Reference4Ideal.Read Cert.Reference4Ideal.Gen

variable (x0 : (⟨S4x8192x1024, .f32⟩ : BufTy).Contents (Elt Ideal)) (x1 : (⟨S4x1024, .f32⟩ : BufTy).Contents (Elt Ideal))
  (x2 x3 : (⟨S4x8192x512, .bf16⟩ : BufTy).Contents (Elt Ideal)) (x4 : (⟨S1024x1024, .f32⟩ : BufTy).Contents (Elt Ideal))

/-- An element of the reference's result. -/
theorem result_read (n : Fin 4) (p : Fin 8192) (f : Fin 1024) :
    (val_main_v6 (F := Ideal) x0 x1 x2 x3 x4 (ix3 n p f) : EReal) =
      Proj.out (x0 (ix3 n p f)) (x1 (ix2 n f)) (fun k => x2 (ix3 n p k)) (fun k => x4 (ix2 (⟨k.val, by omega⟩ : Fin 1024) f))
        (fun k => x3 (ix3 n p k)) fun k : Fin 512 => x4 (ix2 (⟨512 + k.val, by omega⟩ : Fin 1024) f) := by
  have h4 : (val_main_v4 (F := Ideal) x1 (ix3 n p f) : EReal) = x1 (ix2 n f) := by
    rw [val_main_v4_apply, val_main_v2_apply]; exact congrArg x1 (eq_ix2 _)
  have h3 : (val_main_v3 (F := Ideal) x2 x3 x4 (ix3 n p f) : EReal) =
      ∑ k : Fin 512, (x2 (ix3 n p k) : EReal) * x4 (ix2 (⟨k.val, by omega⟩ : Fin 1024) f)
        + ∑ k : Fin 512, (x3 (ix3 n p k) : EReal) * x4 (ix2 (⟨512 + k.val, by omega⟩ : Fin 1024) f) := by
    rw [val_main_v3_apply]
    refine (Proj.sum_joined (q := 512) _).trans (congrArg₂ (· + ·) ?_ ?_)
    · refine Finset.sum_congr rfl fun k _ => ?_
      refine congrArg₂ (fun a b : EReal => a * b) ?_ (congrArg x4 (eq_ix2 _))
      exact (congrArg (val_main_v0 (F := Ideal) x2 x3) (eq_ix3 _)).trans (Proj.join_first x2 x3 _ n p k _)
    · refine Finset.sum_congr rfl fun k _ => ?_
      refine congrArg₂ (fun a b : EReal => a * b) ?_ (congrArg x4 (eq_ix2 _))
      exact (congrArg (val_main_v0 (F := Ideal) x2 x3) (eq_ix3 _)).trans (Proj.join_second x2 x3 _ n p k _)
  unfold Proj.out
  rw [← h3, ← h4]
  rfl

end Cert.Reference4Ideal.Element
-- ==== Proof.EvenOut.lean ====
module
public import proofs.«01_k».proof.Proof.Gen.Kernel5Ideal.Value
public import proofs.«01_k».proof.Proof.OutRow
public import Idealize.ShloMosaic.Lib.WordCmp
public import Idealize.ShloMosaic.Lib.Pipeline.Covers
public import Idealize.ShloMosaic.Lib.StableHlo.RunRead
@[expose] public section
set_option maxRecDepth 16384
noncomputable section
namespace Cert.Kernel5Ideal.Block
open Cert.Kernel5Ideal Cert.Kernel5Ideal.Gen Idealize.ShloMosaic Idealize.ShloMosaic.TcCoe Idealize.SL.Sem

/-- The mixed outputs of the three dilations. -/
theorem pay3_read (l0 l1 l2 o0 o1 o2 : Vec Ideal S1x512x256 .f32) (r : Fin 512) (e : Fin 256) :
    k0_pay3 l0 l1 l2 o0 o1 o2 (ix2 r e) = Proj.mix ![l0 (ix3 0 r e), l1 (ix3 0 r e), l2 (ix3 0 r e)]
      ![o0 (ix3 0 r e), o1 (ix3 0 r e), o2 (ix3 0 r e)] := by
  pointwise [k0_pay3]
  rfl

theorem pay2_read (a : Vec Ideal S1x512x512 .bf16) (wa : Vec Ideal S512x1024 .bf16) (r : Fin 512) (f : Fin 1024) :
    k0_pay2 a wa (ix2 r f) = ∑ k : Fin 512, a (ix3 0 r k) * wa (ix2 k f) := by
  pointwise [k0_pay2]

theorem pay1_read (z : FVec Ideal S512x1024 .f32) (b : FVec Ideal S512x256 .bf16) (wb : Vec Ideal S256x1024 .bf16)
    (x : Vec Ideal S1x512x1024 .f32) (g : Vec Ideal S1x1x1024 .f32) (r : Fin 512) (f : Fin 1024) :
    k0_pay1 z b wb x g (ix3 0 r f) =
      x (ix3 0 r f) + g (ix3 0 0 f) * (z (ix2 r f) + ∑ k : Fin 256, b (ix2 r k) * wb (ix2 k f)) := by
  pointwise [k0_pay1]

/-- The rows of the weights the first group meets. -/
theorem ld_wa (x : Vec Ideal S768x1024 .bf16) (inb) (k : Fin 512) (f : Fin 1024) :
    View.ld x (Rect.unit (s := S768x1024) ![0, 0] S512x1024.size inb) (ix2 k f) = x (ix2 (⟨k.val, by omega⟩ : Fin 768) f) := by
  refine congrArg x (funext fun a => Fin.ext ?_)
  fin_cases a
  · show 0 + 1 * k.val = k.val; omega
  · show 0 + 1 * f.val = f.val; omega

/-- And the second group. -/
theorem ld_wb (x : Vec Ideal S768x1024 .bf16) (inb) (k : Fin 256) (f : Fin 1024) :
    View.ld x (Rect.unit (s := S768x1024) ![512, 0] S256x1024.size inb) (ix2 k f) = x (ix2 (⟨512 + k.val, by omega⟩ : Fin 768) f) := by
  refine congrArg x (funext fun a => Fin.ext ?_)
  fin_cases a
  · show 512 + 1 * k.val = 512 + k.val; omega
  · show 0 + 1 * f.val = f.val; omega

/-- What the body stores, element by element. -/
theorem out_read (x0 : Vec Ideal S1x512x1024 .f32) (x1 : Vec Ideal S1x1x1024 .f32) (x2 : Vec Ideal S1x512x512 .bf16)
    (x3 x4 x5 x6 x7 x8 : Vec Ideal S1x512x256 .f32) (x9 : Vec Ideal S768x1024 .bf16) (r : Fin 512) (f : Fin 1024) :
    out0_10 x0 x1 x2 x3 x4 x5 x6 x7 x8 x9 (ix3 0 r f) = Proj.out (x0 (ix3 0 r f)) (x1 (ix3 0 0 f)) (fun k => x2 (ix3 0 r k))
      (fun k => x9 (ix2 (⟨k.val, by omega⟩ : Fin 768) f))
      (fun k => Proj.mix ![x6 (ix3 0 r k), x7 (ix3 0 r k), x8 (ix3 0 r k)] ![x3 (ix3 0 r k), x4 (ix3 0 r k), x5 (ix3 0 r k)])
      fun k : Fin 256 => x9 (ix2 (⟨512 + k.val, by omega⟩ : Fin 768) f) := by
  have e0 : View.ld x0 r0_4 = x0 := View.ld_unit_zero (funext fun a => by fin_cases a <;> rfl) _ _
  have e1 : View.ld x1 r0_5 = x1 := View.ld_unit_zero (funext fun a => by fin_cases a <;> rfl) _ _
  have e2 : View.ld x2 r0_1 = x2 := View.ld_unit_zero (funext fun a => by fin_cases a <;> rfl) _ _
  have e3 : ∀ z : Vec Ideal S1x512x256 .f32, View.ld z r0_0 = z := fun z =>
    View.ld_unit_zero (funext fun a => by fin_cases a <;> rfl) _ _
  unfold out0_10
  rw [View.canon_unit_zero (funext fun a => by fin_cases a <;> rfl), e0, e1, e2, e3, e3, e3, e3, e3, e3, pay1_read, pay2_read]
  have e9 : ∀ (k : Fin 512) (f : Fin 1024), View.ld x9 r0_2 (ix2 k f) = x9 (ix2 (⟨k.val, by omega⟩ : Fin 768) f) := fun k f => ld_wa x9 _ k f
  have e9' : ∀ (k : Fin 256) (f : Fin 1024), View.ld x9 r0_3 (ix2 k f) = x9 (ix2 (⟨512 + k.val, by omega⟩ : Fin 768) f) := fun k f => ld_wb x9 _ k f
  simp only [e9, e9', pay3_read]
  rfl

variable (m : (ℓ : Loc nD τ sig) → Buf (Elt Ideal) ℓ) (c : Dev nD)

/-! The arrays the kernel's region finds: the arguments, reshaped or cast. -/

theorem V_v0 : V m c main_v0 = shapeCast S4x1x1024 (m ((c : Thread nD τ).loc main_arg1)) shapeCasts_S4x1024_S4x1x1024 :=
  (StableHlo.after_last_write (i := 0) [main_v1] rfl rfl (by decide) _).trans
    (StableHlo.reshape_result (Val := Elt Ideal) main_arg1 main_v0 rfl shapeCasts_S4x1024_S4x1x1024 _ _ _)

theorem V_v1 : V m c main_v1 = (m ((c : Thread nD τ).loc main_arg9) : Vec Ideal S768x1024 .f32) :=
  (StableHlo.after_last_write (i := 1) [] rfl rfl (by decide) _).trans
    (StableHlo.unary_result (Val := Elt Ideal) main_arg9 main_v1 _ _ _ _)

/-- The gate's row read through its added axis. -/
theorem gate_read (x : Vec Ideal S4x1024 .f32) (n : Fin 4) (d : Fin 1024) :
    shapeCast S4x1x1024 x shapeCasts_S4x1024_S4x1x1024 (ix3 n 0 d) = x (ix2 n d) := by
  pointwise

/-- An element of the result, from the arguments. -/
def element (x : Vec Ideal S4x8192x1024 .f32) (g : Vec Ideal S4x1024 .f32) (a : Vec Ideal S4x8192x512 .bf16)
    (o0 o1 o2 l0 l1 l2 : Vec Ideal S4x8192x256 .f32) (w : Vec Ideal S768x1024 .f32) (n : Fin 4) (p : Fin 8192) (f : Fin 1024) : EReal :=
  Proj.out (x (ix3 n p f)) (g (ix2 n f)) (fun k => a (ix3 n p k)) (fun k => w (ix2 (⟨k.val, by omega⟩ : Fin 768) f))
    (fun k => Proj.mix ![l0 (ix3 n p k), l1 (ix3 n p k), l2 (ix3 n p k)] ![o0 (ix3 n p k), o1 (ix3 n p k), o2 (ix3 n p k)])
    fun k : Fin 256 => w (ix2 (⟨512 + k.val, by omega⟩ : Fin 768) f)

/-- The result array the kernel leaves. -/
def result : Vec Ideal S4x8192x1024 .f32 := fun y =>
  element (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (y 0) (y 1) (y 2)

variable (t : Fin cfg0.N)

theorem co0 : ((grid0.coords t) 0).val < 4 := ((grid0.coords t) 0).isLt
theorem co1 : ((grid0.coords t) 1).val < 16 := ((grid0.coords t) 1).isLt
theorem toNat_small (a : ℕ) (h : a < 16) : (BitVec.ofNat 32 a).toNat = a := WordCmp.toNat_ofNat_of_lt (by omega)

/-- A point's blocks of the ten inputs. -/
abbrev b0 : Vec Ideal S1x512x1024 .f32 := iblk m c 0 t
abbrev b1 : Vec Ideal S1x1x1024 .f32 := iblk m c 1 t
abbrev b2 : Vec Ideal S1x512x512 .bf16 := iblk m c 2 t
abbrev b3 : Vec Ideal S1x512x256 .f32 := iblk m c 3 t
abbrev b4 : Vec Ideal S1x512x256 .f32 := iblk m c 4 t
abbrev b5 : Vec Ideal S1x512x256 .f32 := iblk m c 5 t
abbrev b6 : Vec Ideal S1x512x256 .f32 := iblk m c 6 t
abbrev b7 : Vec Ideal S1x512x256 .f32 := iblk m c 7 t
abbrev b8 : Vec Ideal S1x512x256 .f32 := iblk m c 8 t
abbrev b9 : Vec Ideal S768x1024 .bf16 := iblk m c 9 t

theorem b0_read (r : Fin 512) (d : Fin 1024) : b0 m c t (ix3 0 r d) =
    (m ((c : Thread nD τ).loc main_arg0) : Vec Ideal S4x8192x1024 .f32)
      (ix3 (⟨_, co0 t⟩ : Fin 4) (⟨512 * ((grid0.coords t) 1).val + r.val, by have := co1 t; omega⟩ : Fin 8192) d) := by
  have h0 := co0 t; have h1 := co1 t
  unfold b0 iblk
  rw [View.read_apply]
  refine (congrFun (V_main_arg0 m c) _).trans (congrArg (m ((c : Thread nD τ).loc main_arg0)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 1024 + 1 * d.val = d.val
    omega

theorem b1_read (d : Fin 1024) : b1 m c t (ix3 0 0 d) =
    (m ((c : Thread nD τ).loc main_arg1) : Vec Ideal S4x1024 .f32) (ix2 (⟨_, co0 t⟩ : Fin 4) d) := by
  have h0 := co0 t
  refine Eq.trans ?_ (gate_read _ _ _)
  unfold b1 iblk
  rw [View.read_apply]
  refine (congrFun (V_v0 m c) _).trans (congrArg (shapeCast S4x1x1024 _ shapeCasts_S4x1024_S4x1x1024) (funext fun a => Fin.ext ?_))
  fin_cases a
  · show (BitVec.ofNat 32 ((grid0.coords t) 0).val).toNat * 1 + 1 * 0 = ((grid0.coords t) 0).val
    rw [toNat_small _ (by omega)]; omega
  · rfl
  · show 0 * 1024 + 1 * d.val = d.val
    omega

theorem b2_read (r d : Fin 512) : b2 m c t (ix3 0 r d) =
    (m ((c : Thread nD τ).loc main_arg2) : Vec Ideal S4x8192x512 .bf16)
      (ix3 (⟨_, co0 t⟩ : Fin 4) (⟨512 * ((grid0.coords t) 1).val + r.val, by have := co1 t; omega⟩ : Fin 8192) d) := by
  have h0 := co0 t; have h1 := co1 t
  unfold b2 iblk
  rw [View.read_apply]
  refine (congrFun (V_main_arg2 m c) _).trans (congrArg (m ((c : Thread nD τ).loc main_arg2)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 512 + 1 * d.val = d.val
    omega

theorem b3_read (r : Fin 512) (d : Fin 256) : b3 m c t (ix3 0 r d) =
    (m ((c : Thread nD τ).loc main_arg3) : Vec Ideal S4x8192x256 .f32)
      (ix3 (⟨_, co0 t⟩ : Fin 4) (⟨512 * ((grid0.coords t) 1).val + r.val, by have := co1 t; omega⟩ : Fin 8192) d) := by
  have h0 := co0 t; have h1 := co1 t
  unfold b3 iblk
  rw [View.read_apply]
  refine (congrFun (V_main_arg3 m c) _).trans (congrArg (m ((c : Thread nD τ).loc main_arg3)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 256 + 1 * d.val = d.val
    omega

theorem b4_read (r : Fin 512) (d : Fin 256) : b4 m c t (ix3 0 r d) =
    (m ((c : Thread nD τ).loc main_arg4) : Vec Ideal S4x8192x256 .f32)
      (ix3 (⟨_, co0 t⟩ : Fin 4) (⟨512 * ((grid0.coords t) 1).val + r.val, by have := co1 t; omega⟩ : Fin 8192) d) := by
  have h0 := co0 t; have h1 := co1 t
  unfold b4 iblk
  rw [View.read_apply]
  refine (congrFun (V_main_arg4 m c) _).trans (congrArg (m ((c : Thread nD τ).loc main_arg4)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 256 + 1 * d.val = d.val
    omega

theorem b5_read (r : Fin 512) (d : Fin 256) : b5 m c t (ix3 0 r d) =
    (m ((c : Thread nD τ).loc main_arg5) : Vec Ideal S4x8192x256 .f32)
      (ix3 (⟨_, co0 t⟩ : Fin 4) (⟨512 * ((grid0.coords t) 1).val + r.val, by have := co1 t; omega⟩ : Fin 8192) d) := by
  have h0 := co0 t; have h1 := co1 t
  unfold b5 iblk
  rw [View.read_apply]
  refine (congrFun (V_main_arg5 m c) _).trans (congrArg (m ((c : Thread nD τ).loc main_arg5)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 256 + 1 * d.val = d.val
    omega

theorem b6_read (r : Fin 512) (d : Fin 256) : b6 m c t (ix3 0 r d) =
    (m ((c : Thread nD τ).loc main_arg6) : Vec Ideal S4x8192x256 .f32)
      (ix3 (⟨_, co0 t⟩ : Fin 4) (⟨512 * ((grid0.coords t) 1).val + r.val, by have := co1 t; omega⟩ : Fin 8192) d) := by
  have h0 := co0 t; have h1 := co1 t
  unfold b6 iblk
  rw [View.read_apply]
  refine (congrFun (V_main_arg6 m c) _).trans (congrArg (m ((c : Thread nD τ).loc main_arg6)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 256 + 1 * d.val = d.val
    omega

theorem b7_read (r : Fin 512) (d : Fin 256) : b7 m c t (ix3 0 r d) =
    (m ((c : Thread nD τ).loc main_arg7) : Vec Ideal S4x8192x256 .f32)
      (ix3 (⟨_, co0 t⟩ : Fin 4) (⟨512 * ((grid0.coords t) 1).val + r.val, by have := co1 t; omega⟩ : Fin 8192) d) := by
  have h0 := co0 t; have h1 := co1 t
  unfold b7 iblk
  rw [View.read_apply]
  refine (congrFun (V_main_arg7 m c) _).trans (congrArg (m ((c : Thread nD τ).loc main_arg7)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 256 + 1 * d.val = d.val
    omega

theorem b8_read (r : Fin 512) (d : Fin 256) : b8 m c t (ix3 0 r d) =
    (m ((c : Thread nD τ).loc main_arg8) : Vec Ideal S4x8192x256 .f32)
      (ix3 (⟨_, co0 t⟩ : Fin 4) (⟨512 * ((grid0.coords t) 1).val + r.val, by have := co1 t; omega⟩ : Fin 8192) d) := by
  have h0 := co0 t; have h1 := co1 t
  unfold b8 iblk
  rw [View.read_apply]
  refine (congrFun (V_main_arg8 m c) _).trans (congrArg (m ((c : Thread nD τ).loc main_arg8)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 512 + 1 * r.val = _ + r.val
    rw [toNat_small _ (by omega)]; omega
  · show 0 * 256 + 1 * d.val = d.val
    omega

theorem b9_read (k : Fin 768) (f : Fin 1024) : b9 m c t (ix2 k f) =
    (m ((c : Thread nD τ).loc main_arg9) : Vec Ideal S768x1024 .f32) (ix2 k f) := by
  unfold b9 iblk
  rw [View.read_apply]
  refine (congrFun (V_v1 m c) _).trans (congrArg (m ((c : Thread nD τ).loc main_arg9)) (funext fun a => Fin.ext ?_))
  fin_cases a
  · show 0 * 768 + 1 * k.val = k.val
    omega
  · show 0 * 1024 + 1 * f.val = f.val
    omega

/-- What a grid point writes back is its block of the result. -/
theorem flushed_eq (hf : (cfg0.win 10).flush t = true) :
    (dats m 0 c).flushed 10 t = ((cfg0.win 10).blk t).view.read (Elt Ideal) (result m c) := by
  have h0 := co0 t; have h1 := co1 t
  rw [Value.flushed10]
  refine funext fun (y : S1x512x1024.Idx) => ?_
  obtain ⟨r, f, rfl⟩ : ∃ (r : Fin 512) (f : Fin 1024), y = ix3 (0 : Fin 1) r f :=
    ⟨y 1, y 2, (eq_ix3 y).trans (congrArg (fun z : Fin 1 => ix3 z (y 1 : Fin 512) (y 2 : Fin 1024)) (Subsingleton.elim _ _))⟩
  refine (out_read (b0 m c t) (b1 m c t) (b2 m c t) (b3 m c t) (b4 m c t) (b5 m c t) (b6 m c t) (b7 m c t) (b8 m c t) (b9 m c t) r f).trans ?_
  simp only [b0_read, b1_read, b2_read, b3_read, b4_read, b5_read, b6_read, b7_read, b8_read, b9_read]
  rw [View.read_apply]
  have e0 : (((cfg0.win 10).blk t).view.emb (ix3 0 r f) 0 : Fin 4) = ⟨_, co0 t⟩ := Fin.ext (by
    show (BitVec.ofNat 32 ((grid0.coords t) 0).val).toNat * 1 + 1 * 0 = ((grid0.coords t) 0).val
    rw [toNat_small _ (by omega)]; omega)
  have e1 : (((cfg0.win 10).blk t).view.emb (ix3 0 r f) 1 : Fin 8192) = (⟨512 * ((grid0.coords t) 1).val + r.val, by omega⟩ : Fin 8192) := Fin.ext (by
    show (BitVec.ofNat 32 ((grid0.coords t) 1).val).toNat * 512 + 1 * r.val = _ + r.val
    rw [toNat_small _ (by omega)]; omega)
  have e2 : (((cfg0.win 10).blk t).view.emb (ix3 0 r f) 2 : Fin 1024) = f := Fin.ext (by
    show 0 * 1024 + 1 * f.val = f.val
    omega)
  refine Eq.trans ?_ (show result m c (((cfg0.win 10).blk t).view.emb (ix3 0 r f)) = _ from rfl)
  unfold result
  rw [e0, e1, e2]
  rfl

/-- The blocks cover the array, so it ends holding the result. -/
theorem final : (dats m 0 c).arrAt 10 cfg0.N = result m c := by
  refine (dats m 0 c).arrAt_eq_of_cover 10 (result m c) (fun t hf => flushed_eq m c t hf) fun y => ?_
  have y0 : (y 0).val < 4 := (y 0).isLt
  have y1 : (y 1).val < 8192 := (y 1).isLt
  have y2 : (y 2).val < 1024 := (y 2).isLt
  obtain ⟨t, ht⟩ := Pipeline.Grid.coords_surjective grid0 (fun a => match a with
    | ⟨0, _⟩ => ⟨(y 0).val, y0⟩ | ⟨1, _⟩ => ⟨(y 1).val / 512, by show _ < 16; omega⟩)
  have t0 : ((grid0.coords t) 0).val = (y 0).val := by rw [ht]
  have t1 : ((grid0.coords t) 1).val = (y 1).val / 512 := by rw [ht]
  refine ⟨t, flush0_10 t, ?_⟩
  show y ∈ ((View.whole main_v2).slice (win0_10.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 512 ≤ (y 1).val ∧ (y 1).val < (BitVec.ofNat 32 ((grid0.coords t) 1).val).toNat * 512 + 512
    rw [toNat_small _ (by omega)]; omega
  · show 0 * 1024 ≤ (y 2).val ∧ (y 2).val < 0 * 1024 + 1024
    omega

end Cert.Kernel5Ideal.Block
-- ==== Proof.EvenOutRef.lean ====
module
public import proofs.«01_k».proof.Proof.RefRead
public import proofs.«01_k».proof.Proof.OutRow
public import proofs.«01_k».proof.Proof.Gen.Reference5Ideal.Read
public import proofs.«01_k».proof.Pre_finite_denominators
public import proofs.«01_k».proof.Proof.Finite
@[expose] public section
set_option maxRecDepth 16384
noncomputable section

/-! What the output projection's precondition says: every log-denominator is a real number. -/

namespace Cert.Pre_finite_denominators
open Idealize.ShloMosaic
open Cert.Pre_finite_scores (inf_bits real_of_abs)

theorem facts : Facts where
  bcast_S_S4x8192x256 := by decide
  reducesTo_S4x8192x256_S_d0_1_2 := by decide
  h_S_ := by decide

/-- One array's test holds only where all its elements are real numbers. -/
theorem all_real [Facts] (x : FVec Ideal S4x8192x256 .f32)
    (h : Host.reduce IntOp.andi (cmpf (F := Ideal) .olt (Host.absf x)
        (broadcastInDim S4x8192x256 ![] Facts.bcast_S_S4x8192x256 (constant S_ .f32 0x7F800000#32)))
      (constantI S_ 1 1#1) Facts.reducesTo_S4x8192x256_S_d0_1_2 Facts.h_S_ (fun a => a.elim0) = 1#1)
    (i : S4x8192x256.Idx) : ∃ r : ℝ, (x i : EReal) = r := by
  have : Subsingleton S_.Idx := ⟨fun a b => funext fun k => k.elim0⟩
  have hi : Ideal.cmp .olt (max (x i : EReal) (-(x i : EReal))) (Ideal.ofBits .f32 0x7F800000#32) = 1#1 :=
    Host.reduce_andi_all _ _ _ _ _ h i
  rw [inf_bits] at hi
  exact real_of_abs _ ((Ideal.cmp_olt_eq_one _ _).1 hi)

/-- Under the precondition every log-denominator is a real number. -/
theorem reals [Facts] (x : FVec Ideal S4x8192x1024 .f32) (g : FVec Ideal S4x1024 .f32) (a : FVec Ideal S4x8192x512 .bf16)
    (o0 o1 o2 l0 l1 l2 : FVec Ideal S4x8192x256 .f32) (w : FVec Ideal S768x1024 .f32)
    (h : fn (F := Ideal) x g a o0 o1 o2 l0 l1 l2 w = fun _ => 1#1) :
    (∀ i, ∃ r : ℝ, (l0 i : EReal) = r) ∧ (∀ i, ∃ r : ℝ, (l1 i : EReal) = r) ∧ ∀ i, ∃ r : ℝ, (l2 i : EReal) = r := by
  have h0 := congrFun h (fun a => a.elim0)
  have h1 := IntOp.andi_eq_one.1 h0
  have h2 := IntOp.andi_eq_one.1 h1.1
  exact ⟨all_real l0 h2.1, all_real l1 h2.2, all_real l2 h1.2⟩

end Cert.Pre_finite_denominators

/-! The output projection's reference (latent and dilated heads), read element by element. -/

namespace Cert.Reference5Ideal.Element
open Idealize.ShloMosaic Idealize.SL.Sem Cert.Reference5Ideal Cert.Reference5Ideal.Read Cert.Reference5Ideal.Gen
open Cert.ReferenceIdeal.Mla (two_bits negInf_bits log_two)

variable (x0 : (⟨S4x8192x1024, .f32⟩ : BufTy).Contents (Elt Ideal)) (x1 : (⟨S4x1024, .f32⟩ : BufTy).Contents (Elt Ideal))
  (x2 : (⟨S4x8192x512, .bf16⟩ : BufTy).Contents (Elt Ideal)) (x3 x4 x5 x6 x7 x8 : (⟨S4x8192x256, .f32⟩ : BufTy).Contents (Elt Ideal))
  (x9 : (⟨S768x1024, .f32⟩ : BufTy).Contents (Elt Ideal))

/-- The three log-denominators at a position. -/
abbrev logs (n : Fin 4) (p : Fin 8192) (e : Fin 256) : Fin 3 → EReal := ![x6 (ix3 n p e), x7 (ix3 n p e), x8 (ix3 n p e)]

theorem scaled_read (s : Fin 3) (n : Fin 4) (p : Fin 8192) (e : Fin 256) :
    (val_main_v6 (F := Ideal) x6 x7 x8 (ix4 s n p e) : EReal) = logs x6 x7 x8 n p e s * ((Real.log 2 : ℝ) : EReal) := by
  have h5 : (val_main_v5 (F := Ideal) (ix4 s n p e) : EReal) = ((Real.log 2 : ℝ) : EReal) := by
    rw [val_main_v5_apply, val_main_v4_apply, val_main_cst_apply, two_bits]; exact log_two
  have h3 : (val_main_v3 (F := Ideal) x6 x7 x8 (ix4 s n p e) : EReal) = logs x6 x7 x8 n p e s := by
    refine (Proj.stacked ![val_main_v0 (F := Ideal) x6, val_main_v1 (F := Ideal) x7, val_main_v2 (F := Ideal) x8] _ s n p e).trans ?_
    fin_cases s
    · exact (val_main_v0_apply x6 _).trans (congrArg x6 (eq_ix3 _))
    · exact (val_main_v1_apply x7 _).trans (congrArg x7 (eq_ix3 _))
    · exact (val_main_v2_apply x8 _).trans (congrArg x8 (eq_ix3 _))
  rw [val_main_v6_apply, h5, h3]; rfl

theorem top_read (n : Fin 4) (p : Fin 8192) (e : Fin 256) : (val_main_v9 (F := Ideal) x6 x7 x8 (ix3 n p e) : EReal) =
    Finset.univ.sup fun s => logs x6 x7 x8 n p e s * ((Real.log 2 : ℝ) : EReal) := by
  have h8 : (val_main_v8 (F := Ideal) (ix3 n p e) : EReal) = ⊥ := by
    rw [val_main_v8_apply]; exact negInf_bits
  have hr : S3x4x8192x256.Reduces [0] S4x8192x256 := by decide
  have h7 : (val_main_v7 (F := Ideal) x6 x7 x8 (ix3 n p e) : EReal)
      = Finset.univ.sup fun s => (val_main_v6 (F := Ideal) x6 x7 x8 (ix4 s n p e) : EReal) := by
    unfold val_main_v7
    rw [Host.reduce_eq_fold_single _ _ _ _ hr]
    rw [show (val_main_cst_0 (F := Ideal) (Shape.Idx.first h_S_) : EReal) = ⊥ from negInf_bits]
    refine Finset.sup_congr rfl fun (s : Fin 3) _ => ?_
    exact congrArg (val_main_v6 (F := Ideal) x6 x7 x8) (eq_ix4 (hr.lift (ix3 n p e) s))
  rw [val_main_v9_apply]
  show max (val_main_v8 (F := Ideal) (ix3 n p e) : EReal) (val_main_v7 (F := Ideal) x6 x7 x8 (ix3 n p e)) = _
  rw [h8, h7, max_eq_right bot_le]
  simp only [scaled_read]

theorem exp_read (s : Fin 3) (n : Fin 4) (p : Fin 8192) (e : Fin 256) :
    (val_main_v13 (F := Ideal) x6 x7 x8 (ix4 s n p e) : EReal) =
      Ideal.exp (logs x6 x7 x8 n p e s * (Real.log 2 : ℝ) - Finset.univ.sup fun s => logs x6 x7 x8 n p e s * ((Real.log 2 : ℝ) : EReal)) := by
  have h11 : (val_main_v11 (F := Ideal) x6 x7 x8 (ix4 s n p e) : EReal) =
      Finset.univ.sup fun s => logs x6 x7 x8 n p e s * ((Real.log 2 : ℝ) : EReal) := by
    rw [val_main_v11_apply, val_main_v10_apply, ← top_read]
    exact congrArg (val_main_v9 (F := Ideal) x6 x7 x8) (eq_ix3 _)
  rw [val_main_v13_apply, val_main_v12_apply, h11, scaled_read]; rfl

/-- The mixed outputs of the three dilations. -/
theorem mix_read (n : Fin 4) (p : Fin 8192) (e : Fin 256) (hl : ∀ s, ∃ r : ℝ, logs x6 x7 x8 n p e s = r) :
    (val_main_v23 (F := Ideal) x3 x4 x5 x6 x7 x8 (ix3 n p e) : EReal) =
      Proj.mix (logs x6 x7 x8 n p e) ![x3 (ix3 n p e), x4 (ix3 n p e), x5 (ix3 n p e)] := by
  rw [val_main_v23_apply, show (val_main_cst_3 (F := Ideal) (Shape.Idx.first h_S_) : EReal) = 0 from Ideal.ofBits_zero .f32, zero_add,
    ← Proj.mix_eq _ _ hl]
  refine Finset.sum_congr rfl fun s _ => ?_
  rw [show idx_main_v23 (ix3 n p e) s = ix4 s n p e from eq_ix4 _, val_main_v22_apply, val_main_v17_apply, exp_read]
  have h16 : (val_main_v16 (F := Ideal) x6 x7 x8 (ix4 s n p e) : EReal) = ∑ s, Ideal.exp (logs x6 x7 x8 n p e s * (Real.log 2 : ℝ)
      - Finset.univ.sup fun s => logs x6 x7 x8 n p e s * ((Real.log 2 : ℝ) : EReal)) := by
    rw [val_main_v16_apply, val_main_v15_apply, val_main_v14_apply,
      show (val_main_cst_2 (F := Ideal) (Shape.Idx.first h_S_) : EReal) = 0 from Ideal.ofBits_zero .f32, zero_add]
    refine Finset.sum_congr rfl fun k _ => ?_
    rw [← exp_read]
    exact congrArg (val_main_v13 (F := Ideal) x6 x7 x8) (eq_ix4 _)
  have h21 : (val_main_v21 (F := Ideal) x3 x4 x5 (ix4 s n p e) : EReal) =
      (![x3 (ix3 n p e), x4 (ix3 n p e), x5 (ix3 n p e)] : Fin 3 → EReal) s := by
    refine (Proj.stacked ![val_main_v18 (F := Ideal) x3, val_main_v19 (F := Ideal) x4, val_main_v20 (F := Ideal) x5] _ s n p e).trans ?_
    fin_cases s
    · exact (val_main_v18_apply x3 _).trans (congrArg x3 (eq_ix3 _))
    · exact (val_main_v19_apply x4 _).trans (congrArg x4 (eq_ix3 _))
    · exact (val_main_v20_apply x5 _).trans (congrArg x5 (eq_ix3 _))
  rw [h16, h21]
  rfl

/-- An element of the reference's result. -/
theorem result_read (h6 : ∀ i, ∃ r : ℝ, (x6 i : EReal) = r) (h7 : ∀ i, ∃ r : ℝ, (x7 i : EReal) = r)
    (h8 : ∀ i, ∃ r : ℝ, (x8 i : EReal) = r) (n : Fin 4) (p : Fin 8192) (f : Fin 1024) :
    (val_main_v30 (F := Ideal) x0 x1 x2 x3 x4 x5 x6 x7 x8 x9 (ix3 n p f) : EReal) =
      Proj.out (x0 (ix3 n p f)) (x1 (ix2 n f)) (fun k => x2 (ix3 n p k)) (fun k => x9 (ix2 (⟨k.val, by omega⟩ : Fin 768) f))
        (fun k => Proj.mix ![x6 (ix3 n p k), x7 (ix3 n p k), x8 (ix3 n p k)] ![x3 (ix3 n p k), x4 (ix3 n p k), x5 (ix3 n p k)])
        fun k : Fin 256 => x9 (ix2 (⟨512 + k.val, by omega⟩ : Fin 768) f) := by
  have hg : (val_main_v28 (F := Ideal) x1 (ix3 n p f) : EReal) = x1 (ix2 n f) := by
    rw [val_main_v28_apply, val_main_v26_apply]; exact congrArg x1 (eq_ix2 _)
  have hd : (val_main_v27 (F := Ideal) x2 x3 x4 x5 x6 x7 x8 x9 (ix3 n p f) : EReal) =
      ∑ k : Fin 512, (x2 (ix3 n p k) : EReal) * x9 (ix2 (⟨k.val, by omega⟩ : Fin 768) f)
        + ∑ k : Fin 256, Proj.mix ![x6 (ix3 n p k), x7 (ix3 n p k), x8 (ix3 n p k)] ![x3 (ix3 n p k), x4 (ix3 n p k), x5 (ix3 n p k)]
          * x9 (ix2 (⟨512 + k.val, by omega⟩ : Fin 768) f) := by
    rw [val_main_v27_apply]
    refine (Proj.sum_joined (q := 256) _).trans (congrArg₂ (· + ·) ?_ ?_)
    · refine Finset.sum_congr rfl fun k _ => ?_
      refine congrArg₂ (fun a b : EReal => a * b) ?_ (congrArg x9 (eq_ix2 _))
      exact (congrArg (val_main_v25 (F := Ideal) x2 x3 x4 x5 x6 x7 x8) (eq_ix3 _)).trans
        (Proj.join_first (val_main_v24 (F := Ideal) x2) (val_main_v23 (F := Ideal) x3 x4 x5 x6 x7 x8) _ n p k _)
    · refine Finset.sum_congr rfl fun k _ => ?_
      refine congrArg₂ (fun a b : EReal => a * b) ?_ (congrArg x9 (eq_ix2 _))
      have hj : (val_main_v25 (F := Ideal) x2 x3 x4 x5 x6 x7 x8 (lidx_main_v27 (ix3 n p f) (⟨512 + k.val, by omega⟩ : Fin 768)) : EReal)
          = val_main_v23 (F := Ideal) x3 x4 x5 x6 x7 x8 (ix3 n p k) :=
        (congrArg (val_main_v25 (F := Ideal) x2 x3 x4 x5 x6 x7 x8) (eq_ix3 _)).trans
          (Proj.join_second (val_main_v24 (F := Ideal) x2) (val_main_v23 (F := Ideal) x3 x4 x5 x6 x7 x8) _ n p k _)
      refine hj.trans ?_
      refine mix_read x3 x4 x5 x6 x7 x8 n p k fun s => ?_
      fin_cases s
      · exact h6 _
      · exact h7 _
      · exact h8 _
  unfold Proj.out
  rw [← hd, ← hg]
  rfl

end Cert.Reference5Ideal.Element
-- ==== Proof.DiffRow.lean ====
module
public import proofs.«01_k».proof.Proof.Softmax
@[expose] public section
noncomputable section
/-! The differential attention, element by element: two softmaxes of the same values, the second's share taken off the
first's, and the norm of the difference. -/
namespace Differ
open Idealize.ShloMosaic Running

/-- The scores of position `p` in stream `s` of head `h` in batch `n`, by blocks of 512 key positions; those of later
positions are minus infinity. -/
def gX (Q K : Fin 4 → Fin 8192 → Fin 512 → EReal) (n : Fin 4) (h : Fin 4) (s : Fin 2) (p : Fin 8192) : ℕ → Fin 512 → EReal := fun j o =>
  if hj : j < 16 then
    if 512 * j + o.val ≤ p.val then
      ∑ d : Fin 64, Q n p ⟨128 * h.val + 64 * s.val + d.val, by omega⟩ * K n ⟨512 * j + o.val, by omega⟩ ⟨128 * h.val + 64 * s.val + d.val, by omega⟩
    else ⊥
  else ⊥

/-- Column `e` of the values of head `h` in batch `n`, by blocks of 512 key positions. -/
def gW (V : Fin 4 → Fin 8192 → Fin 512 → EReal) (n : Fin 4) (h : Fin 4) (e : Fin 128) : ℕ → Fin 512 → EReal := fun j o =>
  if hj : j < 16 then V n ⟨512 * j + o.val, by omega⟩ ⟨128 * h.val + e.val, by omega⟩ else 0

/-- The weighted mean of a value column. -/
def mean (X W : ℕ → Fin 512 → EReal) : EReal := Ideal.div (num X W (Finset.range 16)) (den X (Finset.range 16))

/-- The second stream's share. -/
def share (l : Fin 4 → Fin 64 → EReal) : EReal :=
  Ideal.exp (∑ d : Fin 64, l 0 d * l 1 d) - Ideal.exp (∑ d : Fin 64, l 2 d * l 3 d) + Ideal.ofBits .f32 0x3EB60549#32

/-- A row over its root mean square, weighted, and scaled by the fixed factor. -/
def normed (u w : Fin 128 → EReal) (e : Fin 128) : EReal :=
  u e * Ideal.rsqrt (Ideal.div (∑ d : Fin 128, u d * u d) (Ideal.ofBits .f32 0x43000000#32) + Ideal.ofBits .f32 0x358637BD#32)
    * w e * Ideal.ofBits .f32 0x3F24FD5C#32

/-- One element of the result. -/
def out (Q K V : Fin 4 → Fin 8192 → Fin 512 → EReal) (l : Fin 4 → Fin 64 → EReal) (w : Fin 128 → EReal)
    (n : Fin 4) (p : Fin 8192) (h : Fin 4) (e : Fin 128) : EReal :=
  normed (fun d => mean (gX Q K n h 0 p) (gW V n h d) - share l * mean (gX Q K n h 1 p) (gW V n h d)) w e

/-- A product over 128 columns of which only one half is kept is the product over that half. -/
theorem sum_half (s : Fin 2) (a b : Fin 128 → EReal) :
    ∑ d : Fin 128, (if d.val / 64 = s.val then a d else 0) * b d
      = ∑ d : Fin 64, a ⟨64 * s.val + d.val, by omega⟩ * b ⟨64 * s.val + d.val, by omega⟩ := by
  rw [Fin.sum_univ_add (a := 64) (b := 64) fun d : Fin 128 => (if d.val / 64 = s.val then a d else 0) * b d]
  have hs := s.isLt
  obtain h | h : s.val = 0 ∨ s.val = 1 := by omega
  · have h2 : (∑ d : Fin 64, (if (Fin.natAdd 64 d : Fin 128).val / 64 = s.val then a (Fin.natAdd 64 d) else 0) * b (Fin.natAdd 64 d)) = 0 :=
      Finset.sum_eq_zero fun d _ => by
        rw [if_neg (by rw [Fin.val_natAdd]; omega), zero_mul]
    rw [h2, add_zero]
    refine Finset.sum_congr rfl fun d _ => ?_
    rw [if_pos (by rw [Fin.val_castAdd]; omega)]
    have he : (Fin.castAdd 64 d : Fin 128) = ⟨64 * s.val + d.val, by omega⟩ := Fin.ext (by rw [Fin.val_castAdd]; show _ = 64 * s.val + d.val; omega)
    rw [he]
  · have h2 : (∑ d : Fin 64, (if (Fin.castAdd 64 d : Fin 128).val / 64 = s.val then a (Fin.castAdd 64 d) else 0) * b (Fin.castAdd 64 d)) = 0 :=
      Finset.sum_eq_zero fun d _ => by
        rw [if_neg (by rw [Fin.val_castAdd]; omega), zero_mul]
    rw [h2, zero_add]
    refine Finset.sum_congr rfl fun d _ => ?_
    rw [if_pos (by rw [Fin.val_natAdd]; omega)]
    have he : (Fin.natAdd 64 d : Fin 128) = ⟨64 * s.val + d.val, by omega⟩ := Fin.ext (by rw [Fin.val_natAdd]; show _ = 64 * s.val + d.val; omega)
    rw [he]

end Differ
-- ==== Proof.OddInRow.lean ====
module
public import proofs.«01_k».proof.Proof.MlpRow
public import proofs.«01_k».proof.Proof.DiffRow
@[expose] public section
noncomputable section

/-! The input projection of the differential and block-sparse heads, element by element: the normalised row times the
weights, each head of 64 columns over its own root mean square, and turned by its position's angles. -/

namespace HeadIn
open Idealize.ShloMosaic

/-- One head over its root mean square, weighted. -/
def unit (u g : Fin 64 → EReal) (e : Fin 64) : EReal :=
  u e * Ideal.rsqrt (Ideal.div (∑ d : Fin 64, u d * u d) (Ideal.ofBits .f32 0x42800000#32) + Ideal.ofBits .f32 0x358637BD#32) * g e

/-- A head turned: column `e` of the first half and column `e + 32` are one point, rotated by angle `e`. -/
def turn (v : Fin 64 → EReal) (C S : Fin 32 → EReal) (e : Fin 64) : EReal :=
  if h : e.val < 32 then v e * C ⟨e.val, h⟩ - v ⟨e.val + 32, by omega⟩ * S ⟨e.val, h⟩
  else v e * C ⟨e.val - 32, by omega⟩ + v ⟨e.val - 32, by omega⟩ * S ⟨e.val - 32, by omega⟩

/-- Two heads side by side, each over its own root mean square. -/
def unit2 (u g : Fin 128 → EReal) (e : Fin 128) : EReal :=
  u e * Ideal.rsqrt ((if e.val < 64 then ∑ d : Fin 128, if d.val < 64 then u d * u d else 0
    else ∑ d : Fin 128, if d.val < 64 then 0 else u d * u d) * Ideal.ofBits .f32 0x3C800000#32 + Ideal.ofBits .f32 0x358637BD#32) * g e

/-- Two heads side by side, turned by tables of 128 columns, the sines' signs in the table. -/
def turn2 (v C S : Fin 128 → EReal) (e : Fin 128) : EReal :=
  v e * C e + (if e.val % 64 < 32 then v ⟨(e.val + 32) % 128, by omega⟩ else v ⟨(e.val + 96) % 128, by omega⟩) * S e

theorem sixty_four : Ideal.ofBits .f32 0x42800000#32 = ((64 : ℝ) : EReal) := by
  simp [Ideal.ofBits, Ideal.ieee, -EReal.coe_mul]
  norm_num

theorem sixty_fourth : Ideal.ofBits .f32 0x3C800000#32 = ((1 / 64 : ℝ) : EReal) := by
  simp [Ideal.ofBits, Ideal.ieee, -EReal.coe_mul]
  norm_num

theorem mean_eq (x : EReal) : x * Ideal.ofBits .f32 0x3C800000#32 = Ideal.div x (Ideal.ofBits .f32 0x42800000#32) := by
  rw [sixty_four, sixty_fourth, Ideal.div_coe (by norm_num)]

theorem sum_low (a : Fin 128 → EReal) : (∑ d : Fin 128, if d.val < 64 then a d else 0) = ∑ d : Fin 64, a ⟨64 * 0 + d.val, by omega⟩ := by
  have h := Differ.sum_half 0 a fun _ => 1
  simp only [mul_one] at h
  refine Eq.trans (Finset.sum_congr rfl fun d _ => ?_) h
  exact if_congr (by show _ ↔ d.val / 64 = 0; omega) rfl rfl

theorem sum_high (a : Fin 128 → EReal) : (∑ d : Fin 128, if d.val < 64 then 0 else a d) = ∑ d : Fin 64, a ⟨64 * 1 + d.val, by omega⟩ := by
  have h := Differ.sum_half 1 a fun _ => 1
  simp only [mul_one] at h
  refine Eq.trans (Finset.sum_congr rfl fun d _ => ?_) h
  by_cases hd : d.val < 64
  · rw [if_pos hd, if_neg (by show ¬ d.val / 64 = 1; omega)]
  · rw [if_neg hd, if_pos (by show d.val / 64 = 1; omega)]

/-- Each of the two heads side by side is that head alone. -/
theorem unit2_eq (u g : Fin 128 → EReal) (w : Fin 64 → EReal) (hg : ∀ (s : Fin 2) (e : Fin 64), g ⟨64 * s.val + e.val, by omega⟩ = w e)
    (s : Fin 2) (e : Fin 64) :
    unit2 u g ⟨64 * s.val + e.val, by omega⟩ = unit (fun d => u ⟨64 * s.val + d.val, by omega⟩) w e := by
  unfold unit2 unit
  rw [hg, mean_eq, sum_low fun d => u d * u d, sum_high fun d => u d * u d]
  have hs := s.isLt
  obtain h | h : s = 0 ∨ s = 1 := by omega
  · subst h
    rw [if_pos (by show 64 * 0 + e.val < 64; omega)]
    rfl
  · subst h
    rw [if_neg (by show ¬ 64 * 1 + e.val < 64; omega)]
    rfl

theorem turn2_eq (v C S : Fin 128 → EReal) (c s' : Fin 32 → EReal)
    (hC : ∀ (s : Fin 2) (h : Fin 2) (k : Fin 32), C ⟨64 * s.val + (32 * h.val + k.val), by omega⟩ = c k)
    (hS : ∀ (s : Fin 2) (k : Fin 32), S ⟨64 * s.val + k.val, by omega⟩ = -s' k)
    (hS' : ∀ (s : Fin 2) (k : Fin 32), S ⟨64 * s.val + (32 + k.val), by omega⟩ = s' k)
    (s : Fin 2) (e : Fin 64) :
    turn2 v C S ⟨64 * s.val + e.val, by omega⟩ = turn (fun d => v ⟨64 * s.val + d.val, by omega⟩) c s' e := by
  unfold turn2 turn
  have hs := s.isLt
  by_cases h : e.val < 32
  · rw [dif_pos h, if_pos (by show (64 * s.val + e.val) % 64 < 32; omega)]
    have h1 : C ⟨64 * s.val + e.val, by omega⟩ = c ⟨e.val, h⟩ := by
      rw [← hC s 0 ⟨e.val, h⟩]; exact congrArg C (Fin.ext (by show 64 * s.val + e.val = 64 * s.val + (32 * 0 + e.val); omega))
    have h2 : S ⟨64 * s.val + e.val, by omega⟩ = -s' ⟨e.val, h⟩ := hS s ⟨e.val, h⟩
    rw [h1, h2, mul_neg, sub_eq_add_neg]
    refine congrArg (fun z => _ + -(v z * s' ⟨e.val, h⟩)) (Fin.ext ?_)
    show (64 * s.val + e.val + 32) % 128 = 64 * s.val + (e.val + 32)
    omega
  · rw [dif_neg h, if_neg (by show ¬ (64 * s.val + e.val) % 64 < 32; omega)]
    have h1 : C ⟨64 * s.val + e.val, by omega⟩ = c ⟨e.val - 32, by omega⟩ := by
      rw [← hC s 1 ⟨e.val - 32, by omega⟩]
      exact congrArg C (Fin.ext (by show 64 * s.val + e.val = 64 * s.val + (32 * 1 + (e.val - 32)); omega))
    have h2 : S ⟨64 * s.val + e.val, by omega⟩ = s' ⟨e.val - 32, by omega⟩ := by
      rw [← hS' s ⟨e.val - 32, by omega⟩]
      exact congrArg S (Fin.ext (by show 64 * s.val + e.val = 64 * s.val + (32 + (e.val - 32)); omega))
    rw [h1, h2]
    refine congrArg (fun z => _ + v z * s' ⟨e.val - 32, by omega⟩) (Fin.ext ?_)
    show (64 * s.val + e.val + 96) % 128 = 64 * s.val + (e.val - 32)
    omega

/-- The angle's rate of column `k`: the base to the power of minus `k` thirty-seconds. -/
def rate (k : Fin 32) : EReal :=
  (FloatOps.hostPowf (FloatOps.ofBits .f32 0x461C4000#32 : Ideal .f32)
    (FloatOps.hostDivf (FloatOps.hostNegf (FloatOps.sitofp .f32 (BitVec.ofNat 32 k.val) : Ideal .f32)) (FloatOps.ofBits .f32 0x42000000#32)) : Ideal .f32)

/-- The angle of column `k` at a position. -/
def angle (p : BitVec 32) (k : Fin 32) : EReal := (FloatOps.sitofp .f32 p : Ideal .f32) * rate k

/-- A head normalised and turned to its position. -/
def head (u g : Fin 64 → EReal) (p : BitVec 32) : Fin 64 → EReal :=
  turn (unit u g) (fun k => Ideal.cos (angle p k)) fun k => Ideal.sin (angle p k)

/-- The row's product with column `j` of the weights. -/
def proj (x w sc sh : Fin 1024 → EReal) (W : Fin 1024 → Fin 3072 → EReal) (j : Fin 3072) : EReal :=
  ∑ d : Fin 1024, Mlp.normed x w sc sh d * W d j

/-- Column `e` of 512 in the group of heads whose projection begins at column `o`. -/
def group (u : Fin 3072 → EReal) (o : ℕ) (ho : o + 512 ≤ 3072) (g : Fin 64 → EReal) (p : BitVec 32) (f : Fin 512) : EReal :=
  head (fun d => u ⟨o + 64 * (f.val / 64) + d.val, by omega⟩) g p ⟨f.val % 64, by omega⟩

end HeadIn
-- ==== Proof.OddInCol.lean ====
module
public import proofs.«01_k».proof.Proof.Gen.Kernel6Ideal.Frame
public import proofs.«01_k».proof.Proof.OddInRow
@[expose] public section
set_option maxRecDepth 16384
noncomputable section

/-! The sixteen columns of two heads the body stores are one function of the row's projection, at sixteen places. -/

namespace Cert.Kernel6Ideal.Block
open Cert.Kernel6Ideal Cert.Kernel6Ideal.Gen Idealize.ShloMosaic Idealize.ShloMosaic.TcCoe Idealize.SL.Sem

theorem slices_at (o : ℕ) (h : o + 128 ≤ 3072) : S256x3072.Slices ![0, o] S256x128 :=
  ⟨rfl, fun a => by
    fin_cases a
    · show 0 + 256 ≤ 256; omega
    · show o + 128 ≤ 3072; omega⟩

/-- The lanes of the first head of two. -/
def first : IVec S1x128 1 := cmpi .slt (iota .tc S1x128 32 [1] iota_S1x128_d1_w32) (broadcast S1x128 64#32)

/-- The lane's place in its own head. -/
def place : IVec S1x128 32 :=
  remsi (iota .tc S1x128 32 [1] iota_S1x128_d1_w32) (broadcast S1x128 (Scalar.select (Scalar.cmpi .eq 64#32 0#32) 1#32 64#32))

/-- The lanes of the first half of their head. -/
def half : IVec S1x128 1 :=
  cmpi .slt (select (andi (xori (cmpi .slt place (broadcast S1x128 0#32)) (broadcastTo S1x128 (broadcast S1x128
      (Scalar.cmpi .slt (Scalar.select (Scalar.cmpi .eq 64#32 0#32) 1#32 64#32) 0#32)) broadcasts_S1x128_S1x128)) (cmpi .ne place (broadcast S1x128 0#32)))
    (addi place (broadcast S1x128 (Scalar.select (Scalar.cmpi .eq 64#32 0#32) 1#32 64#32))) place) (broadcast S1x128 32#32)

/-- A lane mask over the rows. -/
def over (p : IVec S1x128 1) : IVec S256x128 1 :=
  broadcastTo S256x128 (shapeCast S1x128 p shapeCasts_S1x128_S1x128) broadcasts_S1x128_S256x128

/-- Each row's sum along its lanes. -/
def rowSum (v : FVec Ideal S256x128 .f32) : FVec Ideal S256x128 .f32 :=
  broadcastTo S256x128 (shapeCast S256x1 (shapeCast S256x1 (multiReduction .add [1] S256 v 0x00000000#32 reduces_S256x128_S256 (.inl rfl) rfl)
    shapeCasts_S256_S256x1) shapeCasts_S256x1_S256x1) broadcasts_S256x1_S256x128

/-- Two heads side by side, each over its root mean square. -/
def unitCol (v : FVec Ideal S256x128 .f32) (g : Vec Ideal S1x128 .f32) : FVec Ideal S256x128 .f32 :=
  mulf (mulf v (rsqrt (addf (mulf (select (over first)
      (rowSum (select (over first) (mulf v v) (broadcast S256x128 (Scalar.ofBits .f32 0x00000000#32))))
      (rowSum (select (over first) (broadcast S256x128 (Scalar.ofBits .f32 0x00000000#32)) (mulf v v))))
    (broadcast S256x128 (Scalar.ofBits .f32 0x3C800000#32))) (broadcast S256x128 (Scalar.ofBits .f32 0x358637BD#32)))))
    (broadcastTo S256x128 (shapeCast S1x128 g shapeCasts_S1x128_S1x128) broadcasts_S1x128_S256x128)

/-- Two heads side by side, turned. -/
def turnCol (v c s : FVec Ideal S256x128 .f32) : FVec Ideal S256x128 .f32 :=
  addf (mulf v c) (mulf (select (over half) (dynamicRotate 1 96#32 none v rotates_S256x128_d1) (dynamicRotate 1 32#32 none v rotates_S256x128_d1)) s)

/-- The two heads at column `o` of the projection. -/
def col (o : ℕ) (h : o + 128 ≤ 3072) (u : FVec Ideal S256x3072 .f32) (g : Vec Ideal S1x128 .f32) (c s : FVec Ideal S256x128 .f32) :
    FVec Ideal S256x128 .f32 :=
  turnCol (unitCol (extractStridedSlice S256x128 ![0, o] u (slices_at o h)) g) c s

def storePlain (v : FVec Ideal S256x128 .f32) : FVec Ideal S1x256x128 .f32 := shapeCast S1x256x128 v shapeCasts_S256x128_S1x256x128
def storeCast (v : FVec Ideal S256x128 .f32) : FVec Ideal S1x256x128 .bf16 :=
  shapeCast S1x256x128 (truncf .bf16 v bitsLt_bf16_f32) shapeCasts_S256x128_S1x256x128
def storeScaled (v : FVec Ideal S256x128 .f32) : FVec Ideal S1x256x128 .bf16 :=
  storeCast (mulf v (broadcast S256x128 (Scalar.ofBits .f32 0x3E38AA3B#32)))
def storeMean (v : FVec Ideal S256x128 .f32) : FVec Ideal S1x1x1x128 .f32 :=
  shapeCast S1x1x1x128 (divf (shapeCast S1x128 (multiReduction .add [0] S128 v 0x00000000#32 reduces_S256x128_S128 (.inl rfl) rfl)
    shapeCasts_S128_S1x128) (broadcast S1x128 (Scalar.ofBits .f32 0x43800000#32))) shapeCasts_S1x128_S1x1x1x128

theorem out11_eq (x0 : Vec Ideal S1x256x1024 .f32) (x1 x2 : Vec Ideal S1x1x1024 .f32) (x3 : Vec Ideal S1x1024 .f32) (x4 : Vec Ideal S1024x3072 .bf16) (x5 x6 x7 x8 : Vec Ideal S1x128 .f32) (x9 x10 : Vec Ideal S1x256x128 .f32) :
    out0_11 x0 x1 x2 x3 x4 x5 x6 x7 x8 x9 x10 = View.canon [⟨r0_9, storeScaled (col 384 (by norm_num) (k0_pay112 x0 x1 x2 x3 x4 x5 x6 x7 x8 x9 x10) (View.ld x5 r0_5) (k0_pay113 x0 x1 x2 x3 x4 x5 x6 x7 x8 x9 x10) (k0_pay114 x0 x1 x2 x3 x4 x5 x6 x7 x8 x9 x10))⟩,
      ⟨r0_8, storeScaled (col 256 (by norm_num) (k0_pay112 x0 x1 x2 x3 x4 x5 x6 x7 x8 x9 x10) (View.ld x5 r0_5) (k0_pay113 x0 x1 x2 x3 x4 x5 x6 x7 x8 x9 x10) (k0_pay114 x0 x1 x2 x3 x4 x5 x6 x7 x8 x9 x10))⟩,
      ⟨r0_7, storeScaled (col 128 (by norm_num) (k0_pay112 x0 x1 x2 x3 x4 x5 x6 x7 x8 x9 x10) (View.ld x5 r0_5) (k0_pay113 x0 x1 x2 x3 x4 x5 x6 x7 x8 x9 x10) (k0_pay114 x0 x1 x2 x3 x4 x5 x6 x7 x8 x9 x10))⟩,
      ⟨r0_6, storeScaled (col 0 (by norm_num) (k0_pay112 x0 x1 x2 x3 x4 x5 x6 x7 x8 x9 x10) (View.ld x5 r0_5) (k0_pay113 x0 x1 x2 x3 x4 x5 x6 x7 x8 x9 x10) (k0_pay114 x0 x1 x2 x3 x4 x5 x6 x7 x8 x9 x10))⟩] := rfl

theorem out12_eq (x0 : Vec Ideal S1x256x1024 .f32) (x1 x2 : Vec Ideal S1x1x1024 .f32) (x3 : Vec Ideal S1x1024 .f32) (x4 : Vec Ideal S1024x3072 .bf16) (x5 x6 x7 x8 : Vec Ideal S1x128 .f32) (x9 x10 : Vec Ideal S1x256x128 .f32) :
    out0_12 x0 x1 x2 x3 x4 x5 x6 x7 x8 x9 x10 = View.canon [⟨r0_9, storeCast (col 896 (by norm_num) (k0_pay112 x0 x1 x2 x3 x4 x5 x6 x7 x8 x9 x10) (View.ld x6 r0_5) (k0_pay113 x0 x1 x2 x3 x4 x5 x6 x7 x8 x9 x10) (k0_pay114 x0 x1 x2 x3 x4 x5 x6 x7 x8 x9 x10))⟩,
      ⟨r0_8, storeCast (col 768 (by norm_num) (k0_pay112 x0 x1 x2 x3 x4 x5 x6 x7 x8 x9 x10) (View.ld x6 r0_5) (k0_pay113 x0 x1 x2 x3 x4 x5 x6 x7 x8 x9 x10) (k0_pay114 x0 x1 x2 x3 x4 x5 x6 x7 x8 x9 x10))⟩,
      ⟨r0_7, storeCast (col 640 (by norm_num) (k0_pay112 x0 x1 x2 x3 x4 x5 x6 x7 x8 x9 x10) (View.ld x6 r0_5) (k0_pay113 x0 x1 x2 x3 x4 x5 x6 x7 x8 x9 x10) (k0_pay114 x0 x1 x2 x3 x4 x5 x6 x7 x8 x9 x10))⟩,
      ⟨r0_6, storeCast (col 512 (by norm_num) (k0_pay112 x0 x1 x2 x3 x4 x5 x6 x7 x8 x9 x10) (View.ld x6 r0_5) (k0_pay113 x0 x1 x2 x3 x4 x5 x6 x7 x8 x9 x10) (k0_pay114 x0 x1 x2 x3 x4 x5 x6 x7 x8 x9 x10))⟩] := rfl

theorem out14_eq (x0 : Vec Ideal S1x256x1024 .f32) (x1 x2 : Vec Ideal S1x1x1024 .f32) (x3 : Vec Ideal S1x1024 .f32) (x4 : Vec Ideal S1024x3072 .bf16) (x5 x6 x7 x8 : Vec Ideal S1x128 .f32) (x9 x10 : Vec Ideal S1x256x128 .f32) :
    out0_14 x0 x1 x2 x3 x4 x5 x6 x7 x8 x9 x10 = View.canon [⟨r0_9, storeScaled (col 1920 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩,
      ⟨r0_8, storeScaled (col 1792 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩,
      ⟨r0_7, storeScaled (col 1664 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩,
      ⟨r0_6, storeScaled (col 1536 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩] := rfl

theorem out15_eq (x0 : Vec Ideal S1x256x1024 .f32) (x1 x2 : Vec Ideal S1x1x1024 .f32) (x3 : Vec Ideal S1x1024 .f32) (x4 : Vec Ideal S1024x3072 .bf16) (x5 x6 x7 x8 : Vec Ideal S1x128 .f32) (x9 x10 : Vec Ideal S1x256x128 .f32) :
    out0_15 x0 x1 x2 x3 x4 x5 x6 x7 x8 x9 x10 = View.canon [⟨r0_9, storePlain (col 1920 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩,
      ⟨r0_8, storePlain (col 1792 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩,
      ⟨r0_7, storePlain (col 1664 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩,
      ⟨r0_6, storePlain (col 1536 (by norm_num) (k0_pay112 x0 x1 x2 x3 x4 x5 x6 x7 x8 x9 x10) (View.ld x7 r0_5) (k0_pay113 x0 x1 x2 x3 x4 x5 x6 x7 x8 x9 x10) (k0_pay114 x0 x1 x2 x3 x4 x5 x6 x7 x8 x9 x10))⟩] := rfl

theorem out16_eq (x0 : Vec Ideal S1x256x1024 .f32) (x1 x2 : Vec Ideal S1x1x1024 .f32) (x3 : Vec Ideal S1x1024 .f32) (x4 : Vec Ideal S1024x3072 .bf16) (x5 x6 x7 x8 : Vec Ideal S1x128 .f32) (x9 x10 : Vec Ideal S1x256x128 .f32) :
    out0_16 x0 x1 x2 x3 x4 x5 x6 x7 x8 x9 x10 = View.canon [⟨r0_9, storeCast (col 2432 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩,
      ⟨r0_8, storeCast (col 2304 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩,
      ⟨r0_7, storeCast (col 2176 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩,
      ⟨r0_6, storeCast (col 2048 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩] := rfl

theorem out18_eq (x0 : Vec Ideal S1x256x1024 .f32) (x1 x2 : Vec Ideal S1x1x1024 .f32) (x3 : Vec Ideal S1x1024 .f32) (x4 : Vec Ideal S1024x3072 .bf16) (x5 x6 x7 x8 : Vec Ideal S1x128 .f32) (x9 x10 : Vec Ideal S1x256x128 .f32) :
    out0_18 x0 x1 x2 x3 x4 x5 x6 x7 x8 x9 x10 = View.canon [⟨r0_14, storeMean (col 2432 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩,
      ⟨r0_13, storeMean (col 2304 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩,
      ⟨r0_12, storeMean (col 2176 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩,
      ⟨r0_11, storeMean (col 2048 (by norm_num) (k0_pay112 x0 x1 x2 x3 x4 x5 x6 x7 x8 x9 x10) (View.ld x8 r0_5) (k0_pay113 x0 x1 x2 x3 x4 x5 x6 x7 x8 x9 x10) (k0_pay114 x0 x1 x2 x3 x4 x5 x6 x7 x8 x9 x10))⟩] := rfl

end Cert.Kernel6Ideal.Block
-- ==== Proof.OddInBlock.lean ====
module
public import proofs.«01_k».proof.Proof.OddInCol
@[expose] public section
set_option maxRecDepth 16384
noncomputable section
namespace Cert.Kernel6Ideal.Block
open Cert.Kernel6Ideal Cert.Kernel6Ideal.Gen Idealize.ShloMosaic Idealize.ShloMosaic.TcCoe Idealize.SL.Sem

theorem first_read (l : Fin 128) : first (ix2 0 l) = if l.val < 64 then 1#1 else 0#1 := by
  revert l; decide +kernel

theorem half_read (l : Fin 128) : half (ix2 0 l) = if l.val % 64 < 32 then 1#1 else 0#1 := by
  revert l; decide +kernel

theorem over_read (p : IVec S1x128 1) (r : Fin 256) (l : Fin 128) : over p (ix2 r l) = p (ix2 0 l) := by
  pointwise [over]

theorem rowSum_read (v : FVec Ideal S256x128 .f32) (r : Fin 256) (l : Fin 128) : rowSum v (ix2 r l) = ∑ d : Fin 128, v (ix2 r d) := by
  pointwise [rowSum]

theorem unitCol_read (v : FVec Ideal S256x128 .f32) (g : Vec Ideal S1x128 .f32) (r : Fin 256) (l : Fin 128) :
    unitCol v g (ix2 r l) = HeadIn.unit2 (fun d => v (ix2 r d)) (fun d => g (ix2 0 d)) l := by
  pointwise [unitCol]
  rw [rowSum_read, rowSum_read, over_read, first_read]
  have h0 : ∀ d : Fin 128, select (over first) (mulf v v) (broadcast S256x128 (0 : Ideal .f32)) (ix2 r d) =
      if d.val < 64 then v (ix2 r d) * v (ix2 r d) else 0 := fun d => by
    have h : select (over first) (mulf v v) (broadcast S256x128 (0 : Ideal .f32)) (ix2 r d) =
        Scalar.select (over first (ix2 r d)) (v (ix2 r d) * v (ix2 r d)) 0 := rfl
    rw [h, over_read, first_read]
    by_cases hd : d.val < 64
    · rw [if_pos hd, if_pos hd]; rfl
    · rw [if_neg hd, if_neg hd]; rfl
  have h1 : ∀ d : Fin 128, select (over first) (broadcast S256x128 (0 : Ideal .f32)) (mulf v v) (ix2 r d) =
      if d.val < 64 then 0 else v (ix2 r d) * v (ix2 r d) := fun d => by
    have h : select (over first) (broadcast S256x128 (0 : Ideal .f32)) (mulf v v) (ix2 r d) =
        Scalar.select (over first (ix2 r d)) 0 (v (ix2 r d) * v (ix2 r d)) := rfl
    rw [h, over_read, first_read]
    by_cases hd : d.val < 64
    · rw [if_pos hd, if_pos hd]; rfl
    · rw [if_neg hd, if_neg hd]; rfl
  unfold HeadIn.unit2
  simp only [h0, h1]
  by_cases hl : l.val < 64
  · rw [if_pos hl, if_pos hl]; rfl
  · rw [if_neg hl, if_neg hl]; rfl

theorem turnCol_read (v c s : FVec Ideal S256x128 .f32) (r : Fin 256) (l : Fin 128) :
    turnCol v c s (ix2 r l) = HeadIn.turn2 (fun d => v (ix2 r d)) (fun d => c (ix2 r d)) (fun d => s (ix2 r d)) l := by
  pointwise [turnCol]
  rw [over_read, half_read]
  unfold HeadIn.turn2
  have e1 : (⟨(l.val + 128 - 96) % 128, by omega⟩ : Fin 128) = ⟨(l.val + 32) % 128, by omega⟩ := Fin.ext (by show (l.val + 128 - 96) % 128 = (l.val + 32) % 128; omega)
  have e2 : (⟨(l.val + 128 - 32) % 128, by omega⟩ : Fin 128) = ⟨(l.val + 96) % 128, by omega⟩ := Fin.ext (by show (l.val + 128 - 32) % 128 = (l.val + 96) % 128; omega)
  rw [e1, e2]
  by_cases hl : l.val % 64 < 32
  · rw [if_pos hl, if_pos hl]; rfl
  · rw [if_neg hl, if_neg hl]; rfl

theorem slice_read (o : ℕ) (h : o + 128 ≤ 3072) (u : FVec Ideal S256x3072 .f32) (r : Fin 256) (l : Fin 128) :
    extractStridedSlice S256x128 ![0, o] u (slices_at o h) (ix2 r l) = u (ix2 r (⟨o + l.val, by omega⟩ : Fin 3072)) := by
  refine congrArg u (funext fun a => Fin.ext ?_)
  fin_cases a
  · show 0 + r.val = r.val; omega
  · rfl

theorem storePlain_read (v : FVec Ideal S256x128 .f32) (r : Fin 256) (l : Fin 128) : storePlain v (ix3 0 r l) = v (ix2 r l) := by
  pointwise [storePlain]
theorem storeCast_read (v : FVec Ideal S256x128 .f32) (r : Fin 256) (l : Fin 128) : storeCast v (ix3 0 r l) = v (ix2 r l) := by
  pointwise [storeCast]
theorem storeScaled_read (v : FVec Ideal S256x128 .f32) (r : Fin 256) (l : Fin 128) :
    storeScaled v (ix3 0 r l) = v (ix2 r l) * Ideal.ofBits .f32 0x3E38AA3B#32 := by
  unfold storeScaled
  rw [storeCast_read]
  pointwise

theorem storeMean_read (v : FVec Ideal S256x128 .f32) (l : Fin 128) :
    storeMean v (ix4 0 0 0 l) = Ideal.div (∑ r : Fin 256, v (ix2 r l)) (Ideal.ofBits .f32 0x43800000#32) := by
  pointwise [storeMean]

theorem pay3_read (v0 : Vec Ideal S1x256x1024 .f32) (v2 : Vec Ideal S1x1024 .f32) (v16 v22 : Vec Ideal S1x1x1024 .f32) (w : Vec Ideal S1024x3072 .bf16)
    (r : Fin 256) (j : Fin 3072) : k0_pay3 v0 v2 v16 v22 w (ix2 r j) =
      HeadIn.proj (fun k => v0 (ix3 0 r k)) (fun k => v2 (ix2 0 k)) (fun k => v16 (ix3 0 0 k)) (fun k => v22 (ix3 0 0 k)) (fun d j => w (ix2 d j)) j := by
  pointwise [k0_pay3]
  rfl
theorem pay4_read (v : Vec Ideal S1x256x128 .f32) (r : Fin 256) (l : Fin 128) : k0_pay4 v (ix2 r l) = v (ix3 0 r l) := by
  pointwise [k0_pay4]
theorem pay5_read (v : Vec Ideal S1x256x128 .f32) (r : Fin 256) (l : Fin 128) : k0_pay5 v (ix2 r l) = v (ix3 0 r l) := by
  pointwise [k0_pay5]
theorem pay48_read (u : FVec Ideal S256x3072 .f32) (r : Fin 256) (f : Fin 512) :
    k0_pay48 u (ix3 0 r f) = u (ix2 r (⟨1024 + f.val, by omega⟩ : Fin 3072)) := by
  pointwise [k0_pay48]
theorem pay2_read (u : FVec Ideal S256x3072 .f32) (r : Fin 256) (f : Fin 512) :
    k0_pay2 u (ix3 0 r f) = u (ix2 r (⟨2560 + f.val, by omega⟩ : Fin 3072)) := by
  pointwise [k0_pay2]

theorem four_emb (r : Fin 256) (l : Fin 128) (o : ℕ) (inb) (h : o + l.val < 512) :
    (Rect.unit (s := S1x256x512) ![0, 0, o] S1x256x128.size inb).emb (ix3 (0 : Fin 1) r l) = ix3 (0 : Fin 1) r (⟨o + l.val, h⟩ : Fin 512) := funext fun a => Fin.ext (by
  fin_cases a
  · rfl
  · show 0 + 1 * r.val = r.val; omega
  · show o + 1 * l.val = o + l.val; omega)

theorem four_off (r : Fin 256) (o : ℕ) (inb) (j : Fin 512) (hj : j.val < o) :
    ix3 (0 : Fin 1) r j ∉ (Rect.unit (s := S1x256x512) ![0, 0, o] S1x256x128.size inb).set := fun hm =>
  absurd ((Rect.mem_set_unit.mp hm) 2).1 (by show ¬ o ≤ j.val; omega)

theorem four_at0 {e : EltTy} (w3 w2 w1 w0 : Vec Ideal S1x256x128 e) (r : Fin 256) (l : Fin 128) (h : 0 + l.val < 512) :
    View.canon [⟨r0_9, w3⟩, ⟨r0_8, w2⟩, ⟨r0_7, w1⟩, ⟨r0_6, w0⟩] (ix3 (0 : Fin 1) r (⟨0 + l.val, h⟩ : Fin 512)) = w0 (ix3 (0 : Fin 1) r l) := by
  refine (View.canon_cons_of_not_mem (⟨r0_9, w3⟩ : View.Piece (Elt Ideal) S1x256x512 e) [⟨r0_8, w2⟩, ⟨r0_7, w1⟩, ⟨r0_6, w0⟩]
    (four_off r 384 inb_S1x256x512_S1x256x128_0_0_384 ⟨0 + l.val, h⟩ (by show 0 + l.val < 384; omega))).trans ?_
  refine (View.canon_cons_of_not_mem (⟨r0_8, w2⟩ : View.Piece (Elt Ideal) S1x256x512 e) [⟨r0_7, w1⟩, ⟨r0_6, w0⟩]
    (four_off r 256 inb_S1x256x512_S1x256x128_0_0_256 ⟨0 + l.val, h⟩ (by show 0 + l.val < 256; omega))).trans ?_
  refine (View.canon_cons_of_not_mem (⟨r0_7, w1⟩ : View.Piece (Elt Ideal) S1x256x512 e) [⟨r0_6, w0⟩]
    (four_off r 128 inb_S1x256x512_S1x256x128_0_0_128 ⟨0 + l.val, h⟩ (by show 0 + l.val < 128; omega))).trans ?_
  rw [← four_emb r l 0 inb_S1x256x512_S1x256x128_0_0_0 h]
  exact View.canon_cons_emb r0_6 w0 _ _

theorem four_at1 {e : EltTy} (w3 w2 w1 w0 : Vec Ideal S1x256x128 e) (r : Fin 256) (l : Fin 128) (h : 128 + l.val < 512) :
    View.canon [⟨r0_9, w3⟩, ⟨r0_8, w2⟩, ⟨r0_7, w1⟩, ⟨r0_6, w0⟩] (ix3 (0 : Fin 1) r (⟨128 + l.val, h⟩ : Fin 512)) = w1 (ix3 (0 : Fin 1) r l) := by
  refine (View.canon_cons_of_not_mem (⟨r0_9, w3⟩ : View.Piece (Elt Ideal) S1x256x512 e) [⟨r0_8, w2⟩, ⟨r0_7, w1⟩, ⟨r0_6, w0⟩]
    (four_off r 384 inb_S1x256x512_S1x256x128_0_0_384 ⟨128 + l.val, h⟩ (by show 128 + l.val < 384; omega))).trans ?_
  refine (View.canon_cons_of_not_mem (⟨r0_8, w2⟩ : View.Piece (Elt Ideal) S1x256x512 e) [⟨r0_7, w1⟩, ⟨r0_6, w0⟩]
    (four_off r 256 inb_S1x256x512_S1x256x128_0_0_256 ⟨128 + l.val, h⟩ (by show 128 + l.val < 256; omega))).trans ?_
  rw [← four_emb r l 128 inb_S1x256x512_S1x256x128_0_0_128 h]
  exact View.canon_cons_emb r0_7 w1 _ _

theorem four_at2 {e : EltTy} (w3 w2 w1 w0 : Vec Ideal S1x256x128 e) (r : Fin 256) (l : Fin 128) (h : 256 + l.val < 512) :
    View.canon [⟨r0_9, w3⟩, ⟨r0_8, w2⟩, ⟨r0_7, w1⟩, ⟨r0_6, w0⟩] (ix3 (0 : Fin 1) r (⟨256 + l.val, h⟩ : Fin 512)) = w2 (ix3 (0 : Fin 1) r l) := by
  refine (View.canon_cons_of_not_mem (⟨r0_9, w3⟩ : View.Piece (Elt Ideal) S1x256x512 e) [⟨r0_8, w2⟩, ⟨r0_7, w1⟩, ⟨r0_6, w0⟩]
    (four_off r 384 inb_S1x256x512_S1x256x128_0_0_384 ⟨256 + l.val, h⟩ (by show 256 + l.val < 384; omega))).trans ?_
  rw [← four_emb r l 256 inb_S1x256x512_S1x256x128_0_0_256 h]
  exact View.canon_cons_emb r0_8 w2 _ _

theorem four_at3 {e : EltTy} (w3 w2 w1 w0 : Vec Ideal S1x256x128 e) (r : Fin 256) (l : Fin 128) (h : 384 + l.val < 512) :
    View.canon [⟨r0_9, w3⟩, ⟨r0_8, w2⟩, ⟨r0_7, w1⟩, ⟨r0_6, w0⟩] (ix3 (0 : Fin 1) r (⟨384 + l.val, h⟩ : Fin 512)) = w3 (ix3 (0 : Fin 1) r l) := by
  rw [← four_emb r l 384 inb_S1x256x512_S1x256x128_0_0_384 h]
  exact View.canon_cons_emb r0_9 w3 _ _

/-- Four columns of two heads, stored side by side, read. -/
theorem four_read {e : EltTy} (w : Fin 4 → Vec Ideal S1x256x128 e) (r : Fin 256) (k : Fin 4) (l : Fin 128) :
    View.canon [⟨r0_9, w 3⟩, ⟨r0_8, w 2⟩, ⟨r0_7, w 1⟩, ⟨r0_6, w 0⟩] (ix3 (0 : Fin 1) r (⟨128 * k.val + l.val, by omega⟩ : Fin 512)) = w k (ix3 (0 : Fin 1) r l) :=
  match k with
  | 0 => four_at0 _ _ _ _ r l (by omega)
  | 1 => four_at1 _ _ _ _ r l (by omega)
  | 2 => four_at2 _ _ _ _ r l (by omega)
  | 3 => four_at3 _ _ _ _ r l (by omega)

theorem row_emb (l : Fin 128) (o : ℕ) (inb) (h : o + l.val < 512) :
    (Rect.unit (s := S1x1x1x512) ![0, 0, 0, o] S1x1x1x128.size inb).emb (ix4 (0 : Fin 1) (0 : Fin 1) (0 : Fin 1) l) = ix4 (0 : Fin 1) (0 : Fin 1) (0 : Fin 1) (⟨o + l.val, h⟩ : Fin 512) := funext fun a => Fin.ext (by
  fin_cases a
  · rfl
  · rfl
  · rfl
  · show o + 1 * l.val = o + l.val; omega)

theorem row_off (o : ℕ) (inb) (j : Fin 512) (hj : j.val < o) :
    ix4 (0 : Fin 1) (0 : Fin 1) (0 : Fin 1) j ∉ (Rect.unit (s := S1x1x1x512) ![0, 0, 0, o] S1x1x1x128.size inb).set := fun hm =>
  absurd ((Rect.mem_set_unit.mp hm) 3).1 (by show ¬ o ≤ j.val; omega)

theorem row_at0 {e : EltTy} (w3 w2 w1 w0 : Vec Ideal S1x1x1x128 e) (l : Fin 128) (h : 0 + l.val < 512) :
    View.canon [⟨r0_14, w3⟩, ⟨r0_13, w2⟩, ⟨r0_12, w1⟩, ⟨r0_11, w0⟩] (ix4 (0 : Fin 1) (0 : Fin 1) (0 : Fin 1) (⟨0 + l.val, h⟩ : Fin 512)) = w0 (ix4 (0 : Fin 1) (0 : Fin 1) (0 : Fin 1) l) := by
  refine (View.canon_cons_of_not_mem (⟨r0_14, w3⟩ : View.Piece (Elt Ideal) S1x1x1x512 e) [⟨r0_13, w2⟩, ⟨r0_12, w1⟩, ⟨r0_11, w0⟩]
    (row_off 384 inb_S1x1x1x512_S1x1x1x128_0_0_0_384 ⟨0 + l.val, h⟩ (by show 0 + l.val < 384; omega))).trans ?_
  refine (View.canon_cons_of_not_mem (⟨r0_13, w2⟩ : View.Piece (Elt Ideal) S1x1x1x512 e) [⟨r0_12, w1⟩, ⟨r0_11, w0⟩]
    (row_off 256 inb_S1x1x1x512_S1x1x1x128_0_0_0_256 ⟨0 + l.val, h⟩ (by show 0 + l.val < 256; omega))).trans ?_
  refine (View.canon_cons_of_not_mem (⟨r0_12, w1⟩ : View.Piece (Elt Ideal) S1x1x1x512 e) [⟨r0_11, w0⟩]
    (row_off 128 inb_S1x1x1x512_S1x1x1x128_0_0_0_128 ⟨0 + l.val, h⟩ (by show 0 + l.val < 128; omega))).trans ?_
  rw [← row_emb l 0 inb_S1x1x1x512_S1x1x1x128_0_0_0_0 h]
  exact View.canon_cons_emb r0_11 w0 _ _

theorem row_at1 {e : EltTy} (w3 w2 w1 w0 : Vec Ideal S1x1x1x128 e) (l : Fin 128) (h : 128 + l.val < 512) :
    View.canon [⟨r0_14, w3⟩, ⟨r0_13, w2⟩, ⟨r0_12, w1⟩, ⟨r0_11, w0⟩] (ix4 (0 : Fin 1) (0 : Fin 1) (0 : Fin 1) (⟨128 + l.val, h⟩ : Fin 512)) = w1 (ix4 (0 : Fin 1) (0 : Fin 1) (0 : Fin 1) l) := by
  refine (View.canon_cons_of_not_mem (⟨r0_14, w3⟩ : View.Piece (Elt Ideal) S1x1x1x512 e) [⟨r0_13, w2⟩, ⟨r0_12, w1⟩, ⟨r0_11, w0⟩]
    (row_off 384 inb_S1x1x1x512_S1x1x1x128_0_0_0_384 ⟨128 + l.val, h⟩ (by show 128 + l.val < 384; omega))).trans ?_
  refine (View.canon_cons_of_not_mem (⟨r0_13, w2⟩ : View.Piece (Elt Ideal) S1x1x1x512 e) [⟨r0_12, w1⟩, ⟨r0_11, w0⟩]
    (row_off 256 inb_S1x1x1x512_S1x1x1x128_0_0_0_256 ⟨128 + l.val, h⟩ (by show 128 + l.val < 256; omega))).trans ?_
  rw [← row_emb l 128 inb_S1x1x1x512_S1x1x1x128_0_0_0_128 h]
  exact View.canon_cons_emb r0_12 w1 _ _

theorem row_at2 {e : EltTy} (w3 w2 w1 w0 : Vec Ideal S1x1x1x128 e) (l : Fin 128) (h : 256 + l.val < 512) :
    View.canon [⟨r0_14, w3⟩, ⟨r0_13, w2⟩, ⟨r0_12, w1⟩, ⟨r0_11, w0⟩] (ix4 (0 : Fin 1) (0 : Fin 1) (0 : Fin 1) (⟨256 + l.val, h⟩ : Fin 512)) = w2 (ix4 (0 : Fin 1) (0 : Fin 1) (0 : Fin 1) l) := by
  refine (View.canon_cons_of_not_mem (⟨r0_14, w3⟩ : View.Piece (Elt Ideal) S1x1x1x512 e) [⟨r0_13, w2⟩, ⟨r0_12, w1⟩, ⟨r0_11, w0⟩]
    (row_off 384 inb_S1x1x1x512_S1x1x1x128_0_0_0_384 ⟨256 + l.val, h⟩ (by show 256 + l.val < 384; omega))).trans ?_
  rw [← row_emb l 256 inb_S1x1x1x512_S1x1x1x128_0_0_0_256 h]
  exact View.canon_cons_emb r0_13 w2 _ _

theorem row_at3 {e : EltTy} (w3 w2 w1 w0 : Vec Ideal S1x1x1x128 e) (l : Fin 128) (h : 384 + l.val < 512) :
    View.canon [⟨r0_14, w3⟩, ⟨r0_13, w2⟩, ⟨r0_12, w1⟩, ⟨r0_11, w0⟩] (ix4 (0 : Fin 1) (0 : Fin 1) (0 : Fin 1) (⟨384 + l.val, h⟩ : Fin 512)) = w3 (ix4 (0 : Fin 1) (0 : Fin 1) (0 : Fin 1) l) := by
  rw [← row_emb l 384 inb_S1x1x1x512_S1x1x1x128_0_0_0_384 h]
  exact View.canon_cons_emb r0_14 w3 _ _

/-- The same of one row of four columns. -/
theorem row_read {e : EltTy} (w : Fin 4 → Vec Ideal S1x1x1x128 e) (k : Fin 4) (l : Fin 128) :
    View.canon [⟨r0_14, w 3⟩, ⟨r0_13, w 2⟩, ⟨r0_12, w 1⟩, ⟨r0_11, w 0⟩] (ix4 (0 : Fin 1) (0 : Fin 1) (0 : Fin 1) (⟨128 * k.val + l.val, by omega⟩ : Fin 512)) = w k (ix4 (0 : Fin 1) (0 : Fin 1) (0 : Fin 1) l) :=
  match k with
  | 0 => row_at0 _ _ _ _ l (by omega)
  | 1 => row_at1 _ _ _ _ l (by omega)
  | 2 => row_at2 _ _ _ _ l (by omega)
  | 3 => row_at3 _ _ _ _ l (by omega)

/-- The tables of one position: each head's cosines twice over, and its sines with the first half's sign turned. -/
structure Tables (C S : Fin 128 → EReal) (p : BitVec 32) : Prop where
  cos : ∀ (s : Fin 2) (h : Fin 2) (k : Fin 32), C ⟨64 * s.val + (32 * h.val + k.val), by omega⟩ = Ideal.cos (HeadIn.angle p k)
  low : ∀ (s : Fin 2) (k : Fin 32), S ⟨64 * s.val + k.val, by omega⟩ = -Ideal.sin (HeadIn.angle p k)
  high : ∀ (s : Fin 2) (k : Fin 32), S ⟨64 * s.val + (32 + k.val), by omega⟩ = Ideal.sin (HeadIn.angle p k)

theorem group_read (o : ℕ) (ho : o + 512 ≤ 3072) (U : FVec Ideal S256x3072 .f32) (g : Vec Ideal S1x128 .f32) (c s : FVec Ideal S256x128 .f32)
    (r : Fin 256) (u : Fin 3072 → EReal) (hu : ∀ j, U (ix2 r j) = u j) (w : Fin 64 → EReal) (p : BitVec 32)
    (hg : ∀ (s : Fin 2) (e : Fin 64), g (ix2 0 (⟨64 * s.val + e.val, by omega⟩ : Fin 128)) = w e)
    (ht : Tables (fun d => c (ix2 r d)) (fun d => s (ix2 r d)) p) (k : Fin 4) (l : Fin 128) :
    col (o + 128 * k.val) (by omega) U g c s (ix2 r l) = HeadIn.group u o ho w p ⟨128 * k.val + l.val, by omega⟩ := by
  obtain ⟨σ, e, rfl⟩ : ∃ (σ : Fin 2) (e : Fin 64), l = ⟨64 * σ.val + e.val, by omega⟩ :=
    ⟨⟨l.val / 64, by omega⟩, ⟨l.val % 64, by omega⟩, Fin.ext (by show l.val = 64 * (l.val / 64) + l.val % 64; omega)⟩
  have hσ := σ.isLt
  have he := e.isLt
  have h1 : (128 * k.val + (64 * σ.val + e.val)) / 64 = 2 * k.val + σ.val := by omega
  have h2 : (128 * k.val + (64 * σ.val + e.val)) % 64 = e.val := by omega
  unfold col
  rw [turnCol_read, HeadIn.turn2_eq _ _ _ _ _ ht.cos ht.low ht.high]
  simp only [unitCol_read]
  unfold HeadIn.group HeadIn.head
  have h3 : (⟨(128 * k.val + (64 * σ.val + e.val)) % 64, by omega⟩ : Fin 64) = e := Fin.ext h2
  have h4 : (fun d : Fin 64 => HeadIn.unit2 (fun d => extractStridedSlice S256x128 ![0, o + 128 * k.val] U (slices_at (o + 128 * k.val) (by omega)) (ix2 r d))
      (fun d => g (ix2 0 d)) ⟨64 * σ.val + d.val, by omega⟩) =
      HeadIn.unit (fun d => u ⟨o + 64 * ((128 * k.val + (64 * σ.val + e.val)) / 64) + d.val, by omega⟩) w := funext fun d => by
    rw [HeadIn.unit2_eq _ _ _ hg]
    refine congrArg (fun z => HeadIn.unit z w d) (funext fun d => ?_)
    rw [slice_read _ (by omega), hu]
    refine congrArg u (Fin.ext ?_)
    show o + 128 * k.val + (64 * σ.val + d.val) = o + 64 * ((128 * k.val + (64 * σ.val + e.val)) / 64) + d.val
    omega
  rw [h3]
  exact congrArg (fun z => HeadIn.turn z (fun k => Ideal.cos (HeadIn.angle p k)) (fun k => Ideal.sin (HeadIn.angle p k)) e) h4

/-! What the body stores, element by element. -/

variable (x0 : Vec Ideal S1x256x1024 .f32) (x1 x2 : Vec Ideal S1x1x1024 .f32) (x3 : Vec Ideal S1x1024 .f32) (x4 : Vec Ideal S1024x3072 .bf16) (x5 x6 x7 x8 : Vec Ideal S1x128 .f32) (x9 x10 : Vec Ideal S1x256x128 .f32)

/-- One row's projection. -/
def uRow (r : Fin 256) : Fin 3072 → EReal := fun j =>
  HeadIn.proj (fun d => x0 (ix3 0 r d)) (fun d => x3 (ix2 0 d)) (fun d => x2 (ix3 0 0 d)) (fun d => x1 (ix3 0 0 d)) (fun d j => x4 (ix2 d j)) j

theorem u_read (r : Fin 256) (j : Fin 3072) : k0_pay112 x0 x1 x2 x3 x4 x5 x6 x7 x8 x9 x10 (ix2 r j) = uRow x0 x1 x2 x3 x4 r j := by
  have e0 : View.ld x0 r0_0 = x0 := View.ld_unit_zero (funext fun a => by fin_cases a <;> rfl) _ _
  have e1 : View.ld x1 r0_2 = x1 := View.ld_unit_zero (funext fun a => by fin_cases a <;> rfl) _ _
  have e2 : View.ld x2 r0_2 = x2 := View.ld_unit_zero (funext fun a => by fin_cases a <;> rfl) _ _
  have e3 : View.ld x3 r0_1 = x3 := View.ld_unit_zero (funext fun a => by fin_cases a <;> rfl) _ _
  have e4 : View.ld x4 r0_3 = x4 := View.ld_unit_zero (funext fun a => by fin_cases a <;> rfl) _ _
  unfold k0_pay112
  rw [e0, e1, e2, e3, e4, pay3_read]
  rfl

theorem c_read (r : Fin 256) (l : Fin 128) : k0_pay113 x0 x1 x2 x3 x4 x5 x6 x7 x8 x9 x10 (ix2 r l) = x9 (ix3 0 r l) := by
  have e : View.ld x9 r0_4 = x9 := View.ld_unit_zero (funext fun a => by fin_cases a <;> rfl) _ _
  unfold k0_pay113
  rw [e, pay4_read]

theorem s_read (r : Fin 256) (l : Fin 128) : k0_pay114 x0 x1 x2 x3 x4 x5 x6 x7 x8 x9 x10 (ix2 r l) = x10 (ix3 0 r l) := by
  have e : View.ld x10 r0_4 = x10 := View.ld_unit_zero (funext fun a => by fin_cases a <;> rfl) _ _
  unfold k0_pay114
  rw [e, pay5_read]

theorem gain_ld (x : Vec Ideal S1x128 .f32) : View.ld x r0_5 = x := View.ld_unit_zero (funext fun a => by fin_cases a <;> rfl) _ _

theorem split512 (f : Fin 512) : ∃ (k : Fin 4) (l : Fin 128), f = ⟨128 * k.val + l.val, by omega⟩ :=
  ⟨⟨f.val / 128, by omega⟩, ⟨f.val % 128, by omega⟩, Fin.ext (by show f.val = 128 * (f.val / 128) + f.val % 128; omega)⟩

theorem col_read (o : ℕ) (ho : o + 512 ≤ 3072) (g : Vec Ideal S1x128 .f32) (r : Fin 256) (w : Fin 64 → EReal) (p : BitVec 32)
    (hg : ∀ (s : Fin 2) (e : Fin 64), g (ix2 0 (⟨64 * s.val + e.val, by omega⟩ : Fin 128)) = w e)
    (ht : Tables (fun d => x9 (ix3 0 r d)) (fun d => x10 (ix3 0 r d)) p) (k : Fin 4) (l : Fin 128) :
    col (o + 128 * k.val) (by omega) (k0_pay112 x0 x1 x2 x3 x4 x5 x6 x7 x8 x9 x10) (View.ld g r0_5) (k0_pay113 x0 x1 x2 x3 x4 x5 x6 x7 x8 x9 x10) (k0_pay114 x0 x1 x2 x3 x4 x5 x6 x7 x8 x9 x10) (ix2 r l) =
      HeadIn.group (uRow x0 x1 x2 x3 x4 r) o ho w p ⟨128 * k.val + l.val, by omega⟩ := by
  refine group_read o ho _ _ _ _ r _ (u_read x0 x1 x2 x3 x4 x5 x6 x7 x8 x9 x10 r) w p (by rw [gain_ld]; exact hg) ?_ k l
  have h1 : (fun d => k0_pay113 x0 x1 x2 x3 x4 x5 x6 x7 x8 x9 x10 (ix2 r d)) = fun d => x9 (ix3 0 r d) := funext fun d => c_read x0 x1 x2 x3 x4 x5 x6 x7 x8 x9 x10 r d
  have h2 : (fun d => k0_pay114 x0 x1 x2 x3 x4 x5 x6 x7 x8 x9 x10 (ix2 r d)) = fun d => x10 (ix3 0 r d) := funext fun d => s_read x0 x1 x2 x3 x4 x5 x6 x7 x8 x9 x10 r d
  rw [h1, h2]
  exact ht

theorem out11_read (r : Fin 256) (w : Fin 64 → EReal) (p : BitVec 32)
    (hg : ∀ (s : Fin 2) (e : Fin 64), x5 (ix2 0 (⟨64 * s.val + e.val, by omega⟩ : Fin 128)) = w e)
    (ht : Tables (fun d => x9 (ix3 0 r d)) (fun d => x10 (ix3 0 r d)) p) (f : Fin 512) :
    out0_11 x0 x1 x2 x3 x4 x5 x6 x7 x8 x9 x10 (ix3 0 r f) = HeadIn.group (uRow x0 x1 x2 x3 x4 r) 0 (by norm_num) w p f * Ideal.ofBits .f32 0x3E38AA3B#32 := by
  obtain ⟨k, l, rfl⟩ := split512 f
  rw [out11_eq]
  refine (four_read (e := .bf16) (fun k : Fin 4 => storeScaled (col (0 + 128 * k.val) (by omega) (k0_pay112 x0 x1 x2 x3 x4 x5 x6 x7 x8 x9 x10) (View.ld x5 r0_5)
    (k0_pay113 x0 x1 x2 x3 x4 x5 x6 x7 x8 x9 x10) (k0_pay114 x0 x1 x2 x3 x4 x5 x6 x7 x8 x9 x10))) r k l).trans ?_
  rw [storeScaled_read, col_read x0 x1 x2 x3 x4 x5 x6 x7 x8 x9 x10 0 (by norm_num) x5 r w p hg ht k l]

theorem out12_read (r : Fin 256) (w : Fin 64 → EReal) (p : BitVec 32)
    (hg : ∀ (s : Fin 2) (e : Fin 64), x6 (ix2 0 (⟨64 * s.val + e.val, by omega⟩ : Fin 128)) = w e)
    (ht : Tables (fun d => x9 (ix3 0 r d)) (fun d => x10 (ix3 0 r d)) p) (f : Fin 512) :
    out0_12 x0 x1 x2 x3 x4 x5 x6 x7 x8 x9 x10 (ix3 0 r f) = HeadIn.group (uRow x0 x1 x2 x3 x4 r) 512 (by norm_num) w p f := by
  obtain ⟨k, l, rfl⟩ := split512 f
  rw [out12_eq]
  refine (four_read (e := .bf16) (fun k : Fin 4 => storeCast (col (512 + 128 * k.val) (by omega) (k0_pay112 x0 x1 x2 x3 x4 x5 x6 x7 x8 x9 x10) (View.ld x6 r0_5)
    (k0_pay113 x0 x1 x2 x3 x4 x5 x6 x7 x8 x9 x10) (k0_pay114 x0 x1 x2 x3 x4 x5 x6 x7 x8 x9 x10))) r k l).trans ?_
  rw [storeCast_read, col_read x0 x1 x2 x3 x4 x5 x6 x7 x8 x9 x10 512 (by norm_num) x6 r w p hg ht k l]

theorem out14_read (r : Fin 256) (w : Fin 64 → EReal) (p : BitVec 32)
    (hg : ∀ (s : Fin 2) (e : Fin 64), x7 (ix2 0 (⟨64 * s.val + e.val, by omega⟩ : Fin 128)) = w e)
    (ht : Tables (fun d => x9 (ix3 0 r d)) (fun d => x10 (ix3 0 r d)) p) (f : Fin 512) :
    out0_14 x0 x1 x2 x3 x4 x5 x6 x7 x8 x9 x10 (ix3 0 r f) = HeadIn.group (uRow x0 x1 x2 x3 x4 r) 1536 (by norm_num) w p f * Ideal.ofBits .f32 0x3E38AA3B#32 := by
  obtain ⟨k, l, rfl⟩ := split512 f
  rw [out14_eq]
  refine (four_read (e := .bf16) (fun k : Fin 4 => storeScaled (col (1536 + 128 * k.val) (by omega) (k0_pay112 x0 x1 x2 x3 x4 x5 x6 x7 x8 x9 x10) (View.ld x7 r0_5)
    (k0_pay113 x0 x1 x2 x3 x4 x5 x6 x7 x8 x9 x10) (k0_pay114 x0 x1 x2 x3 x4 x5 x6 x7 x8 x9 x10))) r k l).trans ?_
  rw [storeScaled_read, col_read x0 x1 x2 x3 x4 x5 x6 x7 x8 x9 x10 1536 (by norm_num) x7 r w p hg ht k l]

theorem out15_read (r : Fin 256) (w : Fin 64 → EReal) (p : BitVec 32)
    (hg : ∀ (s : Fin 2) (e : Fin 64), x7 (ix2 0 (⟨64 * s.val + e.val, by omega⟩ : Fin 128)) = w e)
    (ht : Tables (fun d => x9 (ix3 0 r d)) (fun d => x10 (ix3 0 r d)) p) (f : Fin 512) :
    out0_15 x0 x1 x2 x3 x4 x5 x6 x7 x8 x9 x10 (ix3 0 r f) = HeadIn.group (uRow x0 x1 x2 x3 x4 r) 1536 (by norm_num) w p f := by
  obtain ⟨k, l, rfl⟩ := split512 f
  rw [out15_eq]
  refine (four_read (e := .f32) (fun k : Fin 4 => storePlain (col (1536 + 128 * k.val) (by omega) (k0_pay112 x0 x1 x2 x3 x4 x5 x6 x7 x8 x9 x10) (View.ld x7 r0_5)
    (k0_pay113 x0 x1 x2 x3 x4 x5 x6 x7 x8 x9 x10) (k0_pay114 x0 x1 x2 x3 x4 x5 x6 x7 x8 x9 x10))) r k l).trans ?_
  rw [storePlain_read, col_read x0 x1 x2 x3 x4 x5 x6 x7 x8 x9 x10 1536 (by norm_num) x7 r w p hg ht k l]

theorem out16_read (r : Fin 256) (w : Fin 64 → EReal) (p : BitVec 32)
    (hg : ∀ (s : Fin 2) (e : Fin 64), x8 (ix2 0 (⟨64 * s.val + e.val, by omega⟩ : Fin 128)) = w e)
    (ht : Tables (fun d => x9 (ix3 0 r d)) (fun d => x10 (ix3 0 r d)) p) (f : Fin 512) :
    out0_16 x0 x1 x2 x3 x4 x5 x6 x7 x8 x9 x10 (ix3 0 r f) = HeadIn.group (uRow x0 x1 x2 x3 x4 r) 2048 (by norm_num) w p f := by
  obtain ⟨k, l, rfl⟩ := split512 f
  rw [out16_eq]
  refine (four_read (e := .bf16) (fun k : Fin 4 => storeCast (col (2048 + 128 * k.val) (by omega) (k0_pay112 x0 x1 x2 x3 x4 x5 x6 x7 x8 x9 x10) (View.ld x8 r0_5)
    (k0_pay113 x0 x1 x2 x3 x4 x5 x6 x7 x8 x9 x10) (k0_pay114 x0 x1 x2 x3 x4 x5 x6 x7 x8 x9 x10))) r k l).trans ?_
  rw [storeCast_read, col_read x0 x1 x2 x3 x4 x5 x6 x7 x8 x9 x10 2048 (by norm_num) x8 r w p hg ht k l]

theorem out13_read (r : Fin 256) (f : Fin 512) :
    out0_13 x0 x1 x2 x3 x4 x5 x6 x7 x8 x9 x10 (ix3 0 r f) = uRow x0 x1 x2 x3 x4 r ⟨1024 + f.val, by omega⟩ := by
  unfold out0_13
  rw [View.canon_unit_zero (funext fun a => by fin_cases a <;> rfl), pay48_read, u_read]

theorem out17_read (r : Fin 256) (f : Fin 512) :
    out0_17 x0 x1 x2 x3 x4 x5 x6 x7 x8 x9 x10 (ix3 0 r f) = uRow x0 x1 x2 x3 x4 r ⟨2560 + f.val, by omega⟩ := by
  unfold out0_17
  rw [View.canon_unit_zero (funext fun a => by fin_cases a <;> rfl), pay2_read, u_read]

theorem out18_read (w : Fin 64 → EReal) (p : Fin 256 → BitVec 32)
    (hg : ∀ (s : Fin 2) (e : Fin 64), x8 (ix2 0 (⟨64 * s.val + e.val, by omega⟩ : Fin 128)) = w e)
    (ht : ∀ r : Fin 256, Tables (fun d => x9 (ix3 0 r d)) (fun d => x10 (ix3 0 r d)) (p r)) (f : Fin 512) :
    out0_18 x0 x1 x2 x3 x4 x5 x6 x7 x8 x9 x10 (ix4 0 0 0 f) =
      Ideal.div (∑ r : Fin 256, HeadIn.group (uRow x0 x1 x2 x3 x4 r) 2048 (by norm_num) w (p r) f) (Ideal.ofBits .f32 0x43800000#32) := by
  obtain ⟨k, l, rfl⟩ := split512 f
  rw [out18_eq]
  refine (row_read (e := .f32) (fun k : Fin 4 => storeMean (col (2048 + 128 * k.val) (by omega) (k0_pay112 x0 x1 x2 x3 x4 x5 x6 x7 x8 x9 x10) (View.ld x8 r0_5)
    (k0_pay113 x0 x1 x2 x3 x4 x5 x6 x7 x8 x9 x10) (k0_pay114 x0 x1 x2 x3 x4 x5 x6 x7 x8 x9 x10))) k l).trans ?_
  rw [storeMean_read]
  exact congrArg (fun z => Ideal.div z (Ideal.ofBits .f32 0x43800000#32)) (Finset.sum_congr rfl fun r _ =>
    col_read x0 x1 x2 x3 x4 x5 x6 x7 x8 x9 x10 2048 (by norm_num) x8 r w (p r) hg (ht r) k l)

end Cert.Kernel6Ideal.Block
-- ==== Proof.OddInHost.lean ====
module
public import proofs.«01_k».proof.Proof.OddInBlock
public import Idealize.ShloMosaic.Lib.WordCmp
public import Idealize.ShloMosaic.Lib.StableHlo.RunRead
public import Idealize.ShloMosaic.Lib.Pipeline.Value
@[expose] public section
set_option maxRecDepth 16384
noncomputable section

/-! What the call is given: the tables of cosines and sines, the gains twice over, the reshaped rows. -/

namespace Cert.Kernel6Ideal.Block
open Cert.Kernel6Ideal Cert.Kernel6Ideal.Gen Idealize.ShloMosaic Idealize.ShloMosaic.TcCoe Idealize.SL.Sem

/-- Every position's angles. -/
def angles (P : IVec S4x8192 32) : FVec Ideal S4x8192x32 .f32 :=
  mulf (broadcastInDim S4x8192x32 ![0, 1, 2] bcast_S4x8192x1_S4x8192x32_0_1_2 (broadcastInDim S4x8192x1 ![0, 1] bcast_S4x8192_S4x8192x1_0_1
      (sitofp .f32 P : FVec Ideal S4x8192 .f32)))
    (broadcastInDim S4x8192x32 ![0, 1, 2] bcast_S1x1x32_S4x8192x32_0_1_2 (broadcastInDim S1x1x32 ![2] bcast_S32_S1x1x32_2
      (Host.powf (broadcastInDim S32 ![] bcast_S_S32 (constant S_ .f32 0x461C4000#32 : FVec Ideal S_ .f32))
        (Host.divf (Host.negf (sitofp .f32 (iotaInDim S32 32 0) : FVec Ideal S32 .f32))
          (broadcastInDim S32 ![] bcast_S_S32 (constant S_ .f32 0x42000000#32 : FVec Ideal S_ .f32))))))

/-- Four tables of 32 columns side by side. -/
def beside (a b c d : FVec Ideal S4x8192x32 .f32) : FVec Ideal S4x8192x128 .f32 :=
  concatenate S4x8192x128 2 [⟨S4x8192x32, a⟩, ⟨S4x8192x32, b⟩, ⟨S4x8192x32, c⟩, ⟨S4x8192x32, d⟩]
    concatenates_S4x8192x32_S4x8192x32_S4x8192x32_S4x8192x32_S4x8192x128_d2

/-- A gain of 64 columns twice over, as a row. -/
def twice (g : FVec Ideal S64 .f32) : FVec Ideal S1x128 .f32 :=
  shapeCast S1x128 (concatenate S128 0 [⟨S64, g⟩, ⟨S64, g⟩] concatenates_S64_S64_S128_d0 : FVec Ideal S128 .f32) shapeCasts_S128_S1x128

theorem angles_read (P : IVec S4x8192 32) (b : Fin 4) (p : Fin 8192) (k : Fin 32) :
    angles P (ix3 b p k) = HeadIn.angle (P (ix2 b p)) k := by
  pointwise [angles]
  rfl

theorem beside_read (a b c d : FVec Ideal S4x8192x32 .f32) (n : Fin 4) (p : Fin 8192) (k : Fin 32) :
    beside a b c d (ix3 n p (⟨32 * 0 + k.val, by omega⟩ : Fin 128)) = a (ix3 n p k)
      ∧ beside a b c d (ix3 n p (⟨32 * 1 + k.val, by omega⟩ : Fin 128)) = b (ix3 n p k)
      ∧ beside a b c d (ix3 n p (⟨32 * 2 + k.val, by omega⟩ : Fin 128)) = c (ix3 n p k)
      ∧ beside a b c d (ix3 n p (⟨32 * 3 + k.val, by omega⟩ : Fin 128)) = d (ix3 n p k) := by
  have off : ∀ (j : Fin 128) (x : Fin 3), x ≠ 2 → (ix3 n p k x).val = (ix3 n p j x).val := fun j x hx => by
    fin_cases x
    · rfl
    · rfl
    · exact absurd rfl hx
  refine ⟨?_, ?_, ?_, ?_⟩
  · exact concatenate_apply_piece (t := S4x8192x128) 2 _ _ _ 0 (by show 0 < 4; omega) S4x8192x32 a rfl rfl 0 (by rfl) (ix3 n p k) (off _) rfl
  · exact concatenate_apply_piece (t := S4x8192x128) 2 _ _ _ 1 (by show 1 < 4; omega) S4x8192x32 b rfl rfl 32 (by rfl) (ix3 n p k) (off _) rfl
  · exact concatenate_apply_piece (t := S4x8192x128) 2 _ _ _ 2 (by show 2 < 4; omega) S4x8192x32 c rfl rfl 64 (by rfl) (ix3 n p k) (off _) rfl
  · exact concatenate_apply_piece (t := S4x8192x128) 2 _ _ _ 3 (by show 3 < 4; omega) S4x8192x32 d rfl rfl 96 (by rfl) (ix3 n p k) (off _) rfl

theorem twice_read (g : FVec Ideal S64 .f32) (s : Fin 2) (e : Fin 64) :
    twice g (ix2 0 (⟨64 * s.val + e.val, by omega⟩ : Fin 128)) = g (ix1 e) := by
  have h : ∀ j : Fin 128, twice g (ix2 0 j) = concatenate S128 0 [⟨S64, g⟩, ⟨S64, g⟩] concatenates_S64_S64_S128_d0 (ix1 j) := fun j => by
    unfold twice
    pointwise
  rw [h]
  have off : ∀ (j : Fin 128) (x : Fin 1), x ≠ 0 → (ix1 e x).val = (ix1 j x).val := fun j x hx => absurd (Subsingleton.elim _ _) hx
  match s with
  | 0 => exact concatenate_apply_piece (t := S128) 0 _ _ _ 0 (by show 0 < 2; omega) S64 g rfl rfl 0 (by rfl) (ix1 e) (off _) rfl
  | 1 => exact concatenate_apply_piece (t := S128) 0 _ _ _ 1 (by show 1 < 2; omega) S64 g rfl rfl 64 (by rfl) (ix1 e) (off _) rfl

/-- The two tables at a position are that position's. -/
theorem tables_read (P : IVec S4x8192 32) (n : Fin 4) (p : Fin 8192) :
    Tables (fun l => beside (Host.cos (angles P)) (Host.cos (angles P)) (Host.cos (angles P)) (Host.cos (angles P)) (ix3 n p l))
      (fun l => beside (Host.negf (Host.sin (angles P))) (Host.sin (angles P)) (Host.negf (Host.sin (angles P))) (Host.sin (angles P)) (ix3 n p l))
      (P (ix2 n p)) := by
  have hc : ∀ k, Host.cos (angles P) (ix3 n p k) = Ideal.cos (HeadIn.angle (P (ix2 n p)) k) := fun k => by
    rw [← angles_read P n p k]; rfl
  have hs : ∀ k, Host.sin (angles P) (ix3 n p k) = Ideal.sin (HeadIn.angle (P (ix2 n p)) k) := fun k => by
    rw [← angles_read P n p k]; rfl
  have hn : ∀ k, Host.negf (Host.sin (angles P)) (ix3 n p k) = -Ideal.sin (HeadIn.angle (P (ix2 n p)) k) := fun k => by
    rw [← hs k]; rfl
  have at_ : ∀ (i j : ℕ) (hi : i < 128) (hj : j < 128), i = j → (⟨i, hi⟩ : Fin 128) = ⟨j, hj⟩ := fun i j hi hj h => Fin.ext h
  refine ⟨fun s h k => ?_, fun s k => ?_, fun s k => ?_⟩
  · match s, h with
    | 0, 0 => exact (congrArg (fun l => beside _ _ _ _ (ix3 n p l)) (at_ _ (32 * 0 + k.val) _ (by omega) (by show 64 * 0 + (32 * 0 + k.val) = 32 * 0 + k.val; omega))).trans ((beside_read _ _ _ _ n p k).1.trans (hc k))
    | 0, 1 => exact (congrArg (fun l => beside _ _ _ _ (ix3 n p l)) (at_ _ (32 * 1 + k.val) _ (by omega) (by show 64 * 0 + (32 * 1 + k.val) = 32 * 1 + k.val; omega))).trans ((beside_read _ _ _ _ n p k).2.1.trans (hc k))
    | 1, 0 => exact (congrArg (fun l => beside _ _ _ _ (ix3 n p l)) (at_ _ (32 * 2 + k.val) _ (by omega) (by show 64 * 1 + (32 * 0 + k.val) = 32 * 2 + k.val; omega))).trans ((beside_read _ _ _ _ n p k).2.2.1.trans (hc k))
    | 1, 1 => exact (congrArg (fun l => beside _ _ _ _ (ix3 n p l)) (at_ _ (32 * 3 + k.val) _ (by omega) (by show 64 * 1 + (32 * 1 + k.val) = 32 * 3 + k.val; omega))).trans ((beside_read _ _ _ _ n p k).2.2.2.trans (hc k))
  · match s with
    | 0 => exact (congrArg (fun l => beside _ _ _ _ (ix3 n p l)) (at_ _ (32 * 0 + k.val) _ (by omega) (by show 64 * 0 + k.val = 32 * 0 + k.val; omega))).trans ((beside_read _ _ _ _ n p k).1.trans (hn k))
    | 1 => exact (congrArg (fun l => beside _ _ _ _ (ix3 n p l)) (at_ _ (32 * 2 + k.val) _ (by omega) (by show 64 * 1 + k.val = 32 * 2 + k.val; omega))).trans ((beside_read _ _ _ _ n p k).2.2.1.trans (hn k))
  · match s with
    | 0 => exact (congrArg (fun l => beside _ _ _ _ (ix3 n p l)) (at_ _ (32 * 1 + k.val) _ (by omega) (by show 64 * 0 + (32 + k.val) = 32 * 1 + k.val; omega))).trans ((beside_read _ _ _ _ n p k).2.1.trans (hs k))
    | 1 => exact (congrArg (fun l => beside _ _ _ _ (ix3 n p l)) (at_ _ (32 * 3 + k.val) _ (by omega) (by show 64 * 1 + (32 + k.val) = 32 * 3 + k.val; omega))).trans ((beside_read _ _ _ _ n p k).2.2.2.trans (hs k))

theorem modulation_read (x : Vec Ideal S4x1024 .f32) (n : Fin 4) (d : Fin 1024) :
    shapeCast S4x1x1024 x shapeCasts_S4x1024_S4x1x1024 (ix3 n 0 d) = x (ix2 n d) := by
  pointwise

theorem norm_read (x : Vec Ideal S1024 .f32) (d : Fin 1024) :
    shapeCast S1x1024 x shapeCasts_S1024_S1x1024 (ix2 0 d) = x (ix1 d) := by
  pointwise

variable (m : (ℓ : Loc nD τ sig) → Buf (Elt Ideal) ℓ) (c : Dev nD)

theorem V_v14 : V m c main_v14 = beside (Host.cos (angles (m ((c : Thread nD τ).loc main_arg9)))) (Host.cos (angles (m ((c : Thread nD τ).loc main_arg9))))
    (Host.cos (angles (m ((c : Thread nD τ).loc main_arg9)))) (Host.cos (angles (m ((c : Thread nD τ).loc main_arg9)))) := by
  unfold V hostOps0
  after_reads_simp
  rfl

theorem V_v17 : V m c main_v17 = beside (Host.negf (Host.sin (angles (m ((c : Thread nD τ).loc main_arg9))))) (Host.sin (angles (m ((c : Thread nD τ).loc main_arg9))))
    (Host.negf (Host.sin (angles (m ((c : Thread nD τ).loc main_arg9))))) (Host.sin (angles (m ((c : Thread nD τ).loc main_arg9)))) := by
  unfold V hostOps0
  after_reads_simp
  rfl

theorem V_v18 : V m c main_v18 = shapeCast S4x1x1024 (m ((c : Thread nD τ).loc main_arg1)) shapeCasts_S4x1024_S4x1x1024 := by
  unfold V hostOps0
  after_reads_simp
  rfl

theorem V_v19 : V m c main_v19 = shapeCast S4x1x1024 (m ((c : Thread nD τ).loc main_arg2)) shapeCasts_S4x1024_S4x1x1024 := by
  unfold V hostOps0
  after_reads_simp
  rfl

theorem V_v20 : V m c main_v20 = shapeCast S1x1024 (m ((c : Thread nD τ).loc main_arg3)) shapeCasts_S1024_S1x1024 := by
  unfold V hostOps0
  after_reads_simp
  rfl

theorem V_v21 : V m c main_v21 = (m ((c : Thread nD τ).loc main_arg4) : Vec Ideal S1024x3072 .f32) := by
  unfold V hostOps0
  after_reads_simp
  rfl

theorem V_v23 : V m c main_v23 = twice (m ((c : Thread nD τ).loc main_arg5)) := by
  unfold V hostOps0
  after_reads_simp
  rfl

theorem V_v25 : V m c main_v25 = twice (m ((c : Thread nD τ).loc main_arg6)) := by
  unfold V hostOps0
  after_reads_simp
  rfl

theorem V_v27 : V m c main_v27 = twice (m ((c : Thread nD τ).loc main_arg7)) := by
  unfold V hostOps0
  after_reads_simp
  rfl

theorem V_v29 : V m c main_v29 = twice (m ((c : Thread nD τ).loc main_arg8)) := by
  unfold V hostOps0
  after_reads_simp
  rfl

end Cert.Kernel6Ideal.Block
-- ==== Proof.OddIn.lean ====
module
public import proofs.«01_k».proof.Proof.OddInHost
public import proofs.«01_k».proof.Proof.Gen.Kernel6Ideal.Value
public import Idealize.ShloMosaic.Lib.WordCmp
public import Idealize.ShloMosaic.Lib.Pipeline.Covers
@[expose] public section
set_option maxRecDepth 16384
noncomputable section

/-! The input projection's eight results: what each grid point writes back, and that its blocks fill the arrays. -/

namespace Cert.Kernel6Ideal.Block
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- A position's row of the projection. -/
def projected (n : Fin 4) (p : Fin 8192) : Fin 3072 → EReal := fun j =>
  HeadIn.proj (fun d => (m ((c : Thread nD τ).loc main_arg0) : Vec Ideal S4x8192x1024 .f32) (ix3 n p d))
    (fun d => (m ((c : Thread nD τ).loc main_arg3) : Vec Ideal S1024 .f32) (ix1 d))
    (fun d => (m ((c : Thread nD τ).loc main_arg2) : Vec Ideal S4x1024 .f32) (ix2 n d))
    (fun d => (m ((c : Thread nD τ).loc main_arg1) : Vec Ideal S4x1024 .f32) (ix2 n d))
    (fun d j => (m ((c : Thread nD τ).loc main_arg4) : Vec Ideal S1024x3072 .f32) (ix2 d j)) j

/-- A position's group of eight heads, normalised and turned. -/
def turned (o : ℕ) (ho : o + 512 ≤ 3072) (g : Vec Ideal S64 .f32) (n : Fin 4) (p : Fin 8192) (f : Fin 512) : EReal :=
  HeadIn.group (projected m c n p) o ho (fun e => g (ix1 e)) ((m ((c : Thread nD τ).loc main_arg9) : IVec S4x8192 32) (ix2 n p)) f

/-- A position's 512 columns from column `o`, as they are. -/
def plain (o : ℕ) (ho : o + 512 ≤ 3072) (n : Fin 4) (p : Fin 8192) (f : Fin 512) : EReal := projected m c n p ⟨o + f.val, by omega⟩

/-- The mean of the third group over a block of 256 positions. -/
def blockMean (n : Fin 4) (b : Fin 32) (f : Fin 512) : EReal :=
  Ideal.div (∑ r : Fin 256, turned m c 2048 (by norm_num) (m ((c : Thread nD τ).loc main_arg8)) n
    (⟨256 * b.val + r.val, by omega⟩ : Fin 8192) f) (Ideal.ofBits .f32 0x43800000#32)

/-! The eight arrays the kernel leaves. -/
def result11 : Vec Ideal S4x8192x512 .bf16 := fun y => turned m c 0 (by norm_num) (m ((c : Thread nD τ).loc main_arg5)) (y 0) (y 1) (y 2) * Ideal.ofBits .f32 0x3E38AA3B#32
def result12 : Vec Ideal S4x8192x512 .bf16 := fun y => turned m c 512 (by norm_num) (m ((c : Thread nD τ).loc main_arg6)) (y 0) (y 1) (y 2)
def result13 : Vec Ideal S4x8192x512 .bf16 := fun y => plain m c 1024 (by norm_num) (y 0) (y 1) (y 2)
def result14 : Vec Ideal S4x8192x512 .bf16 := fun y => turned m c 1536 (by norm_num) (m ((c : Thread nD τ).loc main_arg7)) (y 0) (y 1) (y 2) * Ideal.ofBits .f32 0x3E38AA3B#32
def result15 : Vec Ideal S4x8192x512 .f32 := fun y => turned m c 1536 (by norm_num) (m ((c : Thread nD τ).loc main_arg7)) (y 0) (y 1) (y 2)
def result16 : Vec Ideal S4x8192x512 .bf16 := fun y => turned m c 2048 (by norm_num) (m ((c : Thread nD τ).loc main_arg8)) (y 0) (y 1) (y 2)
def result17 : Vec Ideal S4x8192x512 .bf16 := fun y => plain m c 2560 (by norm_num) (y 0) (y 1) (y 2)
def result18 : Vec Ideal S4x32x1x512 .f32 := fun y => blockMean m c (y 0) (y 1) (y 3)

variable (t : Fin cfg0.N)

theorem co0 : ((grid0.coords t) 0).val < 4 := ((grid0.coords t) 0).isLt
theorem co1 : ((grid0.coords t) 1).val < 32 := ((grid0.coords t) 1).isLt
theorem toNat_small (a : ℕ) (h : a < 32) : (BitVec.ofNat 32 a).toNat = a := WordCmp.toNat_ofNat_of_lt (by omega)

/-- The batch and the position a grid point's row `r` has. -/
abbrev bn : Fin 4 := ⟨_, co0 t⟩
abbrev bp (r : Fin 256) : Fin 8192 := ⟨256 * ((grid0.coords t) 1).val + r.val, by have := co1 t; omega⟩

/-! A point's blocks of the eleven inputs. -/
abbrev b0 : Vec Ideal S1x256x1024 .f32 := iblk m c 0 t
abbrev b1 : Vec Ideal S1x1x1024 .f32 := iblk m c 1 t
abbrev b2 : Vec Ideal S1x1x1024 .f32 := iblk m c 2 t
abbrev b3 : Vec Ideal S1x1024 .f32 := iblk m c 3 t
abbrev b4 : Vec Ideal S1024x3072 .bf16 := iblk m c 4 t
abbrev b5 : Vec Ideal S1x128 .f32 := iblk m c 5 t
abbrev b6 : Vec Ideal S1x128 .f32 := iblk m c 6 t
abbrev b7 : Vec Ideal S1x128 .f32 := iblk m c 7 t
abbrev b8 : Vec Ideal S1x128 .f32 := iblk m c 8 t
abbrev b9 : Vec Ideal S1x256x128 .f32 := iblk m c 9 t
abbrev b10 : Vec Ideal S1x256x128 .f32 := iblk m c 10 t

theorem b0_read (r : Fin 256) (d : Fin 1024) : b0 m c t (ix3 0 r d) =
    (m ((c : Thread nD τ).loc main_arg0) : Vec Ideal S4x8192x1024 .f32) (ix3 (bn t) (bp t r) d) := by
  have h0 := co0 t; have h1 := co1 t
  unfold b0 iblk
  rw [View.read_apply]
  refine (congrFun (V_main_arg0 m c) _).trans (congrArg (m ((c : Thread nD τ).loc main_arg0)) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 1024 + 1 * d.val = d.val
    omega

theorem b1_read (d : Fin 1024) : b1 m c t (ix3 0 0 d) =
    (m ((c : Thread nD τ).loc main_arg1) : Vec Ideal S4x1024 .f32) (ix2 (bn t) d) := by
  have h0 := co0 t
  refine Eq.trans ?_ (modulation_read _ _ _)
  unfold b1 iblk
  rw [View.read_apply]
  refine (congrFun (V_v18 m c) _).trans (congrArg (shapeCast S4x1x1024 _ shapeCasts_S4x1024_S4x1x1024) (funext fun a => Fin.ext ?_))
  fin_cases a
  · show (BitVec.ofNat 32 ((grid0.coords t) 0).val).toNat * 1 + 1 * 0 = ((grid0.coords t) 0).val
    rw [toNat_small _ (by omega)]; omega
  · rfl
  · show 0 * 1024 + 1 * d.val = d.val
    omega

theorem b2_read (d : Fin 1024) : b2 m c t (ix3 0 0 d) =
    (m ((c : Thread nD τ).loc main_arg2) : Vec Ideal S4x1024 .f32) (ix2 (bn t) d) := by
  have h0 := co0 t
  refine Eq.trans ?_ (modulation_read _ _ _)
  unfold b2 iblk
  rw [View.read_apply]
  refine (congrFun (V_v19 m c) _).trans (congrArg (shapeCast S4x1x1024 _ shapeCasts_S4x1024_S4x1x1024) (funext fun a => Fin.ext ?_))
  fin_cases a
  · show (BitVec.ofNat 32 ((grid0.coords t) 0).val).toNat * 1 + 1 * 0 = ((grid0.coords t) 0).val
    rw [toNat_small _ (by omega)]; omega
  · rfl
  · show 0 * 1024 + 1 * d.val = d.val
    omega

theorem b3_read (d : Fin 1024) : b3 m c t (ix2 0 d) = (m ((c : Thread nD τ).loc main_arg3) : Vec Ideal S1024 .f32) (ix1 d) := by
  refine Eq.trans ?_ (norm_read _ _)
  unfold b3 iblk
  rw [View.read_apply]
  refine (congrFun (V_v20 m c) _).trans (congrArg (shapeCast S1x1024 _ shapeCasts_S1024_S1x1024) (funext fun a => Fin.ext ?_))
  fin_cases a
  · rfl
  · show 0 * 1024 + 1 * d.val = d.val
    omega

theorem b4_read (d : Fin 1024) (j : Fin 3072) : b4 m c t (ix2 d j) =
    (m ((c : Thread nD τ).loc main_arg4) : Vec Ideal S1024x3072 .f32) (ix2 d j) := by
  unfold b4 iblk
  rw [View.read_apply]
  refine (congrFun (V_v21 m c) _).trans (congrArg (m ((c : Thread nD τ).loc main_arg4)) (funext fun a => Fin.ext ?_))
  fin_cases a
  · show 0 * 1024 + 1 * d.val = d.val
    omega
  · show 0 * 3072 + 1 * j.val = j.val
    omega

theorem b5_read (s : Fin 2) (e : Fin 64) : b5 m c t (ix2 0 (⟨64 * s.val + e.val, by omega⟩ : Fin 128)) =
    (m ((c : Thread nD τ).loc main_arg5) : Vec Ideal S64 .f32) (ix1 e) := by
  refine Eq.trans ?_ (twice_read _ s e)
  unfold b5 iblk
  rw [View.read_apply]
  refine (congrFun (V_v23 m c) _).trans (congrArg (twice _) (funext fun a => Fin.ext ?_))
  fin_cases a
  · rfl
  · show 0 * 128 + 1 * (64 * s.val + e.val) = 64 * s.val + e.val
    omega

theorem b6_read (s : Fin 2) (e : Fin 64) : b6 m c t (ix2 0 (⟨64 * s.val + e.val, by omega⟩ : Fin 128)) =
    (m ((c : Thread nD τ).loc main_arg6) : Vec Ideal S64 .f32) (ix1 e) := by
  refine Eq.trans ?_ (twice_read _ s e)
  unfold b6 iblk
  rw [View.read_apply]
  refine (congrFun (V_v25 m c) _).trans (congrArg (twice _) (funext fun a => Fin.ext ?_))
  fin_cases a
  · rfl
  · show 0 * 128 + 1 * (64 * s.val + e.val) = 64 * s.val + e.val
    omega

theorem b7_read (s : Fin 2) (e : Fin 64) : b7 m c t (ix2 0 (⟨64 * s.val + e.val, by omega⟩ : Fin 128)) =
    (m ((c : Thread nD τ).loc main_arg7) : Vec Ideal S64 .f32) (ix1 e) := by
  refine Eq.trans ?_ (twice_read _ s e)
  unfold b7 iblk
  rw [View.read_apply]
  refine (congrFun (V_v27 m c) _).trans (congrArg (twice _) (funext fun a => Fin.ext ?_))
  fin_cases a
  · rfl
  · show 0 * 128 + 1 * (64 * s.val + e.val) = 64 * s.val + e.val
    omega

theorem b8_read (s : Fin 2) (e : Fin 64) : b8 m c t (ix2 0 (⟨64 * s.val + e.val, by omega⟩ : Fin 128)) =
    (m ((c : Thread nD τ).loc main_arg8) : Vec Ideal S64 .f32) (ix1 e) := by
  refine Eq.trans ?_ (twice_read _ s e)
  unfold b8 iblk
  rw [View.read_apply]
  refine (congrFun (V_v29 m c) _).trans (congrArg (twice _) (funext fun a => Fin.ext ?_))
  fin_cases a
  · rfl
  · show 0 * 128 + 1 * (64 * s.val + e.val) = 64 * s.val + e.val
    omega

theorem b9_read (r : Fin 256) (l : Fin 128) : b9 m c t (ix3 0 r l) =
    beside (Host.cos (angles (m ((c : Thread nD τ).loc main_arg9)))) (Host.cos (angles (m ((c : Thread nD τ).loc main_arg9)))) (Host.cos (angles (m ((c : Thread nD τ).loc main_arg9)))) (Host.cos (angles (m ((c : Thread nD τ).loc main_arg9)))) (ix3 (bn t) (bp t r) l) := by
  have h0 := co0 t; have h1 := co1 t
  unfold b9 iblk
  rw [View.read_apply]
  refine (congrFun (V_v14 m c) _).trans (congrArg (beside _ _ _ _) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 128 + 1 * l.val = l.val
    omega

theorem b10_read (r : Fin 256) (l : Fin 128) : b10 m c t (ix3 0 r l) =
    beside (Host.negf (Host.sin (angles (m ((c : Thread nD τ).loc main_arg9))))) (Host.sin (angles (m ((c : Thread nD τ).loc main_arg9)))) (Host.negf (Host.sin (angles (m ((c : Thread nD τ).loc main_arg9))))) (Host.sin (angles (m ((c : Thread nD τ).loc main_arg9)))) (ix3 (bn t) (bp t r) l) := by
  have h0 := co0 t; have h1 := co1 t
  unfold b10 iblk
  rw [View.read_apply]
  refine (congrFun (V_v17 m c) _).trans (congrArg (beside _ _ _ _) (funext fun a => Fin.ext ?_))
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 128 + 1 * l.val = l.val
    omega

theorem tables_at (r : Fin 256) : Tables (fun d => b9 m c t (ix3 0 r d)) (fun d => b10 m c t (ix3 0 r d))
    ((m ((c : Thread nD τ).loc main_arg9) : IVec S4x8192 32) (ix2 (bn t) (bp t r))) := by
  simp only [b9_read, b10_read]
  exact tables_read _ _ _

theorem projected_at (r : Fin 256) : uRow (b0 m c t) (b1 m c t) (b2 m c t) (b3 m c t) (b4 m c t) r = projected m c (bn t) (bp t r) := by
  unfold uRow projected
  simp only [b0_read, b1_read, b2_read, b3_read, b4_read]

/-! What a grid point writes back is its block of the result. -/

theorem flushed_eq11 : (dats m 0 c).flushed 11 t = ((cfg0.win 11).blk t).view.read (Elt Ideal) (result11 m c) := by
  have h0 := co0 t; have h1 := co1 t
  rw [Value.flushed11]
  refine funext fun (y : S1x256x512.Idx) => ?_
  obtain ⟨r, f, rfl⟩ : ∃ (r : Fin 256) (f : Fin 512), y = ix3 (0 : Fin 1) r f :=
    ⟨y 1, y 2, (eq_ix3 y).trans (congrArg (fun z : Fin 1 => ix3 z (y 1 : Fin 256) (y 2 : Fin 512)) (Subsingleton.elim _ _))⟩
  refine (out11_read (b0 m c t) (b1 m c t) (b2 m c t) (b3 m c t) (b4 m c t) (b5 m c t) (b6 m c t) (b7 m c t) (b8 m c t) (b9 m c t) (b10 m c t) r _ _ (b5_read m c t) (tables_at m c t r) f).trans ?_
  rw [projected_at, View.read_apply]
  refine Eq.trans ?_ (congrArg (result11 m c) (show ix3 (bn t) (bp t r) f = ((cfg0.win 11).blk t).view.emb (ix3 0 r f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 512 + 1 * f.val = f.val
    omega

theorem flushed_eq12 : (dats m 0 c).flushed 12 t = ((cfg0.win 12).blk t).view.read (Elt Ideal) (result12 m c) := by
  have h0 := co0 t; have h1 := co1 t
  rw [Value.flushed12]
  refine funext fun (y : S1x256x512.Idx) => ?_
  obtain ⟨r, f, rfl⟩ : ∃ (r : Fin 256) (f : Fin 512), y = ix3 (0 : Fin 1) r f :=
    ⟨y 1, y 2, (eq_ix3 y).trans (congrArg (fun z : Fin 1 => ix3 z (y 1 : Fin 256) (y 2 : Fin 512)) (Subsingleton.elim _ _))⟩
  refine (out12_read (b0 m c t) (b1 m c t) (b2 m c t) (b3 m c t) (b4 m c t) (b5 m c t) (b6 m c t) (b7 m c t) (b8 m c t) (b9 m c t) (b10 m c t) r _ _ (b6_read m c t) (tables_at m c t r) f).trans ?_
  rw [projected_at, View.read_apply]
  refine Eq.trans ?_ (congrArg (result12 m c) (show ix3 (bn t) (bp t r) f = ((cfg0.win 12).blk t).view.emb (ix3 0 r f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 512 + 1 * f.val = f.val
    omega

theorem flushed_eq13 : (dats m 0 c).flushed 13 t = ((cfg0.win 13).blk t).view.read (Elt Ideal) (result13 m c) := by
  have h0 := co0 t; have h1 := co1 t
  rw [Value.flushed13]
  refine funext fun (y : S1x256x512.Idx) => ?_
  obtain ⟨r, f, rfl⟩ : ∃ (r : Fin 256) (f : Fin 512), y = ix3 (0 : Fin 1) r f :=
    ⟨y 1, y 2, (eq_ix3 y).trans (congrArg (fun z : Fin 1 => ix3 z (y 1 : Fin 256) (y 2 : Fin 512)) (Subsingleton.elim _ _))⟩
  refine (out13_read (b0 m c t) (b1 m c t) (b2 m c t) (b3 m c t) (b4 m c t) (b5 m c t) (b6 m c t) (b7 m c t) (b8 m c t) (b9 m c t) (b10 m c t) r f).trans ?_
  rw [projected_at, View.read_apply]
  refine Eq.trans ?_ (congrArg (result13 m c) (show ix3 (bn t) (bp t r) f = ((cfg0.win 13).blk t).view.emb (ix3 0 r f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 512 + 1 * f.val = f.val
    omega

theorem flushed_eq14 : (dats m 0 c).flushed 14 t = ((cfg0.win 14).blk t).view.read (Elt Ideal) (result14 m c) := by
  have h0 := co0 t; have h1 := co1 t
  rw [Value.flushed14]
  refine funext fun (y : S1x256x512.Idx) => ?_
  obtain ⟨r, f, rfl⟩ : ∃ (r : Fin 256) (f : Fin 512), y = ix3 (0 : Fin 1) r f :=
    ⟨y 1, y 2, (eq_ix3 y).trans (congrArg (fun z : Fin 1 => ix3 z (y 1 : Fin 256) (y 2 : Fin 512)) (Subsingleton.elim _ _))⟩
  refine (out14_read (b0 m c t) (b1 m c t) (b2 m c t) (b3 m c t) (b4 m c t) (b5 m c t) (b6 m c t) (b7 m c t) (b8 m c t) (b9 m c t) (b10 m c t) r _ _ (b7_read m c t) (tables_at m c t r) f).trans ?_
  rw [projected_at, View.read_apply]
  refine Eq.trans ?_ (congrArg (result14 m c) (show ix3 (bn t) (bp t r) f = ((cfg0.win 14).blk t).view.emb (ix3 0 r f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 512 + 1 * f.val = f.val
    omega

theorem flushed_eq15 : (dats m 0 c).flushed 15 t = ((cfg0.win 15).blk t).view.read (Elt Ideal) (result15 m c) := by
  have h0 := co0 t; have h1 := co1 t
  rw [Value.flushed15]
  refine funext fun (y : S1x256x512.Idx) => ?_
  obtain ⟨r, f, rfl⟩ : ∃ (r : Fin 256) (f : Fin 512), y = ix3 (0 : Fin 1) r f :=
    ⟨y 1, y 2, (eq_ix3 y).trans (congrArg (fun z : Fin 1 => ix3 z (y 1 : Fin 256) (y 2 : Fin 512)) (Subsingleton.elim _ _))⟩
  refine (out15_read (b0 m c t) (b1 m c t) (b2 m c t) (b3 m c t) (b4 m c t) (b5 m c t) (b6 m c t) (b7 m c t) (b8 m c t) (b9 m c t) (b10 m c t) r _ _ (b7_read m c t) (tables_at m c t r) f).trans ?_
  rw [projected_at, View.read_apply]
  refine Eq.trans ?_ (congrArg (result15 m c) (show ix3 (bn t) (bp t r) f = ((cfg0.win 15).blk t).view.emb (ix3 0 r f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 512 + 1 * f.val = f.val
    omega

theorem flushed_eq16 : (dats m 0 c).flushed 16 t = ((cfg0.win 16).blk t).view.read (Elt Ideal) (result16 m c) := by
  have h0 := co0 t; have h1 := co1 t
  rw [Value.flushed16]
  refine funext fun (y : S1x256x512.Idx) => ?_
  obtain ⟨r, f, rfl⟩ : ∃ (r : Fin 256) (f : Fin 512), y = ix3 (0 : Fin 1) r f :=
    ⟨y 1, y 2, (eq_ix3 y).trans (congrArg (fun z : Fin 1 => ix3 z (y 1 : Fin 256) (y 2 : Fin 512)) (Subsingleton.elim _ _))⟩
  refine (out16_read (b0 m c t) (b1 m c t) (b2 m c t) (b3 m c t) (b4 m c t) (b5 m c t) (b6 m c t) (b7 m c t) (b8 m c t) (b9 m c t) (b10 m c t) r _ _ (b8_read m c t) (tables_at m c t r) f).trans ?_
  rw [projected_at, View.read_apply]
  refine Eq.trans ?_ (congrArg (result16 m c) (show ix3 (bn t) (bp t r) f = ((cfg0.win 16).blk t).view.emb (ix3 0 r f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 512 + 1 * f.val = f.val
    omega

theorem flushed_eq17 : (dats m 0 c).flushed 17 t = ((cfg0.win 17).blk t).view.read (Elt Ideal) (result17 m c) := by
  have h0 := co0 t; have h1 := co1 t
  rw [Value.flushed17]
  refine funext fun (y : S1x256x512.Idx) => ?_
  obtain ⟨r, f, rfl⟩ : ∃ (r : Fin 256) (f : Fin 512), y = ix3 (0 : Fin 1) r f :=
    ⟨y 1, y 2, (eq_ix3 y).trans (congrArg (fun z : Fin 1 => ix3 z (y 1 : Fin 256) (y 2 : Fin 512)) (Subsingleton.elim _ _))⟩
  refine (out17_read (b0 m c t) (b1 m c t) (b2 m c t) (b3 m c t) (b4 m c t) (b5 m c t) (b6 m c t) (b7 m c t) (b8 m c t) (b9 m c t) (b10 m c t) r f).trans ?_
  rw [projected_at, View.read_apply]
  refine Eq.trans ?_ (congrArg (result17 m c) (show ix3 (bn t) (bp t r) f = ((cfg0.win 17).blk t).view.emb (ix3 0 r f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 256 + 1 * r.val = _ + r.val
    rw [toNat_small _ (by omega)]; omega
  · show 0 * 512 + 1 * f.val = f.val
    omega

theorem flushed_eq18 : (dats m 0 c).flushed 18 t = ((cfg0.win 18).blk t).view.read (Elt Ideal) (result18 m c) := by
  have h0 := co0 t; have h1 := co1 t
  rw [Value.flushed18]
  refine funext fun (y : S1x1x1x512.Idx) => ?_
  obtain ⟨f, rfl⟩ : ∃ (f : Fin 512), y = ix4 (0 : Fin 1) (0 : Fin 1) (0 : Fin 1) f :=
    ⟨y 3, funext fun a => by
      fin_cases a
      · exact Subsingleton.elim (α := Fin 1) _ _
      · exact Subsingleton.elim (α := Fin 1) _ _
      · exact Subsingleton.elim (α := Fin 1) _ _
      · rfl⟩
  refine (out18_read (b0 m c t) (b1 m c t) (b2 m c t) (b3 m c t) (b4 m c t) (b5 m c t) (b6 m c t) (b7 m c t) (b8 m c t) (b9 m c t) (b10 m c t) _ _ (b8_read m c t) (tables_at m c t) f).trans ?_
  simp only [projected_at]
  rw [View.read_apply]
  refine Eq.trans ?_ (congrArg (result18 m c) (show ix4 (bn t) (⟨_, co1 t⟩ : Fin 32) (0 : Fin 1) f = ((cfg0.win 18).blk t).view.emb (ix4 0 0 0 f) from
    funext fun a => Fin.ext (Eq.symm ?_)))
  · rfl
  fin_cases a
  · show (BitVec.ofNat 32 ((grid0.coords t) 0).val).toNat * 1 + 1 * 0 = ((grid0.coords t) 0).val
    rw [toNat_small _ (by omega)]; omega
  · show (BitVec.ofNat 32 ((grid0.coords t) 1).val).toNat * 1 + 1 * 0 = ((grid0.coords t) 1).val
    rw [toNat_small _ (by omega)]; omega
  · rfl
  · show 0 * 512 + 1 * f.val = f.val
    omega

/-! The blocks cover the arrays, so they end holding the results. -/

theorem final11 : (dats m 0 c).arrAt 11 cfg0.N = result11 m c := by
  refine (dats m 0 c).arrAt_eq_of_cover 11 (result11 m c) (fun t hf => flushed_eq11 m c t) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 1).val / 256, by show _ < 32; omega⟩)
  have t0 : ((grid0.coords t) 0).val = (y 0).val := by rw [ht]
  have t1 : ((grid0.coords t) 1).val = (y 1).val / 256 := by rw [ht]
  refine ⟨t, flush0_11 t, ?_⟩
  show y ∈ ((View.whole main_v30_0).slice (win0_11.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 256 ≤ (y 1).val ∧ (y 1).val < (BitVec.ofNat 32 ((grid0.coords t) 1).val).toNat * 256 + 256
    rw [toNat_small _ (by omega)]; omega
  · show 0 * 512 ≤ (y 2).val ∧ (y 2).val < 0 * 512 + 512
    omega

theorem final12 : (dats m 0 c).arrAt 12 cfg0.N = result12 m c := by
  refine (dats m 0 c).arrAt_eq_of_cover 12 (result12 m c) (fun t hf => flushed_eq12 m c t) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 1).val / 256, by show _ < 32; omega⟩)
  have t0 : ((grid0.coords t) 0).val = (y 0).val := by rw [ht]
  have t1 : ((grid0.coords t) 1).val = (y 1).val / 256 := by rw [ht]
  refine ⟨t, flush0_12 t, ?_⟩
  show y ∈ ((View.whole main_v30_1).slice (win0_12.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 256 ≤ (y 1).val ∧ (y 1).val < (BitVec.ofNat 32 ((grid0.coords t) 1).val).toNat * 256 + 256
    rw [toNat_small _ (by omega)]; omega
  · show 0 * 512 ≤ (y 2).val ∧ (y 2).val < 0 * 512 + 512
    omega

theorem final13 : (dats m 0 c).arrAt 13 cfg0.N = result13 m c := by
  refine (dats m 0 c).arrAt_eq_of_cover 13 (result13 m c) (fun t hf => flushed_eq13 m c t) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 1).val / 256, by show _ < 32; omega⟩)
  have t0 : ((grid0.coords t) 0).val = (y 0).val := by rw [ht]
  have t1 : ((grid0.coords t) 1).val = (y 1).val / 256 := by rw [ht]
  refine ⟨t, flush0_13 t, ?_⟩
  show y ∈ ((View.whole main_v30_2).slice (win0_13.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 256 ≤ (y 1).val ∧ (y 1).val < (BitVec.ofNat 32 ((grid0.coords t) 1).val).toNat * 256 + 256
    rw [toNat_small _ (by omega)]; omega
  · show 0 * 512 ≤ (y 2).val ∧ (y 2).val < 0 * 512 + 512
    omega

theorem final14 : (dats m 0 c).arrAt 14 cfg0.N = result14 m c := by
  refine (dats m 0 c).arrAt_eq_of_cover 14 (result14 m c) (fun t hf => flushed_eq14 m c t) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 1).val / 256, by show _ < 32; omega⟩)
  have t0 : ((grid0.coords t) 0).val = (y 0).val := by rw [ht]
  have t1 : ((grid0.coords t) 1).val = (y 1).val / 256 := by rw [ht]
  refine ⟨t, flush0_14 t, ?_⟩
  show y ∈ ((View.whole main_v30_3).slice (win0_14.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 256 ≤ (y 1).val ∧ (y 1).val < (BitVec.ofNat 32 ((grid0.coords t) 1).val).toNat * 256 + 256
    rw [toNat_small _ (by omega)]; omega
  · show 0 * 512 ≤ (y 2).val ∧ (y 2).val < 0 * 512 + 512
    omega

theorem final15 : (dats m 0 c).arrAt 15 cfg0.N = result15 m c := by
  refine (dats m 0 c).arrAt_eq_of_cover 15 (result15 m c) (fun t hf => flushed_eq15 m c t) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 1).val / 256, by show _ < 32; omega⟩)
  have t0 : ((grid0.coords t) 0).val = (y 0).val := by rw [ht]
  have t1 : ((grid0.coords t) 1).val = (y 1).val / 256 := by rw [ht]
  refine ⟨t, flush0_15 t, ?_⟩
  show y ∈ ((View.whole main_v30_4).slice (win0_15.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 256 ≤ (y 1).val ∧ (y 1).val < (BitVec.ofNat 32 ((grid0.coords t) 1).val).toNat * 256 + 256
    rw [toNat_small _ (by omega)]; omega
  · show 0 * 512 ≤ (y 2).val ∧ (y 2).val < 0 * 512 + 512
    omega

theorem final16 : (dats m 0 c).arrAt 16 cfg0.N = result16 m c := by
  refine (dats m 0 c).arrAt_eq_of_cover 16 (result16 m c) (fun t hf => flushed_eq16 m c t) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 1).val / 256, by show _ < 32; omega⟩)
  have t0 : ((grid0.coords t) 0).val = (y 0).val := by rw [ht]
  have t1 : ((grid0.coords t) 1).val = (y 1).val / 256 := by rw [ht]
  refine ⟨t, flush0_16 t, ?_⟩
  show y ∈ ((View.whole main_v30_5).slice (win0_16.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 256 ≤ (y 1).val ∧ (y 1).val < (BitVec.ofNat 32 ((grid0.coords t) 1).val).toNat * 256 + 256
    rw [toNat_small _ (by omega)]; omega
  · show 0 * 512 ≤ (y 2).val ∧ (y 2).val < 0 * 512 + 512
    omega

theorem final17 : (dats m 0 c).arrAt 17 cfg0.N = result17 m c := by
  refine (dats m 0 c).arrAt_eq_of_cover 17 (result17 m c) (fun t hf => flushed_eq17 m c t) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 1).val / 256, by show _ < 32; omega⟩)
  have t0 : ((grid0.coords t) 0).val = (y 0).val := by rw [ht]
  have t1 : ((grid0.coords t) 1).val = (y 1).val / 256 := by rw [ht]
  refine ⟨t, flush0_17 t, ?_⟩
  show y ∈ ((View.whole main_v30_6).slice (win0_17.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 256 ≤ (y 1).val ∧ (y 1).val < (BitVec.ofNat 32 ((grid0.coords t) 1).val).toNat * 256 + 256
    rw [toNat_small _ (by omega)]; omega
  · show 0 * 512 ≤ (y 2).val ∧ (y 2).val < 0 * 512 + 512
    omega

theorem final18 : (dats m 0 c).arrAt 18 cfg0.N = result18 m c := by
  refine (dats m 0 c).arrAt_eq_of_cover 18 (result18 m c) (fun t hf => flushed_eq18 m c t) fun y => ?_
  have y0 : (y 0).val < 4 := (y 0).isLt
  have y1 : (y 1).val < 32 := (y 1).isLt
  have y2 : (y 2).val < 1 := (y 2).isLt
  have y3 : (y 3).val < 512 := (y 3).isLt
  obtain ⟨t, ht⟩ := Pipeline.Grid.coords_surjective grid0 (fun a => match a with
    | ⟨0, _⟩ => ⟨(y 0).val, y0⟩ | ⟨1, _⟩ => ⟨(y 1).val, by show _ < 32; omega⟩)
  have t0 : ((grid0.coords t) 0).val = (y 0).val := by rw [ht]
  have t1 : ((grid0.coords t) 1).val = (y 1).val := by rw [ht]
  refine ⟨t, flush0_18 t, ?_⟩
  show y ∈ ((View.whole main_v30_7).slice (win0_18.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 1).val).toNat * 1 ≤ (y 1).val ∧ (y 1).val < (BitVec.ofNat 32 ((grid0.coords t) 1).val).toNat * 1 + 1
    rw [toNat_small _ (by omega)]; omega
  · show 0 * 1 ≤ (y 2).val ∧ (y 2).val < 0 * 1 + 1
    omega
  · show 0 * 512 ≤ (y 3).val ∧ (y 3).val < 0 * 512 + 512
    omega

end Cert.Kernel6Ideal.Block
-- ==== Proof.OddInRef.lean ====
module
public import proofs.«01_k».proof.Proof.OddInRow
public import proofs.«01_k».proof.Proof.Gen.Reference6Ideal.Read
@[expose] public section
set_option maxRecDepth 16384
noncomputable section

/-! The input projection's reference, read element by element. -/

namespace Cert.Reference6Ideal.Element
open Idealize.ShloMosaic Idealize.SL.Sem Cert.Reference6Ideal Cert.Reference6Ideal.Read Cert.Reference6Ideal.Gen

/-- Every head over its own root mean square, weighted. -/
def refUnit (y : FVec Ideal S4x8192x8x64 .f32) (g : FVec Ideal S64 .f32) : FVec Ideal S4x8192x8x64 .f32 :=
  mulf (mulf y (broadcastInDim S4x8192x8x64 ![0, 1, 2, 3] bcast_S4x8192x8x1_S4x8192x8x64_0_1_2_3
      (Host.rsqrt (addf (Host.divf
          (broadcastInDim S4x8192x8x1 ![0, 1, 2] bcast_S4x8192x8_S4x8192x8x1_0_1_2
            (Host.reduceAdd (mulf y y) (constant S_ .f32 0x00000000#32 : FVec Ideal S_ .f32) reducesTo_S4x8192x8x64_S4x8192x8_d3 h_S_))
          (broadcastInDim S4x8192x8x1 ![] bcast_S_S4x8192x8x1 (constant S_ .f32 0x42800000#32 : FVec Ideal S_ .f32)))
        (broadcastInDim S4x8192x8x1 ![] bcast_S_S4x8192x8x1 (constant S_ .f32 0x358637BD#32 : FVec Ideal S_ .f32))))))
    (broadcastInDim S4x8192x8x64 ![0, 1, 2, 3] bcast_S1x1x1x64_S4x8192x8x64_0_1_2_3 (broadcastInDim S1x1x1x64 ![3] bcast_S64_S1x1x1x64_3 g))

/-- Every position's angles. -/
def refAngles (P : IVec S4x8192 32) : FVec Ideal S4x8192x32 .f32 :=
  mulf (broadcastInDim S4x8192x32 ![0, 1, 2] bcast_S4x8192x1_S4x8192x32_0_1_2 (broadcastInDim S4x8192x1 ![0, 1] bcast_S4x8192_S4x8192x1_0_1
      (sitofp .f32 P : FVec Ideal S4x8192 .f32)))
    (broadcastInDim S4x8192x32 ![0, 1, 2] bcast_S1x1x32_S4x8192x32_0_1_2 (broadcastInDim S1x1x32 ![2] bcast_S32_S1x1x32_2
      (Host.powf (broadcastInDim S32 ![] bcast_S_S32 (constant S_ .f32 0x461C4000#32 : FVec Ideal S_ .f32))
        (Host.divf (Host.negf (sitofp .f32 (iotaInDim S32 32 0) : FVec Ideal S32 .f32))
          (broadcastInDim S32 ![] bcast_S_S32 (constant S_ .f32 0x42000000#32 : FVec Ideal S_ .f32))))))

/-- A table of angles, repeated for every head. -/
def overHeads (a : FVec Ideal S4x8192x32 .f32) : FVec Ideal S4x8192x8x32 .f32 :=
  broadcastInDim S4x8192x8x32 ![0, 1, 2, 3] bcast_S4x8192x1x32_S4x8192x8x32_0_1_2_3
    (shapeCast S4x8192x1x32 a shapeCasts_S4x8192x32_S4x8192x1x32)

/-- The halves of every head. -/
def lowHalf (v : FVec Ideal S4x8192x8x64 .f32) : FVec Ideal S4x8192x8x32 .f32 :=
  extractStridedSlice S4x8192x8x32 ![0, 0, 0, 0] v slices_S4x8192x8x64_S4x8192x8x32_0_0_0_0
def highHalf (v : FVec Ideal S4x8192x8x64 .f32) : FVec Ideal S4x8192x8x32 .f32 :=
  extractStridedSlice S4x8192x8x32 ![0, 0, 0, 32] v slices_S4x8192x8x64_S4x8192x8x32_0_0_0_32

/-- Every head's two halves turned. -/
def lowTurned (v : FVec Ideal S4x8192x8x64 .f32) (P : IVec S4x8192 32) : FVec Ideal S4x8192x8x32 .f32 :=
  subf (mulf (lowHalf v) (overHeads (Host.cos (refAngles P)))) (mulf (highHalf v) (overHeads (Host.sin (refAngles P))))
def highTurned (v : FVec Ideal S4x8192x8x64 .f32) (P : IVec S4x8192 32) : FVec Ideal S4x8192x8x32 .f32 :=
  addf (mulf (highHalf v) (overHeads (Host.cos (refAngles P)))) (mulf (lowHalf v) (overHeads (Host.sin (refAngles P))))

/-- Every head turned to its position. -/
def refTurn (v : FVec Ideal S4x8192x8x64 .f32) (P : IVec S4x8192 32) : FVec Ideal S4x8192x8x64 .f32 :=
  concatenate S4x8192x8x64 3 [⟨S4x8192x8x32, lowTurned v P⟩, ⟨S4x8192x8x32, highTurned v P⟩]
    concatenates_S4x8192x8x32_S4x8192x8x32_S4x8192x8x64_d3

def refHead (y : FVec Ideal S4x8192x8x64 .f32) (g : FVec Ideal S64 .f32) (P : IVec S4x8192 32) : FVec Ideal S4x8192x8x64 .f32 :=
  refTurn (refUnit y g) P

theorem refUnit_read (y : FVec Ideal S4x8192x8x64 .f32) (g : FVec Ideal S64 .f32) (n : Fin 4) (p : Fin 8192) (h : Fin 8) (e : Fin 64) :
    refUnit y g (ix4 n p h e) = HeadIn.unit (fun d => y (ix4 n p h d)) (fun d => g (ix1 d)) e := by
  pointwise [refUnit]
  rfl

theorem refAngles_read (P : IVec S4x8192 32) (n : Fin 4) (p : Fin 8192) (k : Fin 32) :
    refAngles P (ix3 n p k) = HeadIn.angle (P (ix2 n p)) k := by
  pointwise [refAngles]
  rfl

theorem overHeads_read (a : FVec Ideal S4x8192x32 .f32) (n : Fin 4) (p : Fin 8192) (h : Fin 8) (k : Fin 32) :
    overHeads a (ix4 n p h k) = a (ix3 n p k) := by
  pointwise [overHeads]

theorem cos_read (P : IVec S4x8192 32) (n : Fin 4) (p : Fin 8192) (h : Fin 8) (k : Fin 32) :
    overHeads (Host.cos (refAngles P)) (ix4 n p h k) = Ideal.cos (HeadIn.angle (P (ix2 n p)) k) := by
  rw [overHeads_read, ← refAngles_read]; rfl

theorem sin_read (P : IVec S4x8192 32) (n : Fin 4) (p : Fin 8192) (h : Fin 8) (k : Fin 32) :
    overHeads (Host.sin (refAngles P)) (ix4 n p h k) = Ideal.sin (HeadIn.angle (P (ix2 n p)) k) := by
  rw [overHeads_read, ← refAngles_read]; rfl

theorem low_read (v : FVec Ideal S4x8192x8x64 .f32) (n : Fin 4) (p : Fin 8192) (h : Fin 8) (k : Fin 32) :
    lowHalf v (ix4 n p h k) = v (ix4 n p h (⟨k.val, by omega⟩ : Fin 64)) := by
  refine congrArg v (funext fun a => Fin.ext ?_)
  fin_cases a
  · show 0 + n.val = n.val; omega
  · show 0 + p.val = p.val; omega
  · show 0 + h.val = h.val; omega
  · show 0 + k.val = k.val; omega

theorem high_read (v : FVec Ideal S4x8192x8x64 .f32) (n : Fin 4) (p : Fin 8192) (h : Fin 8) (k : Fin 32) :
    highHalf v (ix4 n p h k) = v (ix4 n p h (⟨k.val + 32, by omega⟩ : Fin 64)) := by
  refine congrArg v (funext fun a => Fin.ext ?_)
  fin_cases a
  · show 0 + n.val = n.val; omega
  · show 0 + p.val = p.val; omega
  · show 0 + h.val = h.val; omega
  · show 32 + k.val = k.val + 32; omega

theorem refTurn_read (v : FVec Ideal S4x8192x8x64 .f32) (P : IVec S4x8192 32) (n : Fin 4) (p : Fin 8192) (h : Fin 8) (e : Fin 64) :
    refTurn v P (ix4 n p h e) = HeadIn.turn (fun d => v (ix4 n p h d)) (fun k => Ideal.cos (HeadIn.angle (P (ix2 n p)) k))
      (fun k => Ideal.sin (HeadIn.angle (P (ix2 n p)) k)) e := by
  have off : ∀ (k : Fin 32) (j : Fin 64) (x : Fin 4), x ≠ 3 → (ix4 n p h k x).val = (ix4 n p h j x).val := fun k j x hx => by
    fin_cases x
    · rfl
    · rfl
    · rfl
    · exact absurd rfl hx
  unfold HeadIn.turn
  by_cases he : e.val < 32
  · rw [dif_pos he]
    refine (concatenate_apply_piece (t := S4x8192x8x64) 3 _ _ _ 0 (by show 0 < 2; omega) S4x8192x8x32 (lowTurned v P) rfl rfl 0 (by rfl)
      (ix4 n p h (⟨e.val, he⟩ : Fin 32)) (off _ _) (by show 0 + e.val = e.val; omega)).trans ?_
    show lowHalf v _ * overHeads _ _ - highHalf v _ * overHeads _ _ = _
    rw [low_read, high_read, cos_read, sin_read]
  · rw [dif_neg he]
    refine (concatenate_apply_piece (t := S4x8192x8x64) 3 _ _ _ 1 (by show 1 < 2; omega) S4x8192x8x32 (highTurned v P) rfl rfl 32 (by rfl)
      (ix4 n p h (⟨e.val - 32, by omega⟩ : Fin 32)) (off _ _) (by show 32 + (e.val - 32) = e.val; omega)).trans ?_
    show highHalf v _ * overHeads _ _ + lowHalf v _ * overHeads _ _ = _
    rw [low_read, high_read, cos_read, sin_read]
    refine congrArg (fun z => v (ix4 n p h z) * _ + _) (Fin.ext ?_)
    show e.val - 32 + 32 = e.val
    omega

theorem refHead_read (y : FVec Ideal S4x8192x8x64 .f32) (g : FVec Ideal S64 .f32) (P : IVec S4x8192 32) (n : Fin 4) (p : Fin 8192) (h : Fin 8)
    (e : Fin 64) : refHead y g P (ix4 n p h e) = HeadIn.head (fun d => y (ix4 n p h d)) (fun d => g (ix1 d)) (P (ix2 n p)) e := by
  unfold refHead HeadIn.head
  rw [refTurn_read]
  simp only [refUnit_read]

/-- Eight heads of 64 columns, as 512 columns. -/
theorem flat_read (y : FVec Ideal S4x8192x8x64 .f32) (n : Fin 4) (p : Fin 8192) (f : Fin 512) :
    shapeCast S4x8192x512 y shapeCasts_S4x8192x8x64_S4x8192x512 (ix3 n p f) =
      y (ix4 n p (⟨f.val / 64, by omega⟩ : Fin 8) (⟨f.val % 64, by omega⟩ : Fin 64)) := by
  refine shapeCast_apply y _ _ _ ?_
  rewrite [Shape.rowMajor_val_three, Shape.rowMajor_val_four]
  show ((n.val * 8192 + p.val) * 8 + f.val / 64) * 64 + f.val % 64 = (n.val * 8192 + p.val) * 512 + f.val
  omega

variable (x0 : (⟨S4x8192x1024, .f32⟩ : BufTy).Contents (Elt Ideal)) (x1 x2 : (⟨S4x1024, .f32⟩ : BufTy).Contents (Elt Ideal))
  (x3 : (⟨S1024, .f32⟩ : BufTy).Contents (Elt Ideal)) (x4 : (⟨S1024x3072, .f32⟩ : BufTy).Contents (Elt Ideal))
  (g x5 x6 x7 x8 : (⟨S64, .f32⟩ : BufTy).Contents (Elt Ideal)) (x9 : (⟨S4x8192, .i32⟩ : BufTy).Contents (Elt Ideal))

theorem one_bits : (FloatOps.ofBits .f32 0x3F800000#32 : Ideal .f32) = (1 : EReal) := by
  show Ideal.ofBits .f32 _ = _
  simp [Ideal.ofBits, Ideal.ieee, -EReal.coe_mul]
  norm_num

/-- The normalised, scaled and shifted row. -/
theorem normed_read (n : Fin 4) (p : Fin 8192) (d : Fin 1024) :
    (val_main_v20 (F := Ideal) x0 x1 x2 x3 (ix3 n p d) : EReal) =
      Mlp.normed (fun k => x0 (ix3 n p k)) (fun k => x3 (ix1 k)) (fun k => x2 (ix2 n k)) (fun k => x1 (ix2 n k)) d := by
  have h7 : (val_main_v8 (F := Ideal) x0 (ix3 n p d) : EReal) = Ideal.rsqrt (Ideal.div (∑ k : Fin 1024, (x0 (ix3 n p k) : EReal) * x0 (ix3 n p k))
      (Ideal.ofBits .f32 0x44800000#32) + Ideal.ofBits .f32 0x358637BD#32) := by
    rw [val_main_v8_apply, val_main_v7_apply, val_main_v6_apply, val_main_v4_apply, val_main_v5_apply, val_main_v3_apply,
      val_main_v2_apply, val_main_v1_apply, show (val_main_cst (F := Ideal) (Shape.Idx.first h_S_) : EReal) = 0 from Ideal.ofBits_zero .f32, zero_add]
    have hs : (∑ k : Fin 1024, (val_main_v0 (F := Ideal) x0 (idx_main_v1 (idx_main_v2 (idx_main_v8 (ix3 n p d))) k) : EReal))
        = ∑ k : Fin 1024, (x0 (ix3 n p k) : EReal) * x0 (ix3 n p k) := Finset.sum_congr rfl fun k _ => by
      rw [show idx_main_v1 (idx_main_v2 (idx_main_v8 (ix3 n p d))) k = ix3 n p k from eq_ix3 _]; rfl
    rw [hs]; rfl
  have h11 : (val_main_v11 (F := Ideal) x3 (ix3 n p d) : EReal) = x3 (ix1 d) := by
    rw [val_main_v11_apply, val_main_v10_apply]; exact congrArg x3 (eq_ix1 _)
  have h16 : (val_main_v16 (F := Ideal) x2 (ix3 n p d) : EReal) = 1 + x2 (ix2 n d) := by
    rw [val_main_v16_apply, val_main_v15_apply, val_main_v14_apply, val_main_v13_apply, val_main_cst_2_apply, one_bits]
    exact congrArg (fun z => (1 : EReal) + x2 z) (eq_ix2 _)
  have h19 : (val_main_v19 (F := Ideal) x1 (ix3 n p d) : EReal) = x1 (ix2 n d) := by
    rw [val_main_v19_apply, val_main_v18_apply]; exact congrArg x1 (eq_ix2 _)
  unfold Mlp.normed
  beta_reduce
  rw [← h7, ← h11, ← h16, ← h19]
  rfl

/-- A position's row of the projection. -/
def projected (n : Fin 4) (p : Fin 8192) : Fin 3072 → EReal := fun j =>
  HeadIn.proj (fun d => x0 (ix3 n p d)) (fun d => x3 (ix1 d)) (fun d => x2 (ix2 n d)) (fun d => x1 (ix2 n d)) (fun d j => x4 (ix2 d j)) j

/-- A position's group of eight heads, normalised and turned. -/
def turned (o : ℕ) (ho : o + 512 ≤ 3072) (n : Fin 4) (p : Fin 8192) (f : Fin 512) : EReal :=
  HeadIn.group (projected x0 x1 x2 x3 x4 n p) o ho (fun e => g (ix1 e)) (x9 (ix2 n p)) f

theorem projected_read (n : Fin 4) (p : Fin 8192) (j : Fin 3072) :
    (val_main_v21 (F := Ideal) x0 x1 x2 x3 x4 (ix3 n p j) : EReal) = projected x0 x1 x2 x3 x4 n p j := by
  rw [val_main_v21_apply]
  unfold projected HeadIn.proj
  refine Finset.sum_congr rfl fun d _ => ?_
  rw [show lidx_main_v21 (ix3 n p j) d = ix3 n p d from eq_ix3 _, normed_read]
  exact congrArg (fun z => _ * (x4 z : EReal)) (eq_ix2 _)

/-- 512 columns, as eight heads. -/
theorem heads_read (y : FVec Ideal S4x8192x512 .f32) (n : Fin 4) (p : Fin 8192) (h : Fin 8) (d : Fin 64) :
    shapeCast S4x8192x8x64 y shapeCasts_S4x8192x512_S4x8192x8x64 (ix4 n p h d) = y (ix3 n p (⟨64 * h.val + d.val, by omega⟩ : Fin 512)) := by
  refine shapeCast_apply y _ _ _ ?_
  rewrite [Shape.rowMajor_val_three, Shape.rowMajor_val_four]
  show (n.val * 8192 + p.val) * 512 + (64 * h.val + d.val) = ((n.val * 8192 + p.val) * 8 + h.val) * 64 + d.val
  omega

theorem heads3_read (y : FVec Ideal S4x8192x1536 .f32) (n : Fin 4) (p : Fin 8192) (k : Fin 3) (h : Fin 8) (d : Fin 64) :
    shapeCast S4x8192x3x8x64 y shapeCasts_S4x8192x1536_S4x8192x3x8x64 (ix5 n p k h d) =
      y (ix3 n p (⟨512 * k.val + 64 * h.val + d.val, by omega⟩ : Fin 1536)) := by
  refine shapeCast_apply y _ _ _ ?_
  rewrite [Shape.rowMajor_val_three, Shape.rowMajor_val_five]
  show (n.val * 8192 + p.val) * 1536 + (512 * k.val + 64 * h.val + d.val) = (((n.val * 8192 + p.val) * 3 + k.val) * 8 + h.val) * 64 + d.val
  omega

theorem drop_read (y : FVec Ideal S4x8192x1x8x64 .f32) (n : Fin 4) (p : Fin 8192) (h : Fin 8) (d : Fin 64) :
    shapeCast S4x8192x8x64 y shapeCasts_S4x8192x1x8x64_S4x8192x8x64 (ix4 n p h d) = y (ix5 n p (0 : Fin 1) h d) := by
  refine shapeCast_apply y _ _ _ ?_
  rewrite [Shape.rowMajor_val_four, Shape.rowMajor_val_five]
  show (((n.val * 8192 + p.val) * 1 + 0) * 8 + h.val) * 64 + d.val = ((n.val * 8192 + p.val) * 8 + h.val) * 64 + d.val
  omega

theorem v23_read (n : Fin 4) (p : Fin 8192) (h : Fin 8) (d : Fin 64) : (val_main_v23 (F := Ideal) x0 x1 x2 x3 x4 (ix4 n p h d) : EReal) =
    projected x0 x1 x2 x3 x4 n p ⟨0 + 64 * h.val + d.val, by omega⟩ := by
  unfold val_main_v23
  rw [heads_read, val_main_v22_apply, ← projected_read]
  refine congrArg _ (funext fun a => Fin.ext ?_)
  fin_cases a
  · rfl
  · rfl
  · show 64 * h.val + d.val = 0 + 64 * h.val + d.val; omega

theorem v25_read (n : Fin 4) (p : Fin 8192) (h : Fin 8) (d : Fin 64) : (val_main_v25 (F := Ideal) x0 x1 x2 x3 x4 (ix4 n p h d) : EReal) =
    projected x0 x1 x2 x3 x4 n p ⟨512 + 64 * h.val + d.val, by omega⟩ := by
  unfold val_main_v25
  rw [heads_read, val_main_v24_apply, ← projected_read]
  refine congrArg _ (funext fun a => Fin.ext ?_)
  fin_cases a
  · rfl
  · rfl
  · show 512 + (64 * h.val + d.val) = 512 + 64 * h.val + d.val; omega

theorem v116_read (n : Fin 4) (p : Fin 8192) (h : Fin 8) (d : Fin 64) : (val_main_v116 (F := Ideal) x0 x1 x2 x3 x4 (ix4 n p h d) : EReal) =
    projected x0 x1 x2 x3 x4 n p ⟨1536 + 64 * h.val + d.val, by omega⟩ := by
  unfold val_main_v116
  rw [drop_read, val_main_v115_apply, show idx_main_v115 (ix5 n p (0 : Fin 1) h d) = ix5 n p (0 : Fin 3) h d from eq_ix5 _]
  unfold val_main_v114
  rw [heads3_read, val_main_v113_apply, ← projected_read]
  refine congrArg _ (funext fun a => Fin.ext ?_)
  fin_cases a
  · rfl
  · rfl
  · show 1536 + (512 * 0 + 64 * h.val + d.val) = 1536 + 64 * h.val + d.val; omega

theorem v161_read (n : Fin 4) (p : Fin 8192) (h : Fin 8) (d : Fin 64) : (val_main_v161 (F := Ideal) x0 x1 x2 x3 x4 (ix4 n p h d) : EReal) =
    projected x0 x1 x2 x3 x4 n p ⟨2048 + 64 * h.val + d.val, by omega⟩ := by
  unfold val_main_v161
  rw [drop_read, val_main_v160_apply, show idx_main_v160 (ix5 n p (0 : Fin 1) h d) = ix5 n p (1 : Fin 3) h d from eq_ix5 _]
  unfold val_main_v114
  rw [heads3_read, val_main_v113_apply, ← projected_read]
  refine congrArg _ (funext fun a => Fin.ext ?_)
  fin_cases a
  · rfl
  · rfl
  · show 1536 + (512 * 1 + 64 * h.val + d.val) = 2048 + 64 * h.val + d.val; omega

theorem v206_read (n : Fin 4) (p : Fin 8192) (h : Fin 8) (d : Fin 64) : (val_main_v206 (F := Ideal) x0 x1 x2 x3 x4 (ix4 n p h d) : EReal) =
    projected x0 x1 x2 x3 x4 n p ⟨2560 + 64 * h.val + d.val, by omega⟩ := by
  unfold val_main_v206
  rw [drop_read, val_main_v205_apply, show idx_main_v205 (ix5 n p (0 : Fin 1) h d) = ix5 n p (2 : Fin 3) h d from eq_ix5 _]
  unfold val_main_v114
  rw [heads3_read, val_main_v113_apply, ← projected_read]
  refine congrArg _ (funext fun a => Fin.ext ?_)
  fin_cases a
  · rfl
  · rfl
  · show 1536 + (512 * 2 + 64 * h.val + d.val) = 2560 + 64 * h.val + d.val; omega

theorem v68_eq : val_main_v68 (F := Ideal) x0 x1 x2 x3 x4 x5 x9 = refHead (val_main_v23 (F := Ideal) x0 x1 x2 x3 x4) x5 x9 := rfl

theorem v69_read (n : Fin 4) (p : Fin 8192) (f : Fin 512) : (val_main_v69 (F := Ideal) x0 x1 x2 x3 x4 x5 x9 (ix3 n p f) : EReal) =
    turned x0 x1 x2 x3 x4 x5 x9 0 (by norm_num) n p f := by
  unfold val_main_v69
  rw [flat_read, v68_eq, refHead_read]
  simp only [v23_read]
  rfl

theorem v111_eq : val_main_v111 (F := Ideal) x0 x1 x2 x3 x4 x6 x9 = refHead (val_main_v25 (F := Ideal) x0 x1 x2 x3 x4) x6 x9 := rfl

theorem v112_read (n : Fin 4) (p : Fin 8192) (f : Fin 512) : (val_main_v112 (F := Ideal) x0 x1 x2 x3 x4 x6 x9 (ix3 n p f) : EReal) =
    turned x0 x1 x2 x3 x4 x6 x9 512 (by norm_num) n p f := by
  unfold val_main_v112
  rw [flat_read, v111_eq, refHead_read]
  simp only [v25_read]
  rfl

theorem v158_eq : val_main_v158 (F := Ideal) x0 x1 x2 x3 x4 x7 x9 = refHead (val_main_v116 (F := Ideal) x0 x1 x2 x3 x4) x7 x9 := rfl

theorem v159_read (n : Fin 4) (p : Fin 8192) (f : Fin 512) : (val_main_v159 (F := Ideal) x0 x1 x2 x3 x4 x7 x9 (ix3 n p f) : EReal) =
    turned x0 x1 x2 x3 x4 x7 x9 1536 (by norm_num) n p f := by
  unfold val_main_v159
  rw [flat_read, v158_eq, refHead_read]
  simp only [v116_read]
  rfl

theorem v203_eq : val_main_v203 (F := Ideal) x0 x1 x2 x3 x4 x8 x9 = refHead (val_main_v161 (F := Ideal) x0 x1 x2 x3 x4) x8 x9 := rfl

theorem v204_read (n : Fin 4) (p : Fin 8192) (f : Fin 512) : (val_main_v204 (F := Ideal) x0 x1 x2 x3 x4 x8 x9 (ix3 n p f) : EReal) =
    turned x0 x1 x2 x3 x4 x8 x9 2048 (by norm_num) n p f := by
  unfold val_main_v204
  rw [flat_read, v203_eq, refHead_read]
  simp only [v161_read]
  rfl

theorem trunc_read (z : EReal) : (FloatOps.truncf .bf16 bitsLt_bf16_f32 (z : Ideal .f32) : Ideal .bf16) = z := rfl

theorem scale_read (z : EReal) : (FloatOps.truncf .bf16 bitsLt_bf16_f32 (FloatOps.mulf (z : Ideal .f32) (Ideal.ofBits .f32 0x3E38AA3B#32 : Ideal .f32)) : Ideal .bf16) =
    z * Ideal.ofBits .f32 0x3E38AA3B#32 := rfl

theorem third_read : (val_main_v213 (F := Ideal) = fun _ => (Ideal.ofBits .f32 0x3E38AA3B#32 : Ideal .f32)) := rfl

theorem third_read' : (val_main_v218 (F := Ideal) = fun _ => (Ideal.ofBits .f32 0x3E38AA3B#32 : Ideal .f32)) := rfl

theorem v215_read (n : Fin 4) (p : Fin 8192) (f : Fin 512) : (val_main_v215 (F := Ideal) x0 x1 x2 x3 x4 x5 x9 (ix3 n p f) : EReal) =
    turned x0 x1 x2 x3 x4 x5 x9 0 (by norm_num) n p f * Ideal.ofBits .f32 0x3E38AA3B#32 := by
  rw [val_main_v215_apply, val_main_v214_apply, v69_read, third_read]
  exact scale_read _

theorem v216_read (n : Fin 4) (p : Fin 8192) (f : Fin 512) : (val_main_v216 (F := Ideal) x0 x1 x2 x3 x4 x6 x9 (ix3 n p f) : EReal) =
    turned x0 x1 x2 x3 x4 x6 x9 512 (by norm_num) n p f := by
  rw [val_main_v216_apply, v112_read]
  exact trunc_read _

theorem v220_read (n : Fin 4) (p : Fin 8192) (f : Fin 512) : (val_main_v220 (F := Ideal) x0 x1 x2 x3 x4 x7 x9 (ix3 n p f) : EReal) =
    turned x0 x1 x2 x3 x4 x7 x9 1536 (by norm_num) n p f * Ideal.ofBits .f32 0x3E38AA3B#32 := by
  rw [val_main_v220_apply, val_main_v219_apply, v159_read, third_read']
  exact scale_read _

theorem v221_read (n : Fin 4) (p : Fin 8192) (f : Fin 512) : (val_main_v221 (F := Ideal) x0 x1 x2 x3 x4 x8 x9 (ix3 n p f) : EReal) =
    turned x0 x1 x2 x3 x4 x8 x9 2048 (by norm_num) n p f := by
  rw [val_main_v221_apply, v204_read]
  exact trunc_read _

theorem v217_read (n : Fin 4) (p : Fin 8192) (f : Fin 512) : (val_main_v217 (F := Ideal) x0 x1 x2 x3 x4 (ix3 n p f) : EReal) =
    projected x0 x1 x2 x3 x4 n p ⟨1024 + f.val, by omega⟩ := by
  rw [val_main_v217_apply, val_main_v26_apply, show idx_main_v26 (ix3 n p f) = ix3 n p (⟨1024 + f.val, by omega⟩ : Fin 3072) from eq_ix3 _,
    projected_read]
  exact trunc_read _

theorem v222_read (n : Fin 4) (p : Fin 8192) (f : Fin 512) : (val_main_v222 (F := Ideal) x0 x1 x2 x3 x4 (ix3 n p f) : EReal) =
    projected x0 x1 x2 x3 x4 n p ⟨2560 + f.val, by omega⟩ := by
  rw [val_main_v222_apply]
  unfold val_main_v207
  rw [flat_read, v206_read]
  refine (trunc_read _).trans (congrArg (projected x0 x1 x2 x3 x4 n p) (Fin.ext ?_))
  show 2560 + 64 * (f.val / 64) + f.val % 64 = 2560 + f.val
  omega

/-- The mean over a block of 256 positions. -/
theorem v212_read (n : Fin 4) (b : Fin 32) (f : Fin 512) : (val_main_v212 (F := Ideal) x0 x1 x2 x3 x4 x8 x9 (ix4 n b (0 : Fin 1) f) : EReal) =
    Ideal.div (∑ r : Fin 256, turned x0 x1 x2 x3 x4 x8 x9 2048 (by norm_num) n (⟨256 * b.val + r.val, by omega⟩ : Fin 8192) f)
      (Ideal.ofBits .f32 0x43800000#32) := by
  rw [val_main_v212_apply, val_main_v210_apply, val_main_v211_apply, val_main_v209_apply,
    show (val_main_cst_23 (F := Ideal) (Shape.Idx.first h_S_) : EReal) = 0 from Ideal.ofBits_zero .f32, zero_add]
  refine Eq.trans (congrArg (fun z : EReal => (FloatOps.hostDivf (z : Ideal .f32) _ : Ideal .f32)) (Finset.sum_congr rfl fun r _ => ?_)) rfl
  rw [show idx_main_v209 (idx_main_v210 (ix4 n b (0 : Fin 1) f)) r = ix4 n b r f from eq_ix4 _, ← v204_read]
  unfold val_main_v208
  generalize val_main_v204 (F := Ideal) x0 x1 x2 x3 x4 x8 x9 = y
  refine shapeCast_apply y _ _ _ ?_
  rewrite [Shape.rowMajor_val_three, Shape.rowMajor_val_four]
  show (n.val * 8192 + (256 * b.val + r.val)) * 512 + f.val = ((n.val * 32 + b.val) * 256 + r.val) * 512 + f.val
  omega

end Cert.Reference6Ideal.Element
-- ==== Proof.DiffFinite.lean ====
module
public import proofs.«01_k».proof.Pre_finite_inputs
public import proofs.«01_k».proof.Proof.Finite
@[expose] public section
set_option maxRecDepth 16384
noncomputable section

/-! What the differential attention's precondition says: every query, key, value and mixing entry is a real number. -/

namespace Cert.Pre_finite_inputs
open Idealize.ShloMosaic
open Cert.Pre_finite_scores (inf_bits real_of_abs)

theorem facts : Facts where
  bitsLt_bf16_f32 := by decide
  bcast_S_S4x8192x512 := by decide
  reducesTo_S4x8192x512_S_d0_1_2 := by decide
  h_S_ := by decide
  bcast_S_S4x64 := by decide
  reducesTo_S4x64_S_d0_1 := by decide

/-- One array's test holds only where all its elements are real numbers. -/
theorem all_real [Facts] (x : FVec Ideal S4x8192x512 .bf16)
    (h : Host.reduce IntOp.andi (cmpf (F := Ideal) .olt (Host.absf (extf .f32 x Facts.bitsLt_bf16_f32))
        (broadcastInDim S4x8192x512 ![] Facts.bcast_S_S4x8192x512 (constant S_ .f32 0x7F800000#32)))
      (constantI S_ 1 1#1) Facts.reducesTo_S4x8192x512_S_d0_1_2 Facts.h_S_ (fun a => a.elim0) = 1#1)
    (i : S4x8192x512.Idx) : ∃ r : ℝ, (x i : EReal) = r := by
  have : Subsingleton S_.Idx := ⟨fun a b => funext fun k => k.elim0⟩
  have hi : Ideal.cmp .olt (max (x i : EReal) (-(x i : EReal))) (Ideal.ofBits .f32 0x7F800000#32) = 1#1 :=
    Host.reduce_andi_all _ _ _ _ _ h i
  rw [inf_bits] at hi
  exact real_of_abs _ ((Ideal.cmp_olt_eq_one _ _).1 hi)

/-- The mixing vectors' test holds only where all their entries are real numbers. -/
theorem mix_real [Facts] (x : FVec Ideal S4x64 .f32)
    (h : Host.reduce IntOp.andi (cmpf (F := Ideal) .olt (Host.absf x)
        (broadcastInDim S4x64 ![] Facts.bcast_S_S4x64 (constant S_ .f32 0x7F800000#32)))
      (constantI S_ 1 1#1) Facts.reducesTo_S4x64_S_d0_1 Facts.h_S_ (fun a => a.elim0) = 1#1)
    (i : S4x64.Idx) : ∃ r : ℝ, (x i : EReal) = r := by
  have : Subsingleton S_.Idx := ⟨fun a b => funext fun k => k.elim0⟩
  have hi : Ideal.cmp .olt (max (x i : EReal) (-(x i : EReal))) (Ideal.ofBits .f32 0x7F800000#32) = 1#1 :=
    Host.reduce_andi_all _ _ _ _ _ h i
  rw [inf_bits] at hi
  exact real_of_abs _ ((Ideal.cmp_olt_eq_one _ _).1 hi)

/-- Under the precondition every query, key, value and mixing entry is a real number. -/
theorem reals [Facts] (q k v : FVec Ideal S4x8192x512 .bf16) (l : FVec Ideal S4x64 .f32) (w : FVec Ideal S128 .f32)
    (h : fn (F := Ideal) q k v l w = fun _ => 1#1) :
    (∀ i, ∃ r : ℝ, (q i : EReal) = r) ∧ (∀ i, ∃ r : ℝ, (k i : EReal) = r) ∧ (∀ i, ∃ r : ℝ, (v i : EReal) = r)
      ∧ ∀ i, ∃ r : ℝ, (l i : EReal) = r := by
  have h0 := congrFun h (fun a => a.elim0)
  have h1 := IntOp.andi_eq_one.1 h0
  have h2 := IntOp.andi_eq_one.1 h1.1
  have h3 := IntOp.andi_eq_one.1 h2.1
  exact ⟨all_real q h3.1, all_real k h3.2, all_real v h2.2, mix_real l h1.2⟩

end Cert.Pre_finite_inputs
-- ==== Proof.DiffRun.lean ====
module
public import proofs.«01_k».proof.Proof.Gen.Kernel3Ideal.Value
public import Idealize.ShloMosaic.Lib.Tactic
@[expose] public section
set_option maxRecDepth 16384
noncomputable section
namespace Cert.Kernel3Ideal.Diff
open Cert.Kernel3Ideal Cert.Kernel3Ideal.Gen Idealize.ShloMosaic Idealize.ShloMosaic.TcCoe Idealize.SL.Sem

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole)

/-- The query slab, as loaded. -/
abbrev ldQ (X : BufTy.Contents (Elt Ideal) arg3.view.ty) : Vec Ideal S1x512x128 .bf16 :=
  View.readAt (Elt Ideal) arg3.view (Rect.unit (s := S1x512x128) ![0, 0, 0] S1x512x128.size inb_S1x512x128_S1x512x128_0_0_0).toLoadRect X
/-- A block of 512 keys or values at an offset, as loaded. -/
abbrev ldB (m : Memref sig .tc .vmem S1x8192x128 .bf16) (off : Fin 3 → ℕ) (h : ∀ a, off a + S1x512x128.size a ≤ S1x8192x128.size a)
    (X : BufTy.Contents (Elt Ideal) m.view.ty) : Vec Ideal S1x512x128 .bf16 :=
  View.readAt (Elt Ideal) m.view (Rect.unit (s := S1x8192x128) off S1x512x128.size h).toLoadRect X
/-- One stream's part of the running maximum (or sum), as loaded. -/
abbrev ldS (m : Memref sig .tc .vmem S2x512x1 .f32) (off : Fin 3 → ℕ)
    (h : ∀ a, off a + S1x512x1.size a ≤ S2x512x1.size a)
    (X : BufTy.Contents (Elt Ideal) m.view.ty) : Vec Ideal S1x512x1 .f32 :=
  View.readAt (Elt Ideal) m.view (Rect.unit (s := S2x512x1) off S1x512x1.size h).toLoadRect X
/-- One stream's part of the running numerator, as loaded. -/
abbrev ldA (off : Fin 3 → ℕ) (h : ∀ a, off a + S1x512x128.size a ≤ S2x512x128.size a)
    (X : BufTy.Contents (Elt Ideal) arg11.view.ty) : Vec Ideal S1x512x128 .f32 :=
  View.readAt (Elt Ideal) arg11.view (Rect.unit (s := S2x512x128) off S1x512x128.size h).toLoadRect X
/-- The four vectors that make the mixing weight, as loaded. -/
abbrev ldL (X : BufTy.Contents (Elt Ideal) arg6.view.ty) : Vec Ideal S4x64 .f32 :=
  View.readAt (Elt Ideal) arg6.view (Rect.unit (s := S4x64) ![0, 0] S4x64.size inb_S4x64_S4x64_0_0).toLoadRect X
/-- The norm's weights, as loaded. -/
abbrev ldN (X : BufTy.Contents (Elt Ideal) arg7.view.ty) : Vec Ideal S1x128 .f32 :=
  View.readAt (Elt Ideal) arg7.view (Rect.unit (s := S1x128) ![0, 0] S1x128.size inb_S1x128_S1x128_0_0).toLoadRect X

/-- A write of one stream's part of the running maximum or sum. -/
abbrev wrS (off : Fin 3 → ℕ) (h : ∀ a, off a + S1x512x1.size a ≤ S2x512x1.size a) (v : Vec Ideal S1x512x1 .f32) :
    View.Piece (Elt Ideal) S2x512x1 .f32 := ⟨Rect.unit (s := S2x512x1) off S1x512x1.size h, v⟩
/-- A write of one stream's part of the running numerator. -/
abbrev wrA (off : Fin 3 → ℕ) (h : ∀ a, off a + S1x512x128.size a ≤ S2x512x128.size a) (v : Vec Ideal S1x512x128 .f32) :
    View.Piece (Elt Ideal) S2x512x128 .f32 := ⟨Rect.unit (s := S2x512x128) off S1x512x128.size h, v⟩

/-- What one trip of the loop writes: for each stream the new running maximum, sum and numerator, each from
what the trip found. -/
theorem trip_eq (v12 v23 v61 : FVec Ideal S512x128 .bf16) (v69 : FVec Ideal S512x512 .f32) (w : BitVec 32) (X4 : BufTy.Contents (Elt Ideal) arg4.view.ty)
    (X5 : BufTy.Contents (Elt Ideal) arg5.view.ty) (k : Fin (k0_t1_loop i).trips)
    (f9 : BufTy.Contents (Elt Ideal) arg9.view.ty) (f10 : BufTy.Contents (Elt Ideal) arg10.view.ty) (f11 : BufTy.Contents (Elt Ideal) arg11.view.ty) :
    tripL_k0_t1 (F := Ideal) Variants.none c none i arg3 harg3 arg4 harg4 arg5 harg5 arg6 harg6 arg7 harg7 arg8 harg8 arg9 harg9 arg10 harg10 arg11 harg11 w v12 v23 v61 v69 X4 X5 k f9 f10 f11 =
     ([wrS ![1, 0, 0] inb_S2x512x1_S1x512x1_1_0_0 (k0_pay10 (k0_pay4 v23 (ldB arg4 (k0_off2 i k) (k0_off2_inb i k) X4) (ldS arg9 ![1, 0, 0] inb_S2x512x1_S1x512x1_1_0_0 f9))),
       wrS ![0, 0, 0] inb_S2x512x1_S1x512x1_0_0_0 (k0_pay10 (k0_pay4 v12 (ldB arg4 (k0_off2 i k) (k0_off2_inb i k) X4) (ldS arg9 ![0, 0, 0] inb_S2x512x1_S1x512x1_0_0_0 f9)))],
      [wrS ![1, 0, 0] inb_S2x512x1_S1x512x1_1_0_0 (k0_pay7 v23 (ldB arg4 (k0_off2 i k) (k0_off2_inb i k) X4) (ldS arg9 ![1, 0, 0] inb_S2x512x1_S1x512x1_1_0_0 f9) (ldS arg10 ![1, 0, 0] inb_S2x512x1_S1x512x1_1_0_0 f10)),
       wrS ![0, 0, 0] inb_S2x512x1_S1x512x1_0_0_0 (k0_pay7 v12 (ldB arg4 (k0_off2 i k) (k0_off2_inb i k) X4) (ldS arg9 ![0, 0, 0] inb_S2x512x1_S1x512x1_0_0_0 f9) (ldS arg10 ![0, 0, 0] inb_S2x512x1_S1x512x1_0_0_0 f10))],
      [wrA ![1, 0, 0] inb_S2x512x128_S1x512x128_1_0_0 (k0_pay9 (k0_pay8 v23 (ldB arg4 (k0_off2 i k) (k0_off2_inb i k) X4) (ldB arg5 (k0_off2 i k) (k0_off2_inb i k) X5) (ldS arg9 ![1, 0, 0] inb_S2x512x1_S1x512x1_1_0_0 f9) (ldA arg11 ![1, 0, 0] inb_S2x512x128_S1x512x128_1_0_0 f11))),
       wrA ![0, 0, 0] inb_S2x512x128_S1x512x128_0_0_0 (k0_pay9 (k0_pay8 v12 (ldB arg4 (k0_off2 i k) (k0_off2_inb i k) X4) (ldB arg5 (k0_off2 i k) (k0_off2_inb i k) X5) (ldS arg9 ![0, 0, 0] inb_S2x512x1_S1x512x1_0_0_0 f9) (ldA arg11 ![0, 0, 0] inb_S2x512x128_S1x512x128_0_0_0 f11)))]) := by
  unfold tripL_k0_t1 trip_k0_t1
  dsimp only
  sl_unfold_words
  rfl

/-- The first stream's queries: the first 64 columns, the others zero. -/
abbrev q0 (x0 : Vec Ideal S1x512x128 .bf16) : FVec Ideal S512x128 .bf16 := k0_pay37 (ldQ arg3 (harg3.unread x0))
/-- The second stream's queries: the last 64 columns, the others zero. -/
abbrev q1 (x0 : Vec Ideal S1x512x128 .bf16) : FVec Ideal S512x128 .bf16 := k0_pay38 (ldQ arg3 (harg3.unread x0))
/-- The diagonal block's writes to the running maximum. -/
abbrev dg9 (x0 : Vec Ideal S1x512x128 .bf16) (x1 : Vec Ideal S1x8192x128 .bf16) : List (View.Piece (Elt Ideal) S2x512x1 .f32) :=
  [wrS ![1, 0, 0] inb_S2x512x1_S1x512x1_1_0_0 (k0_pay51 (q1 arg3 harg3 x0) k0_pay39 (ldB arg4 (k0_off1 i) (k0_off1_inb i) (harg4.unread x1))),
   wrS ![0, 0, 0] inb_S2x512x1_S1x512x1_0_0_0 (k0_pay51 (q0 arg3 harg3 x0) k0_pay39 (ldB arg4 (k0_off1 i) (k0_off1_inb i) (harg4.unread x1)))]
/-- The diagonal block's writes to the running sum. -/
abbrev dg10 (x0 : Vec Ideal S1x512x128 .bf16) (x1 : Vec Ideal S1x8192x128 .bf16) : List (View.Piece (Elt Ideal) S2x512x1 .f32) :=
  [wrS ![1, 0, 0] inb_S2x512x1_S1x512x1_1_0_0 (k0_pay52 (k0_pay50 (q1 arg3 harg3 x0) k0_pay39 (ldB arg4 (k0_off1 i) (k0_off1_inb i) (harg4.unread x1)))),
   wrS ![0, 0, 0] inb_S2x512x1_S1x512x1_0_0_0 (k0_pay52 (k0_pay50 (q0 arg3 harg3 x0) k0_pay39 (ldB arg4 (k0_off1 i) (k0_off1_inb i) (harg4.unread x1))))]
/-- The diagonal block's writes to the running numerator. -/
abbrev dg11 (x0 : Vec Ideal S1x512x128 .bf16) (x1 : Vec Ideal S1x8192x128 .bf16) (x2 : Vec Ideal S1x8192x128 .bf16) : List (View.Piece (Elt Ideal) S2x512x128 .f32) :=
  [wrA ![1, 0, 0] inb_S2x512x128_S1x512x128_1_0_0 (k0_pay53 (k0_pay47 (ldB arg5 (k0_off1 i) (k0_off1_inb i) (harg5.unread x2))) (k0_pay50 (q1 arg3 harg3 x0) k0_pay39 (ldB arg4 (k0_off1 i) (k0_off1_inb i) (harg4.unread x1)))),
   wrA ![0, 0, 0] inb_S2x512x128_S1x512x128_0_0_0 (k0_pay53 (k0_pay47 (ldB arg5 (k0_off1 i) (k0_off1_inb i) (harg5.unread x2))) (k0_pay50 (q0 arg3 harg3 x0) k0_pay39 (ldB arg4 (k0_off1 i) (k0_off1_inb i) (harg4.unread x1))))]

/-- The pieces the loop's first trips write. -/
abbrev loopW (x0 : Vec Ideal S1x512x128 .bf16) (x1 : Vec Ideal S1x8192x128 .bf16) (x2 : Vec Ideal S1x8192x128 .bf16) (n : ℕ) :=
  pb_k0_t1 (F := Ideal) Variants.none c none i arg3 harg3 arg4 harg4 arg5 harg5 arg6 harg6 arg7 harg7 arg8 harg8 arg9 harg9 arg10 harg10 arg11 harg11 (BitVec.ofNat 32 (i 2).val) (q0 arg3 harg3 x0) (q1 arg3 harg3 x0) (k0_pay47 (ldB arg5 (k0_off1 i) (k0_off1_inb i) (harg5.unread x2))) (k0_pay50 (q1 arg3 harg3 x0) k0_pay39 (ldB arg4 (k0_off1 i) (k0_off1_inb i) (harg4.unread x1))) (harg4.unread x1) (harg5.unread x2)
    (arg9.view.writes (Elt Ideal) arg9.view.junk (dg9 i arg3 harg3 arg4 harg4 x0 x1))
    (arg10.view.writes (Elt Ideal) arg10.view.junk (dg10 i arg3 harg3 arg4 harg4 x0 x1))
    (arg11.view.writes (Elt Ideal) arg11.view.junk (dg11 i arg3 harg3 arg4 harg4 arg5 harg5 x0 x1 x2)) n

/-- The second loop makes no trip. -/
theorem t2_trips : (k0_t2_loop i).trips = 0 := Nat.le_zero.mp (k0_t2_abs i).2.1

/-- The block the body leaves: each stream's numerator over its sum, after the diagonal block and every trip, the second
stream's taken off the first's, and the norm of the difference. -/
theorem out_eq (x0 : Vec Ideal S1x512x128 .bf16) (x1 : Vec Ideal S1x8192x128 .bf16) (x2 : Vec Ideal S1x8192x128 .bf16) (x3 : Vec Ideal S4x64 .f32) (x4 : Vec Ideal S1x128 .f32) :
    out0_A_5 c i arg3 harg3 arg4 harg4 arg5 harg5 arg6 harg6 arg7 harg7 arg8 harg8 arg9 harg9 arg10 harg10 arg11 harg11 x0 x1 x2 x3 x4 =
      k0_pay1 (F := Ideal) (k0_pay58 (ldL arg6 (harg6.unread x3)))
        (ldA arg11 ![0, 0, 0] inb_S2x512x128_S1x512x128_0_0_0 (arg11.view.writes (Elt Ideal) arg11.view.junk ((loopW c i arg3 harg3 arg4 harg4 arg5 harg5 arg6 harg6 arg7 harg7 arg8 harg8 arg9 harg9 arg10 harg10 arg11 harg11 x0 x1 x2 (k0_t1_loop i).trips).2.2 ++ dg11 i arg3 harg3 arg4 harg4 arg5 harg5 x0 x1 x2)))
        (ldS arg10 ![0, 0, 0] inb_S2x512x1_S1x512x1_0_0_0 (arg10.view.writes (Elt Ideal) arg10.view.junk ((loopW c i arg3 harg3 arg4 harg4 arg5 harg5 arg6 harg6 arg7 harg7 arg8 harg8 arg9 harg9 arg10 harg10 arg11 harg11 x0 x1 x2 (k0_t1_loop i).trips).2.1 ++ dg10 i arg3 harg3 arg4 harg4 x0 x1)))
        (ldA arg11 ![1, 0, 0] inb_S2x512x128_S1x512x128_1_0_0 (arg11.view.writes (Elt Ideal) arg11.view.junk ((loopW c i arg3 harg3 arg4 harg4 arg5 harg5 arg6 harg6 arg7 harg7 arg8 harg8 arg9 harg9 arg10 harg10 arg11 harg11 x0 x1 x2 (k0_t1_loop i).trips).2.2 ++ dg11 i arg3 harg3 arg4 harg4 arg5 harg5 x0 x1 x2)))
        (ldS arg10 ![1, 0, 0] inb_S2x512x1_S1x512x1_1_0_0 (arg10.view.writes (Elt Ideal) arg10.view.junk ((loopW c i arg3 harg3 arg4 harg4 arg5 harg5 arg6 harg6 arg7 harg7 arg8 harg8 arg9 harg9 arg10 harg10 arg11 harg11 x0 x1 x2 (k0_t1_loop i).trips).2.1 ++ dg10 i arg3 harg3 arg4 harg4 x0 x1)))
        (ldN arg7 (harg7.unread x4)) := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  rw [View.canon_unit_zero (funext fun a => by fin_cases a <;> rfl)]
  sl_unfold_words
  have hz := t2_trips i
  change Scf.trips _ _ _ = 0 at hz
  rw [hz]
  rfl
end Cert.Kernel3Ideal.Diff
-- ==== Proof.DiffSteps.lean ====
module
public import proofs.«01_k».proof.Proof.Gen.Kernel3Ideal.Value
public import proofs.«01_k».proof.Proof.Block
public import proofs.«01_k».proof.Proof.DiffRow
@[expose] public section
set_option maxRecDepth 16384
noncomputable section
namespace Cert.Kernel3Ideal.Diff
open Cert.Kernel3Ideal Cert.Kernel3Ideal.Gen Idealize.ShloMosaic Idealize.ShloMosaic.TcCoe Idealize.SL.Sem

variable (q : FVec Ideal S512x128 .bf16) (K V : FVec Ideal S1x512x128 .bf16) (M L : FVec Ideal S1x512x1 .f32) (A : FVec Ideal S1x512x128 .f32)

/-! Each step computes the same function as the latent attention's. -/

theorem top_start : k0_pay51 (F := Ideal) q k0_pay39 K = Cert.KernelIdeal.Gen.k0_pay53 q Cert.KernelIdeal.Gen.k0_pay42 K := rfl
theorem den_start : k0_pay52 (F := Ideal) (k0_pay50 q k0_pay39 K) = Cert.KernelIdeal.Gen.k0_pay54 q Cert.KernelIdeal.Gen.k0_pay42 K := rfl
theorem num_start : k0_pay53 (F := Ideal) (k0_pay47 V) (k0_pay50 q k0_pay39 K) = Cert.KernelIdeal.Gen.k0_pay55 q Cert.KernelIdeal.Gen.k0_pay42 K V := rfl
theorem top_step : k0_pay10 (F := Ideal) (k0_pay4 q K M) = Cert.KernelIdeal.Gen.k0_pay14 (Cert.KernelIdeal.Gen.k0_pay8 q K M) := rfl
theorem den_step : k0_pay7 (F := Ideal) q K M L = Cert.KernelIdeal.Gen.k0_pay11 q K M L := rfl
theorem num_step : k0_pay9 (F := Ideal) (k0_pay8 q K V M A) = Cert.KernelIdeal.Gen.k0_pay13 (Cert.KernelIdeal.Gen.k0_pay12 q K V M A) := rfl

theorem lane_ge (d : Fin 128) (h : 64 ≤ d.val) : IntOp.cmpi CmpIPredicate.sge (BitVec.ofNat 32 d.val) 64#32 = 1#1 := by
  have hd := d.isLt
  rw [WordCmp.cmpi_sge_ofNat (w := 32) (by norm_num; omega) (by norm_num)]; simp [h]

theorem lane_lt (d : Fin 128) (h : ¬ 64 ≤ d.val) : IntOp.cmpi CmpIPredicate.sge (BitVec.ofNat 32 d.val) 64#32 = 0#1 := by
  have hd := d.isLt
  rw [WordCmp.cmpi_sge_ofNat (w := 32) (by norm_num; omega) (by norm_num)]; simp [h]

/-- The first stream's queries keep the first 64 columns. -/
theorem half_zero (x : FVec Ideal S1x512x128 .bf16) (r : Fin 512) (d : Fin 128) :
    (k0_pay37 (F := Ideal) x (ix2 r d) : EReal) = if d.val / 64 = (0 : Fin 2).val then x (ix3 0 r d) else 0 := by
  pointwise [k0_pay37, k0_pay36]
  by_cases h : 64 ≤ d.val
  · rw [lane_ge d h, if_neg (by omega)]; rfl
  · rw [lane_lt d h, if_pos (by omega)]; rfl

/-- The second stream's queries keep the last 64 columns. -/
theorem half_one (x : FVec Ideal S1x512x128 .bf16) (r : Fin 512) (d : Fin 128) :
    (k0_pay38 (F := Ideal) x (ix2 r d) : EReal) = if d.val / 64 = (1 : Fin 2).val then x (ix3 0 r d) else 0 := by
  pointwise [k0_pay38, k0_pay36]
  have hd := d.isLt
  by_cases h : 64 ≤ d.val
  · rw [lane_ge d h, if_pos (by omega)]; rfl
  · rw [lane_lt d h, if_neg (by omega)]; rfl

/-- The second stream's share. -/
theorem share_read (x : FVec Ideal S4x64 .f32) : (k0_pay58 (F := Ideal) x (ix2 0 0) : EReal) = Differ.share fun a d => x (ix2 a d) := by
  unfold Differ.share
  pointwise [k0_pay58]
  rw [Fin.sum_univ_one, Fin.sum_univ_one]

/-- The stored block. -/
theorem stored (lam : FVec Ideal S1x1 .f32) (A A' : FVec Ideal S1x512x128 .f32) (L L' : FVec Ideal S1x512x1 .f32) (w : FVec Ideal S1x128 .f32) (r : Fin 512) (e : Fin 128) :
    (k0_pay1 (F := Ideal) lam A L A' L' w (ix3 0 r e) : EReal) =
      Differ.normed (fun d => Ideal.div (A (ix3 0 r d)) (L (ix3 0 r 0)) - lam (ix2 0 0) * Ideal.div (A' (ix3 0 r d)) (L' (ix3 0 r 0)))
        (fun d => w (ix2 0 d)) e := by
  unfold Differ.normed
  pointwise [k0_pay1]
end Cert.Kernel3Ideal.Diff
-- ==== Proof.DiffBlock.lean ====
module
public import proofs.«01_k».proof.Proof.DiffRun
public import proofs.«01_k».proof.Proof.DiffSteps
public import Idealize.ShloMosaic.Lib.WritesUnit
@[expose] public section
set_option maxRecDepth 16384
noncomputable section
namespace Cert.Kernel3Ideal.Diff
open Cert.Kernel3Ideal Cert.Kernel3Ideal.Gen Idealize.ShloMosaic Idealize.ShloMosaic.TcCoe Idealize.SL.Sem
open Cert.KernelIdeal.Mla (Holds run real_sum)

/-- The scores of row `r` of slab `b` in stream `s`, by key block, those above the diagonal masked. -/
def rowX (s : Fin 2) (x0 : Vec Ideal S1x512x128 .bf16) (x1 : Vec Ideal S1x8192x128 .bf16) (b : ℕ) (r : Fin 512) :
    ℕ → Fin 512 → EReal := fun j o =>
  if h : j < 16 then
    if 512 * j + o.val ≤ 512 * b + r.val then
      ∑ d : Fin 64, x0 (ix3 0 r (⟨64 * s.val + d.val, by omega⟩ : Fin 128))
        * x1 (ix3 0 (⟨512 * j + o.val, by omega⟩ : Fin 8192) (⟨64 * s.val + d.val, by omega⟩ : Fin 128))
    else ⊥
  else ⊥

/-- One column of the values, by key block. -/
def rowW (x2 : Vec Ideal S1x8192x128 .bf16) (e : Fin 128) : ℕ → Fin 512 → EReal := fun j o =>
  if h : j < 16 then x2 (ix3 0 (⟨512 * j + o.val, by omega⟩ : Fin 8192) e) else 0

theorem score_real (s : Fin 2) (x0 : Vec Ideal S1x512x128 .bf16) (x1 : Vec Ideal S1x8192x128 .bf16)
    (h0 : ∀ y, ∃ a : ℝ, x0 y = a) (h1 : ∀ y, ∃ a : ℝ, x1 y = a) (b : ℕ) (r : Fin 512) (j : ℕ) (o : Fin 512) (h : j < 16)
    (hle : 512 * j + o.val ≤ 512 * b + r.val) : ∃ a : ℝ, rowX s x0 x1 b r j o = a := by
  unfold rowX
  rw [dif_pos h, if_pos hle]
  refine real_sum _ _ fun d => ?_
  obtain ⟨a, ha⟩ := h0 (ix3 0 r (⟨64 * s.val + d.val, by omega⟩ : Fin 128))
  obtain ⟨a', ha'⟩ := h1 (ix3 0 (⟨512 * j + o.val, by omega⟩ : Fin 8192) (⟨64 * s.val + d.val, by omega⟩ : Fin 128))
  exact ⟨a * a', by rw [ha, ha', EReal.coe_mul]⟩

theorem score_ne_top (s : Fin 2) (x0 : Vec Ideal S1x512x128 .bf16) (x1 : Vec Ideal S1x8192x128 .bf16)
    (h0 : ∀ y, ∃ a : ℝ, x0 y = a) (h1 : ∀ y, ∃ a : ℝ, x1 y = a) (b : ℕ) (r : Fin 512) (j : ℕ) (o : Fin 512) :
    rowX s x0 x1 b r j o ≠ ⊤ := by
  by_cases h : j < 16
  · by_cases hle : 512 * j + o.val ≤ 512 * b + r.val
    · obtain ⟨a, ha⟩ := score_real s x0 x1 h0 h1 b r j o h hle
      rw [ha]; exact EReal.coe_ne_top a
    · unfold rowX; rw [dif_pos h, if_neg hle]; exact bot_ne_top
  · unfold rowX; rw [dif_neg h]; exact bot_ne_top

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole)

variable (x0 : Vec Ideal S1x512x128 .bf16) (x1 : Vec Ideal S1x8192x128 .bf16) (x2 : Vec Ideal S1x8192x128 .bf16) (x3 : Vec Ideal S4x64 .f32) (x4 : Vec Ideal S1x128 .f32)

/-! Each stream's slab reads back the piece written to it. -/

theorem ldS_zero (m : Memref sig .tc .vmem S2x512x1 .f32) (f : BufTy.Contents (Elt Ideal) m.view.ty) (v1 v0 : Vec Ideal S1x512x1 .f32) :
    ldS m ![0, 0, 0] inb_S2x512x1_S1x512x1_0_0_0 (m.view.writes (Elt Ideal) f [wrS ![1, 0, 0] inb_S2x512x1_S1x512x1_1_0_0 v1, wrS ![0, 0, 0] inb_S2x512x1_S1x512x1_0_0_0 v0]) = v0 := by
  funext y
  refine (View.read_writes_cons_unit_of_not_mem m.view f inb_S2x512x1_S1x512x1_1_0_0 v1 [wrS ![0, 0, 0] inb_S2x512x1_S1x512x1_0_0_0 v0]
    ((Rect.unit (s := S2x512x1) ![0, 0, 0] S1x512x1.size inb_S2x512x1_S1x512x1_0_0_0).emb y) rfl 0 (Or.inl ?_)).trans ?_
  · show 0 + 1 * (y 0).val < 1
    have : (y 0).val < 1 := (y 0).isLt
    omega
  · exact View.read_writes_cons_unit_of_mem m.view f inb_S2x512x1_S1x512x1_0_0_0 v0 [] _ y rfl fun a => by
      exact congrArg (_ + ·) (Nat.one_mul _)

theorem ldS_one (m : Memref sig .tc .vmem S2x512x1 .f32) (f : BufTy.Contents (Elt Ideal) m.view.ty) (v1 v0 : Vec Ideal S1x512x1 .f32) :
    ldS m ![1, 0, 0] inb_S2x512x1_S1x512x1_1_0_0 (m.view.writes (Elt Ideal) f [wrS ![1, 0, 0] inb_S2x512x1_S1x512x1_1_0_0 v1, wrS ![0, 0, 0] inb_S2x512x1_S1x512x1_0_0_0 v0]) = v1 := by
  funext y
  exact View.read_writes_cons_unit_of_mem m.view f inb_S2x512x1_S1x512x1_1_0_0 v1 _ _ y rfl fun a => by
      exact congrArg (_ + ·) (Nat.one_mul _)

theorem ldA_zero (f : BufTy.Contents (Elt Ideal) arg11.view.ty) (v1 v0 : Vec Ideal S1x512x128 .f32) :
    ldA arg11 ![0, 0, 0] inb_S2x512x128_S1x512x128_0_0_0 (arg11.view.writes (Elt Ideal) f [wrA ![1, 0, 0] inb_S2x512x128_S1x512x128_1_0_0 v1, wrA ![0, 0, 0] inb_S2x512x128_S1x512x128_0_0_0 v0]) = v0 := by
  funext y
  refine (View.read_writes_cons_unit_of_not_mem arg11.view f inb_S2x512x128_S1x512x128_1_0_0 v1 [wrA ![0, 0, 0] inb_S2x512x128_S1x512x128_0_0_0 v0]
    ((Rect.unit (s := S2x512x128) ![0, 0, 0] S1x512x128.size inb_S2x512x128_S1x512x128_0_0_0).emb y) rfl 0 (Or.inl ?_)).trans ?_
  · show 0 + 1 * (y 0).val < 1
    have : (y 0).val < 1 := (y 0).isLt
    omega
  · exact View.read_writes_cons_unit_of_mem arg11.view f inb_S2x512x128_S1x512x128_0_0_0 v0 [] _ y rfl fun a => by
      exact congrArg (_ + ·) (Nat.one_mul _)

theorem ldA_one (f : BufTy.Contents (Elt Ideal) arg11.view.ty) (v1 v0 : Vec Ideal S1x512x128 .f32) :
    ldA arg11 ![1, 0, 0] inb_S2x512x128_S1x512x128_1_0_0 (arg11.view.writes (Elt Ideal) f [wrA ![1, 0, 0] inb_S2x512x128_S1x512x128_1_0_0 v1, wrA ![0, 0, 0] inb_S2x512x128_S1x512x128_0_0_0 v0]) = v1 := by
  funext y
  exact View.read_writes_cons_unit_of_mem arg11.view f inb_S2x512x128_S1x512x128_1_0_0 v1 _ _ y rfl fun a => by
      exact congrArg (_ + ·) (Nat.one_mul _)

/-- The running maximum after `n` trips, as it stands. -/
def C9 (n : ℕ) : BufTy.Contents (Elt Ideal) arg9.view.ty :=
  arg9.view.writes (Elt Ideal) arg9.view.junk ((loopW c i arg3 harg3 arg4 harg4 arg5 harg5 arg6 harg6 arg7 harg7 arg8 harg8 arg9 harg9 arg10 harg10 arg11 harg11 x0 x1 x2 n).1 ++ dg9 i arg3 harg3 arg4 harg4 x0 x1)
/-- The running sum after `n` trips, as it stands. -/
def C10 (n : ℕ) : BufTy.Contents (Elt Ideal) arg10.view.ty :=
  arg10.view.writes (Elt Ideal) arg10.view.junk ((loopW c i arg3 harg3 arg4 harg4 arg5 harg5 arg6 harg6 arg7 harg7 arg8 harg8 arg9 harg9 arg10 harg10 arg11 harg11 x0 x1 x2 n).2.1 ++ dg10 i arg3 harg3 arg4 harg4 x0 x1)
/-- The running numerator after `n` trips, as it stands. -/
def C11 (n : ℕ) : BufTy.Contents (Elt Ideal) arg11.view.ty :=
  arg11.view.writes (Elt Ideal) arg11.view.junk ((loopW c i arg3 harg3 arg4 harg4 arg5 harg5 arg6 harg6 arg7 harg7 arg8 harg8 arg9 harg9 arg10 harg10 arg11 harg11 x0 x1 x2 n).2.2 ++ dg11 i arg3 harg3 arg4 harg4 arg5 harg5 x0 x1 x2)

theorem C9_eq (n : ℕ) : C9 c i arg3 harg3 arg4 harg4 arg5 harg5 arg6 harg6 arg7 harg7 arg8 harg8 arg9 harg9 arg10 harg10 arg11 harg11 x0 x1 x2 n =
    arg9.view.writes (Elt Ideal) (arg9.view.writes (Elt Ideal) arg9.view.junk (dg9 i arg3 harg3 arg4 harg4 x0 x1)) (loopW c i arg3 harg3 arg4 harg4 arg5 harg5 arg6 harg6 arg7 harg7 arg8 harg8 arg9 harg9 arg10 harg10 arg11 harg11 x0 x1 x2 n).1 :=
  View.writes_append _ _ _ _
theorem C9_zero : C9 c i arg3 harg3 arg4 harg4 arg5 harg5 arg6 harg6 arg7 harg7 arg8 harg8 arg9 harg9 arg10 harg10 arg11 harg11 x0 x1 x2 0 = arg9.view.writes (Elt Ideal) arg9.view.junk (dg9 i arg3 harg3 arg4 harg4 x0 x1) := rfl
theorem C10_eq (n : ℕ) : C10 c i arg3 harg3 arg4 harg4 arg5 harg5 arg6 harg6 arg7 harg7 arg8 harg8 arg9 harg9 arg10 harg10 arg11 harg11 x0 x1 x2 n =
    arg10.view.writes (Elt Ideal) (arg10.view.writes (Elt Ideal) arg10.view.junk (dg10 i arg3 harg3 arg4 harg4 x0 x1)) (loopW c i arg3 harg3 arg4 harg4 arg5 harg5 arg6 harg6 arg7 harg7 arg8 harg8 arg9 harg9 arg10 harg10 arg11 harg11 x0 x1 x2 n).2.1 :=
  View.writes_append _ _ _ _
theorem C10_zero : C10 c i arg3 harg3 arg4 harg4 arg5 harg5 arg6 harg6 arg7 harg7 arg8 harg8 arg9 harg9 arg10 harg10 arg11 harg11 x0 x1 x2 0 = arg10.view.writes (Elt Ideal) arg10.view.junk (dg10 i arg3 harg3 arg4 harg4 x0 x1) := rfl
theorem C11_eq (n : ℕ) : C11 c i arg3 harg3 arg4 harg4 arg5 harg5 arg6 harg6 arg7 harg7 arg8 harg8 arg9 harg9 arg10 harg10 arg11 harg11 x0 x1 x2 n =
    arg11.view.writes (Elt Ideal) (arg11.view.writes (Elt Ideal) arg11.view.junk (dg11 i arg3 harg3 arg4 harg4 arg5 harg5 x0 x1 x2)) (loopW c i arg3 harg3 arg4 harg4 arg5 harg5 arg6 harg6 arg7 harg7 arg8 harg8 arg9 harg9 arg10 harg10 arg11 harg11 x0 x1 x2 n).2.2 :=
  View.writes_append _ _ _ _
theorem C11_zero : C11 c i arg3 harg3 arg4 harg4 arg5 harg5 arg6 harg6 arg7 harg7 arg8 harg8 arg9 harg9 arg10 harg10 arg11 harg11 x0 x1 x2 0 = arg11.view.writes (Elt Ideal) arg11.view.junk (dg11 i arg3 harg3 arg4 harg4 arg5 harg5 x0 x1 x2) := rfl

theorem C9_succ (k : Fin (k0_t1_loop i).trips) :
    C9 c i arg3 harg3 arg4 harg4 arg5 harg5 arg6 harg6 arg7 harg7 arg8 harg8 arg9 harg9 arg10 harg10 arg11 harg11 x0 x1 x2 (k.val + 1) = arg9.view.writes (Elt Ideal) (C9 c i arg3 harg3 arg4 harg4 arg5 harg5 arg6 harg6 arg7 harg7 arg8 harg8 arg9 harg9 arg10 harg10 arg11 harg11 x0 x1 x2 k.val)
      [wrS ![1, 0, 0] inb_S2x512x1_S1x512x1_1_0_0 (k0_pay10 (k0_pay4 (q1 arg3 harg3 x0) (ldB arg4 (k0_off2 i k) (k0_off2_inb i k) (harg4.unread x1)) (ldS arg9 ![1, 0, 0] inb_S2x512x1_S1x512x1_1_0_0 (C9 c i arg3 harg3 arg4 harg4 arg5 harg5 arg6 harg6 arg7 harg7 arg8 harg8 arg9 harg9 arg10 harg10 arg11 harg11 x0 x1 x2 k.val)))),
       wrS ![0, 0, 0] inb_S2x512x1_S1x512x1_0_0_0 (k0_pay10 (k0_pay4 (q0 arg3 harg3 x0) (ldB arg4 (k0_off2 i k) (k0_off2_inb i k) (harg4.unread x1)) (ldS arg9 ![0, 0, 0] inb_S2x512x1_S1x512x1_0_0_0 (C9 c i arg3 harg3 arg4 harg4 arg5 harg5 arg6 harg6 arg7 harg7 arg8 harg8 arg9 harg9 arg10 harg10 arg11 harg11 x0 x1 x2 k.val))))] := by
  simp only [C9_eq, C10_eq, C11_eq]
  unfold loopW
  rw [pb_k0_t1_succ, trip_eq, View.writes_append]

theorem C10_succ (k : Fin (k0_t1_loop i).trips) :
    C10 c i arg3 harg3 arg4 harg4 arg5 harg5 arg6 harg6 arg7 harg7 arg8 harg8 arg9 harg9 arg10 harg10 arg11 harg11 x0 x1 x2 (k.val + 1) = arg10.view.writes (Elt Ideal) (C10 c i arg3 harg3 arg4 harg4 arg5 harg5 arg6 harg6 arg7 harg7 arg8 harg8 arg9 harg9 arg10 harg10 arg11 harg11 x0 x1 x2 k.val)
      [wrS ![1, 0, 0] inb_S2x512x1_S1x512x1_1_0_0 (k0_pay7 (q1 arg3 harg3 x0) (ldB arg4 (k0_off2 i k) (k0_off2_inb i k) (harg4.unread x1)) (ldS arg9 ![1, 0, 0] inb_S2x512x1_S1x512x1_1_0_0 (C9 c i arg3 harg3 arg4 harg4 arg5 harg5 arg6 harg6 arg7 harg7 arg8 harg8 arg9 harg9 arg10 harg10 arg11 harg11 x0 x1 x2 k.val)) (ldS arg10 ![1, 0, 0] inb_S2x512x1_S1x512x1_1_0_0 (C10 c i arg3 harg3 arg4 harg4 arg5 harg5 arg6 harg6 arg7 harg7 arg8 harg8 arg9 harg9 arg10 harg10 arg11 harg11 x0 x1 x2 k.val))),
       wrS ![0, 0, 0] inb_S2x512x1_S1x512x1_0_0_0 (k0_pay7 (q0 arg3 harg3 x0) (ldB arg4 (k0_off2 i k) (k0_off2_inb i k) (harg4.unread x1)) (ldS arg9 ![0, 0, 0] inb_S2x512x1_S1x512x1_0_0_0 (C9 c i arg3 harg3 arg4 harg4 arg5 harg5 arg6 harg6 arg7 harg7 arg8 harg8 arg9 harg9 arg10 harg10 arg11 harg11 x0 x1 x2 k.val)) (ldS arg10 ![0, 0, 0] inb_S2x512x1_S1x512x1_0_0_0 (C10 c i arg3 harg3 arg4 harg4 arg5 harg5 arg6 harg6 arg7 harg7 arg8 harg8 arg9 harg9 arg10 harg10 arg11 harg11 x0 x1 x2 k.val)))] := by
  simp only [C9_eq, C10_eq, C11_eq]
  unfold loopW
  rw [pb_k0_t1_succ, trip_eq, View.writes_append]

theorem C11_succ (k : Fin (k0_t1_loop i).trips) :
    C11 c i arg3 harg3 arg4 harg4 arg5 harg5 arg6 harg6 arg7 harg7 arg8 harg8 arg9 harg9 arg10 harg10 arg11 harg11 x0 x1 x2 (k.val + 1) = arg11.view.writes (Elt Ideal) (C11 c i arg3 harg3 arg4 harg4 arg5 harg5 arg6 harg6 arg7 harg7 arg8 harg8 arg9 harg9 arg10 harg10 arg11 harg11 x0 x1 x2 k.val)
      [wrA ![1, 0, 0] inb_S2x512x128_S1x512x128_1_0_0 (k0_pay9 (k0_pay8 (q1 arg3 harg3 x0) (ldB arg4 (k0_off2 i k) (k0_off2_inb i k) (harg4.unread x1)) (ldB arg5 (k0_off2 i k) (k0_off2_inb i k) (harg5.unread x2)) (ldS arg9 ![1, 0, 0] inb_S2x512x1_S1x512x1_1_0_0 (C9 c i arg3 harg3 arg4 harg4 arg5 harg5 arg6 harg6 arg7 harg7 arg8 harg8 arg9 harg9 arg10 harg10 arg11 harg11 x0 x1 x2 k.val)) (ldA arg11 ![1, 0, 0] inb_S2x512x128_S1x512x128_1_0_0 (C11 c i arg3 harg3 arg4 harg4 arg5 harg5 arg6 harg6 arg7 harg7 arg8 harg8 arg9 harg9 arg10 harg10 arg11 harg11 x0 x1 x2 k.val)))),
       wrA ![0, 0, 0] inb_S2x512x128_S1x512x128_0_0_0 (k0_pay9 (k0_pay8 (q0 arg3 harg3 x0) (ldB arg4 (k0_off2 i k) (k0_off2_inb i k) (harg4.unread x1)) (ldB arg5 (k0_off2 i k) (k0_off2_inb i k) (harg5.unread x2)) (ldS arg9 ![0, 0, 0] inb_S2x512x1_S1x512x1_0_0_0 (C9 c i arg3 harg3 arg4 harg4 arg5 harg5 arg6 harg6 arg7 harg7 arg8 harg8 arg9 harg9 arg10 harg10 arg11 harg11 x0 x1 x2 k.val)) (ldA arg11 ![0, 0, 0] inb_S2x512x128_S1x512x128_0_0_0 (C11 c i arg3 harg3 arg4 harg4 arg5 harg5 arg6 harg6 arg7 harg7 arg8 harg8 arg9 harg9 arg10 harg10 arg11 harg11 x0 x1 x2 k.val))))] := by
  simp only [C9_eq, C10_eq, C11_eq]
  unfold loopW
  rw [pb_k0_t1_succ, trip_eq, View.writes_append]

/-- A load of a block of keys or values reads the array at the block's offset. -/
theorem ldB_read (m : Memref sig .tc .vmem S1x8192x128 .bf16) (hm : m.IsWhole) (x : Vec Ideal S1x8192x128 .bf16)
    (off : Fin 3 → ℕ) (h : ∀ a, off a + S1x512x128.size a ≤ S1x8192x128.size a) (a : ℕ) (ho : off = ![0, a, 0])
    (o : Fin 512) (d : Fin 128) (ha : a + 512 ≤ 8192) :
    ldB m off h (hm.unread x) (ix3 0 o d) = x (ix3 0 (⟨a + o.val, by omega⟩ : Fin 8192) d) := by
  subst ho
  refine (congrFun (hm.read_unread x) _).trans (congrArg x (funext fun z => Fin.ext ?_))
  fin_cases z
  · rfl
  · show a + 1 * o.val = a + o.val
    rw [Nat.one_mul]
  · show 0 + 1 * d.val = d.val
    omega

theorem ldQ_whole : ldQ arg3 (harg3.unread x0) = x0 :=
  (View.ld_unit_zero (funext fun a => by fin_cases a <;> rfl) _ _).trans (harg3.read_unread x0)
theorem ldL_whole : ldL arg6 (harg6.unread x3) = x3 :=
  (View.ld_unit_zero (funext fun a => by fin_cases a <;> rfl) _ _).trans (harg6.read_unread x3)
theorem ldN_whole : ldN arg7 (harg7.unread x4) = x4 :=
  (View.ld_unit_zero (funext fun a => by fin_cases a <;> rfl) _ _).trans (harg7.read_unread x4)

/-- The loop makes one trip for each block before the slab's. -/
theorem t1_trips : (k0_t1_loop i).trips = (i 2).val := by
  have h_c0 : Affine.IsInt 0#32 (0) := Affine.ofNat _ (by omega)
  have r_i2 : (i 2).val < 16 := (i 2).isLt
  have h_a : Affine.IsInt (BitVec.ofNat 32 (i 2).val) (((i 2).val : Int)) := Affine.ofNat _ (by omega)
  have h_s : Affine.IsInt _ (((i 2).val : Int)) := Affine.subi h_a h_c0 (by omega)
  have h_c1 : Affine.IsInt 1#32 (1) := Affine.ofNat _ (by omega)
  have h_d : Affine.IsInt _ (((i 2).val : Int)) := Affine.divsi h_s h_c1 (by omega)
  have h_m : Affine.IsInt _ (((i 2).val : Int)) := Affine.muli h_d h_c1 (by omega)
  have h_e : Affine.IsInt _ (((i 2).val : Int)) := Affine.addi h_c0 h_m (by omega)
  exact Affine.trips_eq h_c0 h_e h_c1 _ (by omega)

/-- A masked row's product with a key is the product over the stream's half. -/
theorem dot_half (s : Fin 2) (q : FVec Ideal S512x128 .bf16) (r : Fin 512)
    (hq : ∀ d, (q (ix2 r d) : EReal) = if d.val / 64 = s.val then x0 (ix3 0 r d) else 0) (m : ℕ) (hm : m < 16)
    (off : Fin 3 → ℕ) (h : ∀ a, off a + S1x512x128.size a ≤ S1x8192x128.size a) (ho : off = ![0, 512 * m, 0]) (o : Fin 512) :
    ∑ d : Fin 128, q (ix2 r d) * ldB arg4 off h (harg4.unread x1) (ix3 0 o d)
      = ∑ d : Fin 64, x0 (ix3 0 r (⟨64 * s.val + d.val, by omega⟩ : Fin 128))
        * x1 (ix3 0 (⟨512 * m + o.val, by omega⟩ : Fin 8192) (⟨64 * s.val + d.val, by omega⟩ : Fin 128)) := by
  refine (Finset.sum_congr rfl fun d _ => congrArg₂ (· * ·) (hq d) (ldB_read arg4 harg4 x1 off h (512 * m) ho o d (by omega))).trans ?_
  exact Differ.sum_half s (fun d => x0 (ix3 0 r d)) fun d => x1 (ix3 0 (⟨512 * m + o.val, by omega⟩ : Fin 8192) d)

/-- This stream's running values after every trip. -/
theorem holds_zero (h0 : ∀ y, ∃ a : ℝ, x0 y = a) (h1 : ∀ y, ∃ a : ℝ, x1 y = a) (r : Fin 512) (e : Fin 128) :
    Holds r (rowX 0 x0 x1 (i 2).val r) (rowW x2 e) (insert (i 2).val (Finset.range (i 2).val)) e
      (ldS arg9 ![0, 0, 0] inb_S2x512x1_S1x512x1_0_0_0 (C9 c i arg3 harg3 arg4 harg4 arg5 harg5 arg6 harg6 arg7 harg7 arg8 harg8 arg9 harg9 arg10 harg10 arg11 harg11 x0 x1 x2 (i 2).val)) (ldS arg10 ![0, 0, 0] inb_S2x512x1_S1x512x1_0_0_0 (C10 c i arg3 harg3 arg4 harg4 arg5 harg5 arg6 harg6 arg7 harg7 arg8 harg8 arg9 harg9 arg10 harg10 arg11 harg11 x0 x1 x2 (i 2).val))
      (ldA arg11 ![0, 0, 0] inb_S2x512x128_S1x512x128_0_0_0 (C11 c i arg3 harg3 arg4 harg4 arg5 harg5 arg6 harg6 arg7 harg7 arg8 harg8 arg9 harg9 arg10 harg10 arg11 harg11 x0 x1 x2 (i 2).val)) := by
  have hb : (i 2).val < 16 := (i 2).isLt
  obtain ⟨a, ha⟩ := score_real 0 x0 x1 h0 h1 (i 2).val r (i 2).val 0 hb (by simp)
  have hq : ∀ d : Fin 128, ((q0 arg3 harg3 x0) (ix2 r d) : EReal) = if d.val / 64 = (0 : Fin 2).val then x0 (ix3 0 r d) else 0 := fun d => by
    unfold q0
    rw [ldQ_whole]
    exact half_zero x0 r d
  refine run r _ _ (i 2).val e (q0 arg3 harg3 x0) (fun n => ldS arg9 ![0, 0, 0] inb_S2x512x1_S1x512x1_0_0_0 (C9 c i arg3 harg3 arg4 harg4 arg5 harg5 arg6 harg6 arg7 harg7 arg8 harg8 arg9 harg9 arg10 harg10 arg11 harg11 x0 x1 x2 n))
    (fun n => ldS arg10 ![0, 0, 0] inb_S2x512x1_S1x512x1_0_0_0 (C10 c i arg3 harg3 arg4 harg4 arg5 harg5 arg6 harg6 arg7 harg7 arg8 harg8 arg9 harg9 arg10 harg10 arg11 harg11 x0 x1 x2 n)) (fun n => ldA arg11 ![0, 0, 0] inb_S2x512x128_S1x512x128_0_0_0 (C11 c i arg3 harg3 arg4 harg4 arg5 harg5 arg6 harg6 arg7 harg7 arg8 harg8 arg9 harg9 arg10 harg10 arg11 harg11 x0 x1 x2 n))
    (score_ne_top 0 x0 x1 h0 h1 (i 2).val r) 0 a ha
    ⟨ldB arg4 (k0_off1 i) (k0_off1_inb i) (harg4.unread x1), ldB arg5 (k0_off1 i) (k0_off1_inb i) (harg5.unread x2), ?_, ?_, ?_, ?_, ?_⟩ ?_ _ le_rfl
  · intro o
    unfold rowX
    rw [dif_pos hb]
    exact if_congr (by omega) (dot_half arg4 harg4 x0 x1 0 _ r hq _ hb _ _ (k0_off1_eq i) o).symm rfl
  · intro o
    unfold rowW
    rw [dif_pos hb, ldB_read arg5 harg5 x2 (k0_off1 i) (k0_off1_inb i) (512 * (i 2).val) (k0_off1_eq i) o e (by omega)]
  · exact ((congrArg _ (C9_zero c i arg3 harg3 arg4 harg4 arg5 harg5 arg6 harg6 arg7 harg7 arg8 harg8 arg9 harg9 arg10 harg10 arg11 harg11 x0 x1 x2)).trans (ldS_zero arg9 _ _ _)).trans (top_start _ _)
  · exact ((congrArg _ (C10_zero c i arg3 harg3 arg4 harg4 arg5 harg5 arg6 harg6 arg7 harg7 arg8 harg8 arg9 harg9 arg10 harg10 arg11 harg11 x0 x1 x2)).trans (ldS_zero arg10 _ _ _)).trans (den_start _ _)
  · exact ((congrArg _ (C11_zero c i arg3 harg3 arg4 harg4 arg5 harg5 arg6 harg6 arg7 harg7 arg8 harg8 arg9 harg9 arg10 harg10 arg11 harg11 x0 x1 x2)).trans (ldA_zero arg11 _ _ _)).trans (num_start _ _ _)
  · intro n hn
    have ht : n < (k0_t1_loop i).trips := by rw [t1_trips]; exact hn
    refine ⟨ldB arg4 (k0_off2 i ⟨n, ht⟩) (k0_off2_inb i ⟨n, ht⟩) (harg4.unread x1), ldB arg5 (k0_off2 i ⟨n, ht⟩) (k0_off2_inb i ⟨n, ht⟩) (harg5.unread x2), ?_, ?_, ?_, ?_, ?_⟩
    · intro o
      unfold rowX
      rw [dif_pos (by omega : n < 16), if_pos (by omega)]
      exact (dot_half arg4 harg4 x0 x1 0 _ r hq n (by omega) _ _ (k0_off2_eq i ⟨n, ht⟩) o).symm
    · intro o
      unfold rowW
      rw [dif_pos (by omega : n < 16), ldB_read arg5 harg5 x2 (k0_off2 i ⟨n, ht⟩) (k0_off2_inb i ⟨n, ht⟩) (512 * n) (k0_off2_eq i ⟨n, ht⟩) o e (by omega)]
    · exact ((congrArg _ (C9_succ c i arg3 harg3 arg4 harg4 arg5 harg5 arg6 harg6 arg7 harg7 arg8 harg8 arg9 harg9 arg10 harg10 arg11 harg11 x0 x1 x2 ⟨n, ht⟩)).trans (ldS_zero arg9 _ _ _)).trans (top_step _ _ _)
    · exact ((congrArg _ (C10_succ c i arg3 harg3 arg4 harg4 arg5 harg5 arg6 harg6 arg7 harg7 arg8 harg8 arg9 harg9 arg10 harg10 arg11 harg11 x0 x1 x2 ⟨n, ht⟩)).trans (ldS_zero arg10 _ _ _)).trans (den_step _ _ _ _)
    · exact ((congrArg _ (C11_succ c i arg3 harg3 arg4 harg4 arg5 harg5 arg6 harg6 arg7 harg7 arg8 harg8 arg9 harg9 arg10 harg10 arg11 harg11 x0 x1 x2 ⟨n, ht⟩)).trans (ldA_zero arg11 _ _ _)).trans (num_step _ _ _ _ _)

/-- This stream's running values after every trip. -/
theorem holds_one (h0 : ∀ y, ∃ a : ℝ, x0 y = a) (h1 : ∀ y, ∃ a : ℝ, x1 y = a) (r : Fin 512) (e : Fin 128) :
    Holds r (rowX 1 x0 x1 (i 2).val r) (rowW x2 e) (insert (i 2).val (Finset.range (i 2).val)) e
      (ldS arg9 ![1, 0, 0] inb_S2x512x1_S1x512x1_1_0_0 (C9 c i arg3 harg3 arg4 harg4 arg5 harg5 arg6 harg6 arg7 harg7 arg8 harg8 arg9 harg9 arg10 harg10 arg11 harg11 x0 x1 x2 (i 2).val)) (ldS arg10 ![1, 0, 0] inb_S2x512x1_S1x512x1_1_0_0 (C10 c i arg3 harg3 arg4 harg4 arg5 harg5 arg6 harg6 arg7 harg7 arg8 harg8 arg9 harg9 arg10 harg10 arg11 harg11 x0 x1 x2 (i 2).val))
      (ldA arg11 ![1, 0, 0] inb_S2x512x128_S1x512x128_1_0_0 (C11 c i arg3 harg3 arg4 harg4 arg5 harg5 arg6 harg6 arg7 harg7 arg8 harg8 arg9 harg9 arg10 harg10 arg11 harg11 x0 x1 x2 (i 2).val)) := by
  have hb : (i 2).val < 16 := (i 2).isLt
  obtain ⟨a, ha⟩ := score_real 1 x0 x1 h0 h1 (i 2).val r (i 2).val 0 hb (by simp)
  have hq : ∀ d : Fin 128, ((q1 arg3 harg3 x0) (ix2 r d) : EReal) = if d.val / 64 = (1 : Fin 2).val then x0 (ix3 0 r d) else 0 := fun d => by
    unfold q1
    rw [ldQ_whole]
    exact half_one x0 r d
  refine run r _ _ (i 2).val e (q1 arg3 harg3 x0) (fun n => ldS arg9 ![1, 0, 0] inb_S2x512x1_S1x512x1_1_0_0 (C9 c i arg3 harg3 arg4 harg4 arg5 harg5 arg6 harg6 arg7 harg7 arg8 harg8 arg9 harg9 arg10 harg10 arg11 harg11 x0 x1 x2 n))
    (fun n => ldS arg10 ![1, 0, 0] inb_S2x512x1_S1x512x1_1_0_0 (C10 c i arg3 harg3 arg4 harg4 arg5 harg5 arg6 harg6 arg7 harg7 arg8 harg8 arg9 harg9 arg10 harg10 arg11 harg11 x0 x1 x2 n)) (fun n => ldA arg11 ![1, 0, 0] inb_S2x512x128_S1x512x128_1_0_0 (C11 c i arg3 harg3 arg4 harg4 arg5 harg5 arg6 harg6 arg7 harg7 arg8 harg8 arg9 harg9 arg10 harg10 arg11 harg11 x0 x1 x2 n))
    (score_ne_top 1 x0 x1 h0 h1 (i 2).val r) 0 a ha
    ⟨ldB arg4 (k0_off1 i) (k0_off1_inb i) (harg4.unread x1), ldB arg5 (k0_off1 i) (k0_off1_inb i) (harg5.unread x2), ?_, ?_, ?_, ?_, ?_⟩ ?_ _ le_rfl
  · intro o
    unfold rowX
    rw [dif_pos hb]
    exact if_congr (by omega) (dot_half arg4 harg4 x0 x1 1 _ r hq _ hb _ _ (k0_off1_eq i) o).symm rfl
  · intro o
    unfold rowW
    rw [dif_pos hb, ldB_read arg5 harg5 x2 (k0_off1 i) (k0_off1_inb i) (512 * (i 2).val) (k0_off1_eq i) o e (by omega)]
  · exact ((congrArg _ (C9_zero c i arg3 harg3 arg4 harg4 arg5 harg5 arg6 harg6 arg7 harg7 arg8 harg8 arg9 harg9 arg10 harg10 arg11 harg11 x0 x1 x2)).trans (ldS_one arg9 _ _ _)).trans (top_start _ _)
  · exact ((congrArg _ (C10_zero c i arg3 harg3 arg4 harg4 arg5 harg5 arg6 harg6 arg7 harg7 arg8 harg8 arg9 harg9 arg10 harg10 arg11 harg11 x0 x1 x2)).trans (ldS_one arg10 _ _ _)).trans (den_start _ _)
  · exact ((congrArg _ (C11_zero c i arg3 harg3 arg4 harg4 arg5 harg5 arg6 harg6 arg7 harg7 arg8 harg8 arg9 harg9 arg10 harg10 arg11 harg11 x0 x1 x2)).trans (ldA_one arg11 _ _ _)).trans (num_start _ _ _)
  · intro n hn
    have ht : n < (k0_t1_loop i).trips := by rw [t1_trips]; exact hn
    refine ⟨ldB arg4 (k0_off2 i ⟨n, ht⟩) (k0_off2_inb i ⟨n, ht⟩) (harg4.unread x1), ldB arg5 (k0_off2 i ⟨n, ht⟩) (k0_off2_inb i ⟨n, ht⟩) (harg5.unread x2), ?_, ?_, ?_, ?_, ?_⟩
    · intro o
      unfold rowX
      rw [dif_pos (by omega : n < 16), if_pos (by omega)]
      exact (dot_half arg4 harg4 x0 x1 1 _ r hq n (by omega) _ _ (k0_off2_eq i ⟨n, ht⟩) o).symm
    · intro o
      unfold rowW
      rw [dif_pos (by omega : n < 16), ldB_read arg5 harg5 x2 (k0_off2 i ⟨n, ht⟩) (k0_off2_inb i ⟨n, ht⟩) (512 * n) (k0_off2_eq i ⟨n, ht⟩) o e (by omega)]
    · exact ((congrArg _ (C9_succ c i arg3 harg3 arg4 harg4 arg5 harg5 arg6 harg6 arg7 harg7 arg8 harg8 arg9 harg9 arg10 harg10 arg11 harg11 x0 x1 x2 ⟨n, ht⟩)).trans (ldS_one arg9 _ _ _)).trans (top_step _ _ _)
    · exact ((congrArg _ (C10_succ c i arg3 harg3 arg4 harg4 arg5 harg5 arg6 harg6 arg7 harg7 arg8 harg8 arg9 harg9 arg10 harg10 arg11 harg11 x0 x1 x2 ⟨n, ht⟩)).trans (ldS_one arg10 _ _ _)).trans (den_step _ _ _ _)
    · exact ((congrArg _ (C11_succ c i arg3 harg3 arg4 harg4 arg5 harg5 arg6 harg6 arg7 harg7 arg8 harg8 arg9 harg9 arg10 harg10 arg11 harg11 x0 x1 x2 ⟨n, ht⟩)).trans (ldA_one arg11 _ _ _)).trans (num_step _ _ _ _ _)

/-- The blocks met are, for the sums, all sixteen: the scores of the others are minus infinity. -/
theorem holds_all (s : Fin 2) (b : ℕ) (hb : b < 16) (r : Fin 512) :
    insert b (Finset.range b) ⊆ Finset.range 16 ∧
      ∀ j ∈ Finset.range 16, j ∉ insert b (Finset.range b) → ∀ o, rowX s x0 x1 b r j o = ⊥ := by
  refine ⟨fun j hj => ?_, fun j hj hn o => ?_⟩
  · simp only [Finset.mem_insert, Finset.mem_range] at hj ⊢
    omega
  · simp only [Finset.mem_insert, Finset.mem_range, not_or] at hj hn
    unfold rowX
    rw [dif_pos hj, if_neg (by omega)]

/-- The first stream's quotient is its weighted mean over all key blocks. -/
theorem mean_zero (h0 : ∀ y, ∃ a : ℝ, x0 y = a) (h1 : ∀ y, ∃ a : ℝ, x1 y = a) (r : Fin 512) (e : Fin 128) :
    Ideal.div (ldA arg11 ![0, 0, 0] inb_S2x512x128_S1x512x128_0_0_0 (C11 c i arg3 harg3 arg4 harg4 arg5 harg5 arg6 harg6 arg7 harg7 arg8 harg8 arg9 harg9 arg10 harg10 arg11 harg11 x0 x1 x2 (i 2).val) (ix3 0 r e)) (ldS arg10 ![0, 0, 0] inb_S2x512x1_S1x512x1_0_0_0 (C10 c i arg3 harg3 arg4 harg4 arg5 harg5 arg6 harg6 arg7 harg7 arg8 harg8 arg9 harg9 arg10 harg10 arg11 harg11 x0 x1 x2 (i 2).val) (ix3 0 r 0))
      = Differ.mean (rowX 0 x0 x1 (i 2).val r) (rowW x2 e) := by
  obtain ⟨hs, hn⟩ := holds_all x0 x1 0 (i 2).val (i 2).isLt r
  unfold Differ.mean
  rw [Running.num_subset _ _ hs hn, Running.den_subset _ hs hn]
  obtain ⟨-, g2, g3⟩ := holds_zero c i arg3 harg3 arg4 harg4 arg5 harg5 arg6 harg6 arg7 harg7 arg8 harg8 arg9 harg9 arg10 harg10 arg11 harg11 x0 x1 x2 h0 h1 r e
  rw [← g2, ← g3]

/-- The second stream's quotient is its weighted mean over all key blocks. -/
theorem mean_one (h0 : ∀ y, ∃ a : ℝ, x0 y = a) (h1 : ∀ y, ∃ a : ℝ, x1 y = a) (r : Fin 512) (e : Fin 128) :
    Ideal.div (ldA arg11 ![1, 0, 0] inb_S2x512x128_S1x512x128_1_0_0 (C11 c i arg3 harg3 arg4 harg4 arg5 harg5 arg6 harg6 arg7 harg7 arg8 harg8 arg9 harg9 arg10 harg10 arg11 harg11 x0 x1 x2 (i 2).val) (ix3 0 r e)) (ldS arg10 ![1, 0, 0] inb_S2x512x1_S1x512x1_1_0_0 (C10 c i arg3 harg3 arg4 harg4 arg5 harg5 arg6 harg6 arg7 harg7 arg8 harg8 arg9 harg9 arg10 harg10 arg11 harg11 x0 x1 x2 (i 2).val) (ix3 0 r 0))
      = Differ.mean (rowX 1 x0 x1 (i 2).val r) (rowW x2 e) := by
  obtain ⟨hs, hn⟩ := holds_all x0 x1 1 (i 2).val (i 2).isLt r
  unfold Differ.mean
  rw [Running.num_subset _ _ hs hn, Running.den_subset _ hs hn]
  obtain ⟨-, g2, g3⟩ := holds_one c i arg3 harg3 arg4 harg4 arg5 harg5 arg6 harg6 arg7 harg7 arg8 harg8 arg9 harg9 arg10 harg10 arg11 harg11 x0 x1 x2 h0 h1 r e
  rw [← g2, ← g3]

/-- The block the body leaves, element by element. -/
theorem out_read (h0 : ∀ y, ∃ a : ℝ, x0 y = a) (h1 : ∀ y, ∃ a : ℝ, x1 y = a) (r : Fin 512) (e : Fin 128) :
    out0_A_5 c i arg3 harg3 arg4 harg4 arg5 harg5 arg6 harg6 arg7 harg7 arg8 harg8 arg9 harg9 arg10 harg10 arg11 harg11 x0 x1 x2 x3 x4 (ix3 0 r e) =
      Differ.normed (fun d => Differ.mean (rowX 0 x0 x1 (i 2).val r) (rowW x2 d)
          - Differ.share (fun a d => x3 (ix2 a d)) * Differ.mean (rowX 1 x0 x1 (i 2).val r) (rowW x2 d))
        (fun d => x4 (ix2 0 d)) e := by
  rw [out_eq, stored, t1_trips, share_read, ldL_whole, ldN_whole]
  refine congrArg (fun u => Differ.normed u _ e) (funext fun d => ?_)
  exact congrArg₂ (fun a b => a - _ * b) (mean_zero c i arg3 harg3 arg4 harg4 arg5 harg5 arg6 harg6 arg7 harg7 arg8 harg8 arg9 harg9 arg10 harg10 arg11 harg11 x0 x1 x2 h0 h1 r d) (mean_one c i arg3 harg3 arg4 harg4 arg5 harg5 arg6 harg6 arg7 harg7 arg8 harg8 arg9 harg9 arg10 harg10 arg11 harg11 x0 x1 x2 h0 h1 r d)
end Cert.Kernel3Ideal.Diff
-- ==== Proof.DiffResult.lean ====
module
public import proofs.«01_k».proof.Proof.DiffBlock
public import Idealize.ShloMosaic.Lib.Pipeline.Covers
public import Idealize.ShloMosaic.Lib.StableHlo.RunRead
@[expose] public section
set_option maxRecDepth 16384
noncomputable section
namespace Cert.Kernel3Ideal.Diff
open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The queries, by batch, position and column. -/
def argQ (n : Fin 4) (p : Fin 8192) (f : Fin 512) : EReal := (m ((c : Thread nD τ).loc main_arg0) : Vec Ideal S4x8192x512 .bf16) (ix3 n p f)
/-- The keys, by batch, position and column. -/
def argK (n : Fin 4) (p : Fin 8192) (f : Fin 512) : EReal := (m ((c : Thread nD τ).loc main_arg1) : Vec Ideal S4x8192x512 .bf16) (ix3 n p f)
/-- The values, by batch, position and column. -/
def argV (n : Fin 4) (p : Fin 8192) (f : Fin 512) : EReal := (m ((c : Thread nD τ).loc main_arg2) : Vec Ideal S4x8192x512 .bf16) (ix3 n p f)
/-- The four vectors that make the second stream's share. -/
def argL (a : Fin 4) (d : Fin 64) : EReal := (m ((c : Thread nD τ).loc main_arg3) : Vec Ideal S4x64 .f32) (ix2 a d)
/-- The norm's weights. -/
def argN (d : Fin 128) : EReal := (m ((c : Thread nD τ).loc main_arg4) : Vec Ideal S128 .f32) (ix1 d)

/-- The result array the kernel leaves. -/
def result : Vec Ideal S4x8192x512 .bf16 := fun y =>
  Differ.out (argQ m c) (argK m c) (argV m c) (argL m c) (argN m c) (y 0) (y 1)
    ⟨(y 2 : Fin 512).val / 128, by have : (y 2 : Fin 512).val < 512 := (y 2 : Fin 512).isLt; omega⟩ ⟨(y 2 : Fin 512).val % 128, by omega⟩

/-- The norm's weights, as the kernel's region finds them. -/
theorem V_v0 : V m c main_v0 = shapeCast S1x128 (m ((c : Thread nD τ).loc main_arg4)) shapeCasts_S128_S1x128 :=
  (StableHlo.after_last_write (i := 0) [] rfl rfl (by decide) _).trans
    (StableHlo.reshape_result (Val := Elt Ideal) main_arg4 main_v0 rfl shapeCasts_S128_S1x128 _ _ _)

/-- The norm's weights read through their added axis. -/
theorem norm_read (x : Vec Ideal S128 .f32) (d : Fin 128) :
    shapeCast S1x128 x shapeCasts_S128_S1x128 (ix2 0 d) = x (ix1 d) := by
  pointwise

variable (t : Fin cfg0.N)

theorem co0 : ((grid0.coords t) 0).val < 4 := ((grid0.coords t) 0).isLt
theorem co1 : ((grid0.coords t) 1).val < 4 := ((grid0.coords t) 1).isLt
theorem co2 : ((grid0.coords t) 2).val < 16 := ((grid0.coords t) 2).isLt

theorem toNat_small (a : ℕ) (h : a < 16) : (BitVec.ofNat 32 a).toNat = a := WordCmp.toNat_ofNat_of_lt (by omega)

/-- A point's blocks of the five arguments. -/
abbrev b0 : Vec Ideal S1x512x128 .bf16 := iblk m c 0 t
abbrev b1 : Vec Ideal S1x8192x128 .bf16 := iblk m c 1 t
abbrev b2 : Vec Ideal S1x8192x128 .bf16 := iblk m c 2 t
abbrev b3 : Vec Ideal S4x64 .f32 := iblk m c 3 t
abbrev b4 : Vec Ideal S1x128 .f32 := iblk m c 4 t

/-- The query slab of a grid point. -/
theorem b0_read (r : Fin 512) (d : Fin 128) : b0 m c t (ix3 0 r d) =
    argQ m c ⟨_, co0 t⟩ ⟨512 * ((grid0.coords t) 2).val + r.val, by have := co2 t; omega⟩
      ⟨128 * ((grid0.coords t) 1).val + d.val, by have := co1 t; omega⟩ := by
  have h0 := co0 t; have h1 := co1 t; have h2 := co2 t
  unfold b0 iblk argQ
  rw [View.read_apply]
  refine congrArg (m ((c : Thread nD τ).loc main_arg0)) (funext fun a => Fin.ext ?_)
  fin_cases a
  · show (BitVec.ofNat 32 ((grid0.coords t) 0).val).toNat * 1 + 1 * 0 = ((grid0.coords t) 0).val
    rw [toNat_small _ (by omega)]; omega
  · show (BitVec.ofNat 32 ((grid0.coords t) 2).val).toNat * 512 + 1 * r.val = _ + r.val
    rw [toNat_small _ (by omega)]; omega
  · show (BitVec.ofNat 32 ((grid0.coords t) 1).val).toNat * 128 + 1 * d.val = _ + d.val
    rw [toNat_small _ (by omega)]; omega

/-- The keys of a grid point's batch and head. -/
theorem b1_read (r : Fin 8192) (d : Fin 128) : b1 m c t (ix3 0 r d) =
    argK m c ⟨_, co0 t⟩ r ⟨128 * ((grid0.coords t) 1).val + d.val, by have := co1 t; omega⟩ := by
  have h0 := co0 t; have h1 := co1 t
  unfold b1 iblk argK
  rw [View.read_apply]
  refine congrArg (m ((c : Thread nD τ).loc main_arg1)) (funext fun a => Fin.ext ?_)
  fin_cases a
  · show (BitVec.ofNat 32 ((grid0.coords t) 0).val).toNat * 1 + 1 * 0 = ((grid0.coords t) 0).val
    rw [toNat_small _ (by omega)]; omega
  · show 0 * 8192 + 1 * r.val = r.val
    omega
  · show (BitVec.ofNat 32 ((grid0.coords t) 1).val).toNat * 128 + 1 * d.val = _ + d.val
    rw [toNat_small _ (by omega)]; omega

/-- The values of a grid point's batch and head. -/
theorem b2_read (r : Fin 8192) (d : Fin 128) : b2 m c t (ix3 0 r d) =
    argV m c ⟨_, co0 t⟩ r ⟨128 * ((grid0.coords t) 1).val + d.val, by have := co1 t; omega⟩ := by
  have h0 := co0 t; have h1 := co1 t
  unfold b2 iblk argV
  rw [View.read_apply]
  refine congrArg (m ((c : Thread nD τ).loc main_arg2)) (funext fun a => Fin.ext ?_)
  fin_cases a
  · show (BitVec.ofNat 32 ((grid0.coords t) 0).val).toNat * 1 + 1 * 0 = ((grid0.coords t) 0).val
    rw [toNat_small _ (by omega)]; omega
  · show 0 * 8192 + 1 * r.val = r.val
    omega
  · show (BitVec.ofNat 32 ((grid0.coords t) 1).val).toNat * 128 + 1 * d.val = _ + d.val
    rw [toNat_small _ (by omega)]; omega

theorem b3_read (a : Fin 4) (d : Fin 64) : b3 m c t (ix2 a d) = argL m c a d := by
  unfold b3 iblk argL
  rw [View.read_apply]
  refine congrArg (m ((c : Thread nD τ).loc main_arg3)) (funext fun a => Fin.ext ?_)
  fin_cases a
  · show 0 * 4 + 1 * a.val = a.val
    omega
  · show 0 * 64 + 1 * d.val = d.val
    omega

theorem b4_read (d : Fin 128) : b4 m c t (ix2 0 d) = argN m c d := by
  refine Eq.trans ?_ (norm_read _ _)
  unfold b4 iblk
  rw [View.read_apply]
  refine (congrFun (V_v0 m c) _).trans (congrArg (shapeCast S1x128 _ shapeCasts_S128_S1x128) (funext fun a => Fin.ext ?_))
  fin_cases a
  · rfl
  · show 0 * 128 + 1 * d.val = d.val
    omega

/-- A slab row's scores are those of its position and head. -/
theorem rowX_eq (s : Fin 2) (r : Fin 512) :
    rowX s (b0 m c t) (b1 m c t) ((grid0.coords t) 2).val r =
      Differ.gX (argQ m c) (argK m c) ⟨_, co0 t⟩ ⟨_, co1 t⟩ s ⟨512 * ((grid0.coords t) 2).val + r.val, by have := co2 t; omega⟩ := by
  funext j o
  unfold rowX Differ.gX
  refine dite_congr rfl (fun hj => if_congr Iff.rfl (Finset.sum_congr rfl fun d _ => ?_) rfl) fun _ => rfl
  refine congrArg₂ (· * ·) ((b0_read m c t r _).trans ?_) ((b1_read m c t _ _).trans ?_)
  · refine congrArg _ (Fin.ext ?_)
    show 128 * ((grid0.coords t) 1).val + (64 * s.val + d.val) = 128 * ((grid0.coords t) 1).val + 64 * s.val + d.val
    omega
  · refine congrArg _ (Fin.ext ?_)
    show 128 * ((grid0.coords t) 1).val + (64 * s.val + d.val) = 128 * ((grid0.coords t) 1).val + 64 * s.val + d.val
    omega

/-- A block's value column is the array's. -/
theorem rowW_eq (e : Fin 128) :
    rowW (b2 m c t) e = Differ.gW (argV m c) ⟨_, co0 t⟩ ⟨_, co1 t⟩ e := by
  funext j o
  unfold rowW Differ.gW
  exact dite_congr rfl (fun hj => b2_read m c t _ e) fun _ => rfl

variable (hQ : ∀ n p f, ∃ a : ℝ, argQ m c n p f = a) (hK : ∀ n p f, ∃ a : ℝ, argK m c n p f = a)
include hQ hK

/-- What a grid point writes back is its block of the result. -/
theorem flushed_eq (hf : (cfg0.win 5).flush t = true) :
    (dats m 0 c).flushed 5 t = ((cfg0.win 5).blk t).view.read (Elt Ideal) (result m c) := by
  have h0 := co0 t; have h1 := co1 t; have h2 := co2 t
  have k0 : ∀ y, ∃ a : ℝ, b0 m c t y = a := fun y => by
    have hy : y = ix3 (0 : Fin 1) (y 1 : Fin 512) (y 2 : Fin 128) :=
      (eq_ix3 y).trans (congrArg (fun z : Fin 1 => ix3 z (y 1 : Fin 512) (y 2 : Fin 128)) (Subsingleton.elim _ _))
    rw [hy]
    exact (b0_read m c t _ _).symm ▸ hQ _ _ _
  have k1 : ∀ y, ∃ a : ℝ, b1 m c t y = a := fun y => by
    have hy : y = ix3 (0 : Fin 1) (y 1 : Fin 8192) (y 2 : Fin 128) :=
      (eq_ix3 y).trans (congrArg (fun z : Fin 1 => ix3 z (y 1 : Fin 8192) (y 2 : Fin 128)) (Subsingleton.elim _ _))
    rw [hy]
    exact (b1_read m c t _ _).symm ▸ hK _ _ _
  rw [Value.flushed5_A]
  refine funext fun (y : S1x512x128.Idx) => ?_
  obtain ⟨r, e, rfl⟩ : ∃ (r : Fin 512) (e : Fin 128), y = ix3 (0 : Fin 1) r e :=
    ⟨y 1, y 2, (eq_ix3 y).trans (congrArg (fun z : Fin 1 => ix3 z (y 1 : Fin 512) (y 2 : Fin 128)) (Subsingleton.elim _ _))⟩
  refine (out_read _ _ _ _ _ _ _ _ _ _ _ _ _ _ _ _ _ _ _ _ (b0 m c t) (b1 m c t) (b2 m c t) (b3 m c t) (b4 m c t) k0 k1 r e).trans ?_
  rw [View.read_apply]
  simp only [rowX_eq, rowW_eq, b3_read, b4_read]
  have e0 : (((cfg0.win 5).blk t).view.emb (ix3 0 r e) 0 : Fin 4) = ⟨_, co0 t⟩ := Fin.ext (by
    show (BitVec.ofNat 32 ((grid0.coords t) 0).val).toNat * 1 + 1 * 0 = ((grid0.coords t) 0).val
    rw [toNat_small _ (by omega)]; omega)
  have e1 : (((cfg0.win 5).blk t).view.emb (ix3 0 r e) 1 : Fin 8192) = (⟨512 * ((grid0.coords t) 2).val + r.val, by omega⟩ : Fin 8192) := Fin.ext (by
    show (BitVec.ofNat 32 ((grid0.coords t) 2).val).toNat * 512 + 1 * r.val = _ + r.val
    rw [toNat_small _ (by omega)]; omega)
  have e2 : (((cfg0.win 5).blk t).view.emb (ix3 0 r e) 2 : Fin 512) = (⟨128 * ((grid0.coords t) 1).val + e.val, by omega⟩ : Fin 512) := Fin.ext (by
    show (BitVec.ofNat 32 ((grid0.coords t) 1).val).toNat * 128 + 1 * e.val = _ + e.val
    rw [toNat_small _ (by omega)]; omega)
  refine Eq.trans ?_ (show result m c (((cfg0.win 5).blk t).view.emb (ix3 0 r e)) = _ from rfl)
  unfold result
  have hl : (((cfg0.win 5).blk t).view.emb (ix3 0 r e) 2 : Fin 512).val < 512 := (((cfg0.win 5).blk t).view.emb (ix3 0 r e) 2 : Fin 512).isLt
  have f1 : (⟨(((cfg0.win 5).blk t).view.emb (ix3 0 r e) 2 : Fin 512).val / 128, by omega⟩ : Fin 4) = ⟨_, co1 t⟩ := Fin.ext (by
    show (((cfg0.win 5).blk t).view.emb (ix3 0 r e) 2 : Fin 512).val / 128 = ((grid0.coords t) 1).val
    rw [e2]; show (128 * ((grid0.coords t) 1).val + e.val) / 128 = ((grid0.coords t) 1).val; omega)
  have f2 : (⟨(((cfg0.win 5).blk t).view.emb (ix3 0 r e) 2 : Fin 512).val % 128, by omega⟩ : Fin 128) = e := Fin.ext (by
    show (((cfg0.win 5).blk t).view.emb (ix3 0 r e) 2 : Fin 512).val % 128 = e.val
    rw [e2]; show (128 * ((grid0.coords t) 1).val + e.val) % 128 = e.val; omega)
  rw [f1, f2, e0, e1]
  rfl

/-- The blocks cover the array, so it ends holding the result. -/
theorem final : (dats m 0 c).arrAt 5 cfg0.N = result m c := by
  refine (dats m 0 c).arrAt_eq_of_cover 5 (result m c) (fun t hf => flushed_eq m c t hQ hK hf) fun y => ?_
  have y0 : (y 0).val < 4 := (y 0).isLt
  have y1 : (y 1).val < 8192 := (y 1).isLt
  have y2 : (y 2).val < 512 := (y 2).isLt
  obtain ⟨t, ht⟩ := Pipeline.Grid.coords_surjective grid0 (fun a => match a with
    | ⟨0, _⟩ => ⟨(y 0).val, y0⟩ | ⟨1, _⟩ => ⟨(y 2).val / 128, by show _ < 4; omega⟩ | ⟨2, _⟩ => ⟨(y 1).val / 512, by show _ < 16; omega⟩)
  have t0 : ((grid0.coords t) 0).val = (y 0).val := by rw [ht]
  have t1 : ((grid0.coords t) 1).val = (y 2).val / 128 := by rw [ht]
  have t2 : ((grid0.coords t) 2).val = (y 1).val / 512 := by rw [ht]
  refine ⟨t, flush0_5 t, ?_⟩
  show y ∈ ((View.whole main_v1).slice (win0_5.rect t)).set
  rw [View.set_slice_whole, Rect.mem_set_unit]
  intro a
  fin_cases a
  · show (BitVec.ofNat 32 ((grid0.coords t) 0).val).toNat * 1 ≤ (y 0).val ∧ (y 0).val < (BitVec.ofNat 32 ((grid0.coords t) 0).val).toNat * 1 + 1
    rw [toNat_small _ (by omega)]; omega
  · show (BitVec.ofNat 32 ((grid0.coords t) 2).val).toNat * 512 ≤ (y 1).val ∧ (y 1).val < (BitVec.ofNat 32 ((grid0.coords t) 2).val).toNat * 512 + 512
    rw [toNat_small _ (by omega)]; omega
  · show (BitVec.ofNat 32 ((grid0.coords t) 1).val).toNat * 128 ≤ (y 2).val ∧ (y 2).val < (BitVec.ofNat 32 ((grid0.coords t) 1).val).toNat * 128 + 128
    rw [toNat_small _ (by omega)]; omega

end Cert.Kernel3Ideal.Diff
-- ==== Proof.DiffRef.lean ====
module
public import proofs.«01_k».proof.Proof.DiffRow
public import proofs.«01_k».proof.Proof.RefRead
public import proofs.«01_k».proof.Proof.Gen.Reference3Ideal.Read
public import Idealize.ShloMosaic.Lib.Pointwise
public import Idealize.ShloMosaic.Lib.WordCmp
@[expose] public section
set_option maxRecDepth 16384
noncomputable section

/-! The differential attention's reference, read element by element: the scores of a row in each stream, their weights,
the difference of the two streams, and its norm. -/

namespace Cert.Reference3Ideal.Diff
open Idealize.ShloMosaic Idealize.SL.Sem Cert.Reference3Ideal Cert.Reference3Ideal.Read Cert.Reference3Ideal.Gen
open Cert.ReferenceIdeal.Mla (two_bits negInf_bits log_two)

variable (x0 x1 x2 : (⟨S4x8192x512, .bf16⟩ : BufTy).Contents (Elt Ideal)) (x3 : (⟨S4x64, .f32⟩ : BufTy).Contents (Elt Ideal))
  (x4 : (⟨S128, .f32⟩ : BufTy).Contents (Elt Ideal))

/-- The score of key `k` for position `p` in stream `s` of head `h` in batch `n`, before it is turned to the natural
base; a later key's is minus infinity. -/
def flat (n : Fin 4) (h : Fin 4) (s : Fin 2) (p k : Fin 8192) : EReal :=
  if k.val ≤ p.val then
    ∑ d : Fin 64, (x0 (ix3 n p ⟨128 * h.val + 64 * s.val + d.val, by omega⟩) : EReal)
      * x1 (ix3 n k ⟨128 * h.val + 64 * s.val + d.val, by omega⟩)
  else ⊥

/-- The query read at a stream's position is the argument's element. -/
theorem q_read (n : Fin 4) (p : Fin 8192) (h : Fin 4) (s : Fin 2) (d : Fin 64) :
    val_main_v0 (F := Ideal) x0 (ix5 n p h s d) = x0 (ix3 n p ⟨128 * h.val + 64 * s.val + d.val, by omega⟩) := by
  rw [val_main_v0_apply]
  refine congrArg x0 ((eq_ix3 _).trans ?_)
  congr 1 <;> apply Fin.ext <;> simp [idx_main_v0, ix5] <;> omega

theorem k_read (n : Fin 4) (p : Fin 8192) (h : Fin 4) (s : Fin 2) (d : Fin 64) :
    val_main_v1 (F := Ideal) x1 (ix5 n p h s d) = x1 (ix3 n p ⟨128 * h.val + 64 * s.val + d.val, by omega⟩) := by
  rw [val_main_v1_apply]
  refine congrArg x1 ((eq_ix3 _).trans ?_)
  congr 1 <;> apply Fin.ext <;> simp [idx_main_v1, ix5] <;> omega

theorem v_read (n : Fin 4) (p : Fin 8192) (h : Fin 4) (e : Fin 128) :
    val_main_v2 (F := Ideal) x2 (ix4 n p h e) = x2 (ix3 n p ⟨128 * h.val + e.val, by omega⟩) := by
  rw [val_main_v2_apply]
  refine congrArg x2 ((eq_ix3 _).trans ?_)
  congr 1 <;> apply Fin.ext <;> simp [idx_main_v2, ix4] <;> omega

/-- A masked score is the plain one times ln 2. -/
theorem score_read (n : Fin 4) (h : Fin 4) (s : Fin 2) (p k : Fin 8192) :
    (val_main_v29 (F := Ideal) x0 x1 (ix5 n s h p k) : EReal) = flat x0 x1 n h s p k * ((Real.log 2 : ℝ) : EReal) := by
  have hdot : (val_main_v20 (F := Ideal) x0 x1 (ix5 n s h p k) : EReal)
      = ∑ d : Fin 64, (x0 (ix3 n p ⟨128 * h.val + 64 * s.val + d.val, by omega⟩) : EReal)
          * x1 (ix3 n k ⟨128 * h.val + 64 * s.val + d.val, by omega⟩) := by
    rw [val_main_v20_apply]
    refine Finset.sum_congr rfl fun d _ => ?_
    rw [show lidx_main_v20 (ix5 n s h p k) d = ix5 n p h s d from eq_ix5 _, show ridx_main_v20 (ix5 n s h p k) d = ix5 n k h s d from eq_ix5 _,
      q_read, k_read]
  have hs : (val_main_v23 (F := Ideal) x0 x1 (ix5 n s h p k) : EReal)
      = (∑ d : Fin 64, (x0 (ix3 n p ⟨128 * h.val + 64 * s.val + d.val, by omega⟩) : EReal)
          * x1 (ix3 n k ⟨128 * h.val + 64 * s.val + d.val, by omega⟩)) * ((Real.log 2 : ℝ) : EReal) := by
    rw [← hdot, ← log_two, ← two_bits]
    rfl
  have hc : val_main_call0_v1 (F := Ideal) (ix5 n s h p k) = BitVec.ofBool (decide (k.val ≤ p.val)) := by
    rw [val_main_call0_v1_apply, val_main_v28_apply, val_main_v26_apply, val_main_v24_apply, val_main_v27_apply,
      val_main_v25_apply]
    exact WordCmp.cmpi_sge_ofNat (w := 32) (lt_of_lt_of_le p.isLt (by norm_num)) (lt_of_lt_of_le k.isLt (by norm_num))
  have hb : (val_main_call0_v2 (F := Ideal) (ix5 n s h p k) : EReal) = ⊥ := by
    rw [val_main_call0_v2_apply]; exact negInf_bits
  have hl : (0 : ℝ) < Real.log 2 := Real.log_pos one_lt_two
  rw [val_main_v29_apply, hc]
  unfold flat
  by_cases hk : k.val ≤ p.val
  · rw [if_pos hk, decide_eq_true hk]; exact hs
  · rw [if_neg hk, decide_eq_false hk, EReal.bot_mul_coe_of_pos hl]; exact hb

/-- The greatest score of a row, before it is turned to the natural base. -/
def rowTop (n : Fin 4) (h : Fin 4) (s : Fin 2) (p : Fin 8192) : EReal := Finset.univ.sup (flat x0 x1 n h s p)

/-- The greatest score of a row is the plain one times ln 2. -/
theorem top_read (n : Fin 4) (h : Fin 4) (s : Fin 2) (p : Fin 8192) :
    (val_main_v32 (F := Ideal) x0 x1 (ix4 n s h p) : EReal) = rowTop x0 x1 n h s p * ((Real.log 2 : ℝ) : EReal) := by
  have hl : (0 : ℝ) < Real.log 2 := Real.log_pos one_lt_two
  have h15 : (val_main_v31 (F := Ideal) (ix4 n s h p) : EReal) = ⊥ := by
    rw [val_main_v31_apply]; exact negInf_bits
  have h14 : (val_main_v30 (F := Ideal) x0 x1 (ix4 n s h p) : EReal)
      = Finset.univ.sup fun k : Fin 8192 => (val_main_v29 (F := Ideal) x0 x1 (ix5 n s h p k) : EReal) := by
    have hr : S4x2x4x8192x8192.Reduces [4] S4x2x4x8192 := by decide
    unfold val_main_v30
    rw [Host.reduce_eq_fold_single _ _ _ _ hr]
    rw [show (val_main_cst_4 (F := Ideal) (Shape.Idx.first h_S_) : EReal) = ⊥ from negInf_bits]
    refine Finset.sup_congr rfl fun (k : Fin 8192) _ => ?_
    exact congrArg (val_main_v29 (F := Ideal) x0 x1) (eq_ix5 (hr.lift (ix4 n s h p) k))
  rw [val_main_v32_apply]
  show max (val_main_v31 (F := Ideal) (ix4 n s h p) : EReal) (val_main_v30 (F := Ideal) x0 x1 (ix4 n s h p)) = _
  rw [h15, h14, max_eq_right bot_le]
  simp only [score_read]
  exact Running.sup_scaled _ _ _ hl

/-- What a key contributes to its row's sum. -/
def part (n : Fin 4) (h : Fin 4) (s : Fin 2) (p k : Fin 8192) : EReal :=
  Ideal.exp (flat x0 x1 n h s p k * ((Real.log 2 : ℝ) : EReal) - rowTop x0 x1 n h s p * ((Real.log 2 : ℝ) : EReal))

theorem exp_read (n : Fin 4) (h : Fin 4) (s : Fin 2) (p k : Fin 8192) :
    (val_main_v36 (F := Ideal) x0 x1 (ix5 n s h p k) : EReal) = part x0 x1 n h s p k := by
  have h34 : (val_main_v34 (F := Ideal) x0 x1 (ix5 n s h p k) : EReal) = rowTop x0 x1 n h s p * ((Real.log 2 : ℝ) : EReal) := by
    rw [val_main_v34_apply, val_main_v33_apply, ← top_read]
    exact congrArg (val_main_v32 (F := Ideal) x0 x1) (eq_ix4 _)
  unfold part
  rw [← h34, ← score_read]
  rfl

/-- The weight of a key in a stream. -/
def weight (n : Fin 4) (h : Fin 4) (s : Fin 2) (p k : Fin 8192) : EReal :=
  Ideal.div (part x0 x1 n h s p k) (∑ k, part x0 x1 n h s p k)

theorem weight_read (n : Fin 4) (h : Fin 4) (s : Fin 2) (p k : Fin 8192) :
    (val_main_v40 (F := Ideal) x0 x1 (ix5 n s h p k) : EReal) = weight x0 x1 n h s p k := by
  have h39 : (val_main_v39 (F := Ideal) x0 x1 (ix5 n s h p k) : EReal) = ∑ k, part x0 x1 n h s p k := by
    rw [val_main_v39_apply, val_main_v38_apply, val_main_v37_apply,
      show (val_main_cst_6 (F := Ideal) (Shape.Idx.first h_S_) : EReal) = 0 from Ideal.ofBits_zero .f32, zero_add]
    refine Finset.sum_congr rfl fun k _ => ?_
    rw [← exp_read]
    exact congrArg (val_main_v36 (F := Ideal) x0 x1) (eq_ix5 _)
  unfold weight
  rw [← h39, ← exp_read]
  rfl

/-- The two streams' weights, taken apart. -/
theorem first_read (n : Fin 4) (h : Fin 4) (p k : Fin 8192) :
    (val_main_v42 (F := Ideal) x0 x1 (ix4 n h p k) : EReal) = weight x0 x1 n h 0 p k := by
  rw [val_main_v42_apply, val_main_v41_apply, ← weight_read]
  refine congrArg (val_main_v40 (F := Ideal) x0 x1) ((eq_ix5 _).trans ?_)
  congr 1 <;> apply Fin.ext <;> simp [idx_main_v41, idx_main_v42, ix4] <;> omega

theorem second_read (n : Fin 4) (h : Fin 4) (p k : Fin 8192) :
    (val_main_v44 (F := Ideal) x0 x1 (ix4 n h p k) : EReal) = weight x0 x1 n h 1 p k := by
  rw [val_main_v44_apply, val_main_v43_apply, ← weight_read]
  refine congrArg (val_main_v40 (F := Ideal) x0 x1) ((eq_ix5 _).trans ?_)
  congr 1 <;> apply Fin.ext <;> simp [idx_main_v43, idx_main_v44, ix4] <;> omega

/-- A sum over the indices of a vector of 64 is the sum over its positions. -/
theorem sum_vector (f : S64.Idx → EReal) : ∑ j : S64.Idx, f j = ∑ d : Fin 64, f (ix1 d) :=
  (Fintype.sum_equiv (⟨fun d => ix1 d, fun j => j 0, fun _ => rfl, fun j => (eq_ix1 j).symm⟩ : Fin 64 ≃ S64.Idx) _ _ fun _ => rfl).symm

/-- The second stream's share. -/
theorem share_read (i : S_.Idx) : (val_main_v18 (F := Ideal) x3 i : EReal) = Differ.share fun a d => x3 (ix2 a d) := by
  have h8 : (val_main_v8 (F := Ideal) x3 i : EReal) = ∑ d : Fin 64, (x3 (ix2 0 d) : EReal) * x3 (ix2 1 d) := by
    rw [val_main_v8_apply, show (val_main_cst (F := Ideal) (Shape.Idx.first h_S_) : EReal) = 0 from Ideal.ofBits_zero .f32, zero_add, sum_vector]
    refine Finset.sum_congr rfl fun d _ => ?_
    rw [val_main_v7_apply, val_main_v4_apply, val_main_v3_apply, val_main_v6_apply, val_main_v5_apply]
    refine congrArg₂ (fun a b => (x3 a : EReal) * x3 b) ((eq_ix2 _).trans ?_) ((eq_ix2 _).trans ?_) <;>
      congr 1 <;> apply Fin.ext <;> simp [idx_main_v3, idx_main_v4, idx_main_v5, idx_main_v6, ix1]
  have h15 : (val_main_v15 (F := Ideal) x3 i : EReal) = ∑ d : Fin 64, (x3 (ix2 2 d) : EReal) * x3 (ix2 3 d) := by
    rw [val_main_v15_apply, show (val_main_cst_0 (F := Ideal) (Shape.Idx.first h_S_) : EReal) = 0 from Ideal.ofBits_zero .f32, zero_add, sum_vector]
    refine Finset.sum_congr rfl fun d _ => ?_
    rw [val_main_v14_apply, val_main_v11_apply, val_main_v10_apply, val_main_v13_apply, val_main_v12_apply]
    refine congrArg₂ (fun a b => (x3 a : EReal) * x3 b) ((eq_ix2 _).trans ?_) ((eq_ix2 _).trans ?_) <;>
      congr 1 <;> apply Fin.ext <;> simp [idx_main_v10, idx_main_v11, idx_main_v12, idx_main_v13, ix1]
  unfold Differ.share
  rw [← h8, ← h15]
  rfl

/-- The weighted sum of a value column, each key weighted by the difference of the two streams. -/
def mixed (n : Fin 4) (h : Fin 4) (p : Fin 8192) (e : Fin 128) : EReal :=
  ∑ k : Fin 8192, (x2 (ix3 n k ⟨128 * h.val + e.val, by omega⟩) : EReal)
    * (weight x0 x1 n h 0 p k - Differ.share (fun a d => x3 (ix2 a d)) * weight x0 x1 n h 1 p k)

/-- The weight of a key: the first stream's less the share of the second's. -/
theorem apart_read (n : Fin 4) (h : Fin 4) (p k : Fin 8192) :
    (val_main_v48 (F := Ideal) x0 x1 x3 (ix4 n h p k) : EReal)
      = weight x0 x1 n h 0 p k - Differ.share (fun a d => x3 (ix2 a d)) * weight x0 x1 n h 1 p k := by
  rw [val_main_v48_apply, val_main_v47_apply, val_main_v46_apply, val_main_v45_apply, first_read, second_read, share_read]
  generalize weight x0 x1 n h 0 p k = a
  generalize weight x0 x1 n h 1 p k = b
  generalize Differ.share (fun a d => x3 (ix2 a d)) = c
  rfl

theorem mixed_read (n : Fin 4) (h : Fin 4) (p : Fin 8192) (e : Fin 128) :
    (val_main_v50 (F := Ideal) x0 x1 x2 x3 (ix4 n p h e) : EReal) = mixed x0 x1 x2 x3 n h p e := by
  rw [val_main_v50_apply, val_main_v49_apply]
  unfold mixed
  refine Finset.sum_congr rfl fun k _ => ?_
  have hl : lidx_main_v49 (idx_main_v50 (ix4 n p h e)) k = ix4 n k h e := eq_ix4 _
  have hr : ridx_main_v49 (idx_main_v50 (ix4 n p h e)) k = ix4 n h p k := eq_ix4 _
  rw [hl, hr, v_read, apart_read]

/-- An element of the reference's result. -/
theorem result_read (n : Fin 4) (p : Fin 8192) (f : Fin 512) :
    (val_main_v67 (F := Ideal) x0 x1 x2 x3 x4 (ix3 n p f) : EReal) =
      Differ.normed (mixed x0 x1 x2 x3 n ⟨f.val / 128, by omega⟩ p) (fun d => x4 (ix1 d)) ⟨f.val % 128, by omega⟩ := by
  have h66 : idx_main_v66 (ix3 n p f) = ix4 n p (⟨f.val / 128, by omega⟩ : Fin 4) (⟨f.val % 128, by omega⟩ : Fin 128) := by
    refine (eq_ix4 _).trans ?_
    congr 1 <;> apply Fin.ext <;> simp [idx_main_v66, ix3] <;> omega
  show (val_main_v66 (F := Ideal) x0 x1 x2 x3 x4 (ix3 n p f) : EReal) = _
  rw [val_main_v66_apply, h66]
  generalize (⟨f.val / 128, by omega⟩ : Fin 4) = h
  generalize (⟨f.val % 128, by omega⟩ : Fin 128) = e
  have h59 : (val_main_v59 (F := Ideal) x0 x1 x2 x3 (ix4 n p h e) : EReal) = Ideal.rsqrt (Ideal.div (∑ d : Fin 128, mixed x0 x1 x2 x3 n h p d * mixed x0 x1 x2 x3 n h p d)
      (Ideal.ofBits .f32 0x43000000#32) + Ideal.ofBits .f32 0x358637BD#32) := by
    rw [val_main_v59_apply, val_main_v58_apply, val_main_v57_apply, val_main_v55_apply, val_main_v56_apply, val_main_v54_apply,
      val_main_v53_apply, val_main_v52_apply, show (val_main_cst_7 (F := Ideal) (Shape.Idx.first h_S_) : EReal) = 0 from Ideal.ofBits_zero .f32, zero_add]
    have hs : (∑ k : Fin 128, (val_main_v51 (F := Ideal) x0 x1 x2 x3 (idx_main_v52 (idx_main_v53 (idx_main_v59 (ix4 n p h e))) k) : EReal))
        = ∑ d : Fin 128, mixed x0 x1 x2 x3 n h p d * mixed x0 x1 x2 x3 n h p d := Finset.sum_congr rfl fun k _ => by
      rw [show idx_main_v52 (idx_main_v53 (idx_main_v59 (ix4 n p h e))) k = ix4 n p h k from eq_ix4 _, ← mixed_read]; rfl
    rw [hs]; rfl
  have h62 : (val_main_v62 (F := Ideal) x4 (ix4 n p h e) : EReal) = x4 (ix1 e) := by
    rw [val_main_v62_apply, val_main_v61_apply]; exact congrArg x4 (eq_ix1 _)
  unfold Differ.normed
  beta_reduce
  rw [← h59, ← h62, ← mixed_read]
  rfl

end Cert.Reference3Ideal.Diff
-- ==== Proof.DiffSame.lean ====
module
public import proofs.«01_k».proof.Proof.DiffRef
public import proofs.«01_k».proof.Proof.Same
@[expose] public section
set_option maxRecDepth 16384
noncomputable section

/-! The differential attention's reference weights the keys by the difference of the two softmaxes and then sums; the
kernel sums each and takes the difference of the means. On real numbers they agree. -/

namespace Cert.Reference3Ideal.Diff
open Idealize.ShloMosaic Running Cert.Reference3Ideal
open Cert.ReferenceIdeal.Mla (sum_keys sup_keys)

/-- A sum weighted by a difference is the difference of the weighted sums, all being real numbers. -/
theorem sum_apart {ι : Type*} (S : Finset ι) (v a b : ι → EReal) (c : EReal) (hv : ∀ i, ∃ r : ℝ, v i = r)
    (ha : ∀ i, ∃ r : ℝ, a i = r) (hb : ∀ i, ∃ r : ℝ, b i = r) (hc : ∃ r : ℝ, c = r) :
    ∑ i ∈ S, v i * (a i - c * b i) = ∑ i ∈ S, v i * a i - c * ∑ i ∈ S, v i * b i := by
  classical
  choose v' hv using hv
  choose a' ha using ha
  choose b' hb using hb
  obtain ⟨c', rfl⟩ := hc
  have hsum : ∀ f : ι → ℝ, ∑ i ∈ S, ((f i : ℝ) : EReal) = ((∑ i ∈ S, f i : ℝ) : EReal) := fun f => by
    induction S using Finset.induction_on with
    | empty => simp
    | insert i S hi ih => rw [Finset.sum_insert hi, Finset.sum_insert hi, ih, EReal.coe_add]
  simp only [hv, ha, hb, ← EReal.coe_mul, ← EReal.coe_sub]
  rw [hsum, hsum, hsum, ← EReal.coe_mul, ← EReal.coe_sub]
  congr 1
  rw [Finset.mul_sum, ← Finset.sum_sub_distrib]
  exact Finset.sum_congr rfl fun i _ => by ring

/-- The second stream's share is a real number when its parameters are. -/
theorem share_real (l : Fin 4 → Fin 64 → EReal) (hl : ∀ a d, ∃ r : ℝ, l a d = r) : ∃ r : ℝ, Differ.share l = r := by
  have hdot : ∀ a b : Fin 4, ∃ r : ℝ, ∑ d : Fin 64, l a d * l b d = (r : EReal) := fun a b =>
    Cert.KernelIdeal.Mla.real_sum _ _ fun d => by
      obtain ⟨x, hx⟩ := hl a d
      obtain ⟨y, hy⟩ := hl b d
      exact ⟨x * y, by rw [hx, hy, EReal.coe_mul]⟩
  obtain ⟨x, hx⟩ := hdot 0 1
  obtain ⟨y, hy⟩ := hdot 2 3
  have hb : (Ideal.ofBits .f32 0x3EB60549#32 : EReal) = ((11928905 / 2 ^ 25 : ℝ) : EReal) := by
    simp [Ideal.ofBits, Ideal.ieee, -EReal.coe_mul]; norm_num
  unfold Differ.share
  rw [hx, hy, hb]
  exact ⟨Real.exp x - Real.exp y + 11928905 / 2 ^ 25, by rw [EReal.coe_add, EReal.coe_sub]; rfl⟩

variable (x0 x1 x2 : (⟨S4x8192x512, .bf16⟩ : BufTy).Contents (Elt Ideal)) (x3 : (⟨S4x64, .f32⟩ : BufTy).Contents (Elt Ideal))
  (x4 : (⟨S128, .f32⟩ : BufTy).Contents (Elt Ideal))

/-- A score is a real number when the queries and keys are, unless it is masked. -/
theorem flat_real (h0 : ∀ i, ∃ a : ℝ, (x0 i : EReal) = a) (h1 : ∀ i, ∃ a : ℝ, (x1 i : EReal) = a)
    (n h : Fin 4) (s : Fin 2) (p k : Fin 8192) (hk : k.val ≤ p.val) : ∃ a : ℝ, flat x0 x1 n h s p k = a := by
  unfold flat
  rw [if_pos hk]
  refine Cert.KernelIdeal.Mla.real_sum _ _ fun d => ?_
  obtain ⟨a, ha⟩ := h0 (ix3 n p ⟨128 * h.val + 64 * s.val + d.val, by omega⟩)
  obtain ⟨b, hb⟩ := h1 (ix3 n k ⟨128 * h.val + 64 * s.val + d.val, by omega⟩)
  exact ⟨a * b, by rw [ha, hb, EReal.coe_mul]⟩

theorem flat_ne_top (h0 : ∀ i, ∃ a : ℝ, (x0 i : EReal) = a) (h1 : ∀ i, ∃ a : ℝ, (x1 i : EReal) = a)
    (n h : Fin 4) (s : Fin 2) (p k : Fin 8192) : flat x0 x1 n h s p k ≠ ⊤ := by
  by_cases hk : k.val ≤ p.val
  · obtain ⟨a, ha⟩ := flat_real x0 x1 h0 h1 n h s p k hk
    rw [ha]; exact EReal.coe_ne_top a
  · unfold flat; rw [if_neg hk]; exact bot_ne_top

/-- In each stream the weights are real numbers, and the mean of a value column is its sum under them. -/
theorem stream (h0 : ∀ i, ∃ a : ℝ, (x0 i : EReal) = a) (h1 : ∀ i, ∃ a : ℝ, (x1 i : EReal) = a)
    (n h : Fin 4) (s : Fin 2) (p : Fin 8192) :
    (∀ k, ∃ r : ℝ, weight x0 x1 n h s p k = r) ∧ ∀ e : Fin 128,
      Differ.mean (Differ.gX (fun n p c => x0 (ix3 n p c)) (fun n p c => x1 (ix3 n p c)) n h s p) (Differ.gW (fun n p c => x2 (ix3 n p c)) n h e)
        = ∑ k : Fin 8192, (x2 (ix3 n k ⟨128 * h.val + e.val, by omega⟩) : EReal) * weight x0 x1 n h s p k := by
  have hg : ∀ j (hj : j < 16) (o : Fin 512), Differ.gX (fun n p c => x0 (ix3 n p c)) (fun n p c => x1 (ix3 n p c)) n h s p j o
      = flat x0 x1 n h s p ⟨512 * j + o.val, by omega⟩ := fun j hj o => by unfold Differ.gX; rw [dif_pos hj]; rfl
  have hx : ∀ j o, Differ.gX (fun n p c => x0 (ix3 n p c)) (fun n p c => x1 (ix3 n p c)) n h s p j o ≠ ⊤ := fun j o => by
    by_cases hj : j < 16
    · rw [hg j hj o]; exact flat_ne_top x0 x1 h0 h1 n h s p _
    · unfold Differ.gX; rw [dif_neg hj]; exact bot_ne_top
  generalize Differ.gX (fun n p c => x0 (ix3 n p c)) (fun n p c => x1 (ix3 n p c)) n h s p = X at hg hx ⊢
  obtain ⟨a, ha⟩ := flat_real x0 x1 h0 h1 n h s p ⟨0, by omega⟩ (Nat.zero_le _)
  obtain ⟨m, hm⟩ := Cert.KernelIdeal.Mla.top_real X (Finset.range 16) hx 0 (by simp) 0 a ((hg 0 (by omega) 0).trans ha)
  have ht : rowTop x0 x1 n h s p = top X (Finset.range 16) := sup_keys _ _ hg
  have hp : ∀ j (hj : j < 16) (o : Fin 512), Ideal.exp (X j o * (Real.log 2 : ℝ) - top X (Finset.range 16) * (Real.log 2 : ℝ))
      = part x0 x1 n h s p ⟨512 * j + o.val, by omega⟩ := fun j hj o => by
    unfold part; rw [hg j hj o, ht]
  have hd := sum_keys _ _ hp
  refine ⟨fun k => ?_, fun e => ?_⟩
  · obtain ⟨d, hd0, hd'⟩ := den_pos X _ m hm
    have hD : (∑ k, part x0 x1 n h s p k) = (d : EReal) := by
      rw [hd, ← hd']; unfold den
      refine Finset.sum_congr rfl fun j hj => Finset.sum_congr rfl fun c _ => ?_
      rw [hm, exp_scaled m _ (hx j c)]
    obtain ⟨r, _, hr⟩ := exp2_real m _ (flat_ne_top x0 x1 h0 h1 n h s p k)
    have hk : part x0 x1 n h s p k = (r : EReal) := by
      unfold part; rw [ht, hm, exp_scaled m _ (flat_ne_top x0 x1 h0 h1 n h s p k), hr]
    unfold weight
    rw [hD, Ideal.div_coe hd0.ne', hk]
    exact ⟨r * (1 / d), (EReal.coe_mul _ _).symm⟩
  · have hw : ∀ j (hj : j < 16) (o : Fin 512), Differ.gW (fun n p c => x2 (ix3 n p c)) n h e j o
        = (x2 (ix3 n ⟨512 * j + o.val, by omega⟩ ⟨128 * h.val + e.val, by omega⟩) : EReal) := fun j hj o => by unfold Differ.gW; rw [dif_pos hj]
    unfold Differ.mean
    rw [quotient X _ _ m hm]
    unfold weight
    rw [hd]
    exact (sum_keys _ _ fun j hj o => by rw [hw j hj o, hp j hj o]).symm

/-- Each element of the reference's result is the differential attention's, when the arguments but the norm's weights
are real numbers. -/
theorem same (h0 : ∀ i, ∃ a : ℝ, (x0 i : EReal) = a) (h1 : ∀ i, ∃ a : ℝ, (x1 i : EReal) = a)
    (h2 : ∀ i, ∃ a : ℝ, (x2 i : EReal) = a) (h3 : ∀ i, ∃ a : ℝ, (x3 i : EReal) = a)
    (n : Fin 4) (p : Fin 8192) (f : Fin 512) :
    (Read.val_main_v67 (F := Ideal) x0 x1 x2 x3 x4 (ix3 n p f) : EReal)
      = Differ.out (fun n p c => x0 (ix3 n p c)) (fun n p c => x1 (ix3 n p c)) (fun n p c => x2 (ix3 n p c)) (fun a d => x3 (ix2 a d))
          (fun d => x4 (ix1 d)) n p ⟨f.val / 128, by omega⟩ ⟨f.val % 128, by omega⟩ := by
  rw [result_read]
  unfold Differ.out
  generalize (⟨f.val / 128, by omega⟩ : Fin 4) = h
  refine congrArg (fun u => Differ.normed u _ _) (funext fun d => ?_)
  obtain ⟨r0, s0⟩ := stream x0 x1 x2 h0 h1 n h 0 p
  obtain ⟨r1, s1⟩ := stream x0 x1 x2 h0 h1 n h 1 p
  rw [s0 d, s1 d]
  exact sum_apart _ _ _ _ _ (fun k => h2 _) r0 r1 (share_real _ fun a d => h3 _)

end Cert.Reference3Ideal.Diff
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Result
public import proofs.«01_k».proof.Proof.Same
public import proofs.«01_k».proof.Proof.Finite
public import proofs.«01_k».proof.Proof.Mlp
public import proofs.«01_k».proof.Proof.MlpRef
public import proofs.«01_k».proof.Proof.OddOut
public import proofs.«01_k».proof.Proof.OddOutRef
public import proofs.«01_k».proof.Proof.EvenOut
public import proofs.«01_k».proof.Proof.EvenOutRef
public import proofs.«01_k».proof.Proof.OddIn
public import proofs.«01_k».proof.Proof.OddInRef
public import Idealize.ShloMosaic.Lib.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.DiffFinite
public import proofs.«01_k».proof.Proof.DiffResult
public import proofs.«01_k».proof.Proof.DiffSame
public import Idealize.ShloMosaic.Adequacy
public import Idealize.ShloMosaic.Init

@[expose] public section

noncomputable section

namespace Cert.Proof

open Idealize.ShloMosaic Idealize.SL.Sem

/-- The reference ends with its arguments unchanged and, declaring no semaphore, with every counter at zero. -/
theorem frame_ref : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- From queries and keys that are real numbers, kernel and reference end with equal results: the attention's elements. -/
theorem equal_results [hP : Cert.Pre_finite_scores.Facts] :
    Cert.algebraic_KernelIdeal_ReferenceIdeal_pre_finite_scores (hKernelIdeal := Cert.KernelIdeal.Gen.facts)
      (hReferenceIdeal := Cert.ReferenceIdeal.Gen.facts) := by
  intro m g m' g' hpre hargs
  have hq := fun c => Cert.Pre_finite_scores.reals _ _ _ (hpre c)
  refine ⟨fun c => Cert.KernelIdeal.Mla.result m c, ?_, ?_⟩
  · refine (θ_run Cert.KernelIdeal.defs _ _).mono (fun r h c => ?_) (Cert.KernelIdeal.Value.run_blocks m g)
    exact ⟨(h c).1.trans (Cert.KernelIdeal.Mla.final m c (fun n p f => (hq c).1 _) fun n p f => (hq c).2 _), (h c).2⟩
  · refine (θ_run Cert.ReferenceIdeal.defs _ _).mono (fun r h c => ?_) (Cert.ReferenceIdeal.Value.run (F := Ideal) m' g')
    refine ⟨(h c).1.trans ((Cert.ReferenceIdeal.Read.val_main_v29_eq m' c).trans ?_), (h c).2⟩
    rw [(hargs c).1, (hargs c).2.1, (hargs c).2.2]
    refine funext fun (y : Cert.KernelIdeal.S4x8192x512.Idx) => ?_
    refine (congrArg _ (eq_ix3 y)).trans ?_
    exact Cert.ReferenceIdeal.Mla.same _ _ _ (hq c).1 (hq c).2 (y 0) (y 1) (y 2)

/-- The feed-forward layer's reference ends with its arguments unchanged and every counter at zero. -/
theorem frame_ref2 : Cert.quiescent_Reference2Ideal (hReference2Ideal := Cert.Reference2Ideal.Gen.facts) := fun m g _ =>
  (θ_run Cert.Reference2Ideal.defs _ _).mono
    (fun r h => ⟨fun c => (h c).2, sem_eq_zero_of_no_sems (by decide) r.2⟩)
    (Cert.Reference2Ideal.Value.run (F := Ideal) m g)

/-- The differential attention's reference ends with its arguments unchanged and every counter at zero. -/
theorem frame_ref3 : Cert.quiescent_Reference3Ideal (hReference3Ideal := Cert.Reference3Ideal.Gen.facts) := fun m g _ =>
  (θ_run Cert.Reference3Ideal.defs _ _).mono
    (fun r h => ⟨fun c => (h c).2, sem_eq_zero_of_no_sems (by decide) r.2⟩)
    (Cert.Reference3Ideal.Value.run (F := Ideal) m g)

/-- The reference of the differential and sparse heads' output projection ends with its arguments unchanged and every counter at zero. -/
theorem frame_ref4 : Cert.quiescent_Reference4Ideal (hReference4Ideal := Cert.Reference4Ideal.Gen.facts) := fun m g _ =>
  (θ_run Cert.Reference4Ideal.defs _ _).mono
    (fun r h => ⟨fun c => (h c).2, sem_eq_zero_of_no_sems (by decide) r.2⟩)
    (Cert.Reference4Ideal.Value.run (F := Ideal) m g)

/-- The reference of the latent and dilated heads' output projection ends with its arguments unchanged and every counter at zero. -/
theorem frame_ref5 : Cert.quiescent_Reference5Ideal (hReference5Ideal := Cert.Reference5Ideal.Gen.facts) := fun m g _ =>
  (θ_run Cert.Reference5Ideal.defs _ _).mono
    (fun r h => ⟨fun c => (h c).2, sem_eq_zero_of_no_sems (by decide) r.2⟩)
    (Cert.Reference5Ideal.Value.run (F := Ideal) m g)

/-- The input projection's reference ends with its arguments unchanged and every counter at zero. -/
theorem frame_ref6 : Cert.quiescent_Reference6Ideal (hReference6Ideal := Cert.Reference6Ideal.Gen.facts) := fun m g _ =>
  (θ_run Cert.Reference6Ideal.defs _ _).mono
    (fun r h => ⟨fun c => (h c).2.2.2.2.2.2.2.2, sem_eq_zero_of_no_sems (by decide) r.2⟩)
    (Cert.Reference6Ideal.Value.run (F := Ideal) m g)

/-- The feed-forward layer's kernel and reference end with equal results, from any arguments. -/
theorem equal_results2 :
    Cert.algebraic_Kernel2Ideal_Reference2Ideal (hKernel2Ideal := Cert.Kernel2Ideal.Gen.facts)
      (hReference2Ideal := Cert.Reference2Ideal.Gen.facts) := by
  intro m g m' g' _ hargs
  refine ⟨fun c => Cert.Kernel2Ideal.Block.result m c, ?_, ?_⟩
  · refine (θ_run Cert.Kernel2Ideal.defs _ _).mono (fun r h c => ?_) (Cert.Kernel2Ideal.Value.run_blocks m g)
    exact ⟨(h c).1.trans (Cert.Kernel2Ideal.Block.final m c), (h c).2⟩
  · refine (θ_run Cert.Reference2Ideal.defs _ _).mono (fun r h c => ?_) (Cert.Reference2Ideal.Value.run (F := Ideal) m' g')
    refine ⟨(h c).1.trans ((Cert.Reference2Ideal.Read.val_main_v29_eq (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))).trans ?_), (h c).2⟩
    obtain ⟨a0, a1, a2, a3, a4, a5, a6⟩ := hargs c
    rw [a0, a1, a2, a3, a4, a5, a6]
    refine funext fun (y : Cert.Kernel2Ideal.S4x8192x1024.Idx) => ?_
    refine (congrArg _ (eq_ix3 y)).trans ?_
    exact Cert.Reference2Ideal.Element.result_read _ _ _ _ _ _ _ (y 0) (y 1) (y 2)

/-- From arguments that are real numbers (the norm's weights may be anything), the differential attention's kernel and
reference end with equal results. -/
theorem equal_results3 [hP : Cert.Pre_finite_inputs.Facts] :
    Cert.algebraic_Kernel3Ideal_Reference3Ideal_pre_finite_inputs (hKernel3Ideal := Cert.Kernel3Ideal.Gen.facts)
      (hReference3Ideal := Cert.Reference3Ideal.Gen.facts) := by
  intro m g m' g' hpre hargs
  have hq := fun c => Cert.Pre_finite_inputs.reals _ _ _ _ _ (hpre c)
  refine ⟨fun c => Cert.Kernel3Ideal.Diff.result m c, ?_, ?_⟩
  · refine (θ_run Cert.Kernel3Ideal.defs _ _).mono (fun r h c => ?_) (Cert.Kernel3Ideal.Value.run_blocks m g)
    exact ⟨(h c).1.trans (Cert.Kernel3Ideal.Diff.final m c (fun n p f => (hq c).1 _) fun n p f => (hq c).2.1 _), (h c).2⟩
  · refine (θ_run Cert.Reference3Ideal.defs _ _).mono (fun r h c => ?_) (Cert.Reference3Ideal.Value.run (F := Ideal) m' g')
    refine ⟨(h c).1.trans ((Cert.Reference3Ideal.Read.val_main_v67_eq m' c).trans ?_), (h c).2⟩
    obtain ⟨a0, a1, a2, a3, a4⟩ := hargs c
    rw [a0, a1, a2, a3, a4]
    refine funext fun (y : Cert.Kernel3Ideal.S4x8192x512.Idx) => ?_
    refine (congrArg _ (eq_ix3 y)).trans ?_
    exact Cert.Reference3Ideal.Diff.same _ _ _ _ _ (hq c).1 (hq c).2.1 (hq c).2.2.1 (hq c).2.2.2 (y 0) (y 1) (y 2)

/-- The output projection of the differential and sparse heads: kernel and reference end with equal results, whatever the
arguments hold. -/
theorem equal_results4 :
    Cert.algebraic_Kernel4Ideal_Reference4Ideal (hKernel4Ideal := Cert.Kernel4Ideal.Gen.facts)
      (hReference4Ideal := Cert.Reference4Ideal.Gen.facts) := by
  intro m g m' g' _ hargs
  refine ⟨fun c => Cert.Kernel4Ideal.Block.result m c, ?_, ?_⟩
  · refine (θ_run Cert.Kernel4Ideal.defs _ _).mono (fun r h c => ?_) (Cert.Kernel4Ideal.Value.run_blocks m g)
    exact ⟨(h c).1.trans (Cert.Kernel4Ideal.Block.final m c), (h c).2⟩
  · refine (θ_run Cert.Reference4Ideal.defs _ _).mono (fun r h c => ?_) (Cert.Reference4Ideal.Value.run (F := Ideal) m' g')
    refine ⟨(h c).1.trans ((Cert.Reference4Ideal.Read.val_main_v6_eq (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))).trans ?_), (h c).2⟩
    obtain ⟨a0, a1, a2, a3, a4⟩ := hargs c
    rw [a0, a1, a2, a3, a4]
    refine funext fun (y : Cert.Kernel4Ideal.S4x8192x1024.Idx) => ?_
    refine (congrArg _ (eq_ix3 y)).trans ?_
    exact Cert.Reference4Ideal.Element.result_read _ _ _ _ _ (y 0) (y 1) (y 2)

/-- The output projection of the latent and dilated heads: from real log-denominators, kernel and reference end with equal
results. -/
theorem equal_results5 [hP : Cert.Pre_finite_denominators.Facts] :
    Cert.algebraic_Kernel5Ideal_Reference5Ideal_pre_finite_denominators (hKernel5Ideal := Cert.Kernel5Ideal.Gen.facts)
      (hReference5Ideal := Cert.Reference5Ideal.Gen.facts) := by
  intro m g m' g' hpre hargs
  have hq := fun c => Cert.Pre_finite_denominators.reals _ _ _ _ _ _ _ _ _ _ (hpre c)
  refine ⟨fun c => Cert.Kernel5Ideal.Block.result m c, ?_, ?_⟩
  · refine (θ_run Cert.Kernel5Ideal.defs _ _).mono (fun r h c => ?_) (Cert.Kernel5Ideal.Value.run_blocks m g)
    exact ⟨(h c).1.trans (Cert.Kernel5Ideal.Block.final m c), (h c).2⟩
  · refine (θ_run Cert.Reference5Ideal.defs _ _).mono (fun r h c => ?_) (Cert.Reference5Ideal.Value.run (F := Ideal) m' g')
    refine ⟨(h c).1.trans ((Cert.Reference5Ideal.Read.val_main_v30_eq m' c).trans ?_), (h c).2⟩
    obtain ⟨a0, a1, a2, a3, a4, a5, a6, a7, a8, a9⟩ := hargs c
    rw [a0, a1, a2, a3, a4, a5, a6, a7, a8, a9]
    refine funext fun (y : Cert.Kernel5Ideal.S4x8192x1024.Idx) => ?_
    refine (congrArg _ (eq_ix3 y)).trans ?_
    exact Cert.Reference5Ideal.Element.result_read _ _ _ _ _ _ _ _ _ _ (hq c).1 (hq c).2.1 (hq c).2.2 (y 0) (y 1) (y 2)

/-! The input projection's reference, result by result, is what its kernel leaves. -/
section
variable (m : (ℓ : Loc Cert.Kernel6Ideal.nD Cert.Kernel6Ideal.τ Cert.Kernel6Ideal.sig) → Buf (Elt Ideal) ℓ) (c : Dev Cert.Kernel6Ideal.nD)

theorem agree11 : Cert.Reference6Ideal.Read.val_main_v215 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg9)) = Cert.Kernel6Ideal.Block.result11 m c := by
  refine funext fun (y : Cert.Kernel6Ideal.S4x8192x512.Idx) => ?_
  refine (congrArg _ (eq_ix3 y)).trans ?_
  exact Cert.Reference6Ideal.Element.v215_read _ _ _ _ _ _ _ (y 0) (y 1) (y 2)

theorem agree12 : Cert.Reference6Ideal.Read.val_main_v216 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg6))
      (m ((c.tc : Thread Cert.Kernel6Ideal.nD Cert.Kernel6Ideal.τ).loc Cert.Kernel6Ideal.main_arg9)) = Cert.Kernel6Ideal.Block.result12 m c := by
  refine funext fun (y : Cert.Kernel6Ideal.S4x8192x512.Idx) => ?_
  refine (congrArg _ (eq_ix3 y)).trans ?_
  exact Cert.Reference6Ideal.Element.v216_read _ _ _ _ _ _ _ (y 0) (y 1) (y 2)

theorem agree13 : Cert.Reference6Ideal.Read.val_main_v217 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)) = Cert.Kernel6Ideal.Block.result13 m c := by
  refine funext fun (y : Cert.Kernel6Ideal.S4x8192x512.Idx) => ?_
  refine (congrArg _ (eq_ix3 y)).trans ?_
  exact Cert.Reference6Ideal.Element.v217_read _ _ _ _ _ (y 0) (y 1) (y 2)

theorem agree14 : Cert.Reference6Ideal.Read.val_main_v220 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg7))
      (m ((c.tc : Thread Cert.Kernel6Ideal.nD Cert.Kernel6Ideal.τ).loc Cert.Kernel6Ideal.main_arg9)) = Cert.Kernel6Ideal.Block.result14 m c := by
  refine funext fun (y : Cert.Kernel6Ideal.S4x8192x512.Idx) => ?_
  refine (congrArg _ (eq_ix3 y)).trans ?_
  exact Cert.Reference6Ideal.Element.v220_read _ _ _ _ _ _ _ (y 0) (y 1) (y 2)

theorem agree15 : Cert.Reference6Ideal.Read.val_main_v159 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg7))
      (m ((c.tc : Thread Cert.Kernel6Ideal.nD Cert.Kernel6Ideal.τ).loc Cert.Kernel6Ideal.main_arg9)) = Cert.Kernel6Ideal.Block.result15 m c := by
  refine funext fun (y : Cert.Kernel6Ideal.S4x8192x512.Idx) => ?_
  refine (congrArg _ (eq_ix3 y)).trans ?_
  exact Cert.Reference6Ideal.Element.v159_read _ _ _ _ _ _ _ (y 0) (y 1) (y 2)

theorem agree16 : Cert.Reference6Ideal.Read.val_main_v221 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg8))
      (m ((c.tc : Thread Cert.Kernel6Ideal.nD Cert.Kernel6Ideal.τ).loc Cert.Kernel6Ideal.main_arg9)) = Cert.Kernel6Ideal.Block.result16 m c := by
  refine funext fun (y : Cert.Kernel6Ideal.S4x8192x512.Idx) => ?_
  refine (congrArg _ (eq_ix3 y)).trans ?_
  exact Cert.Reference6Ideal.Element.v221_read _ _ _ _ _ _ _ (y 0) (y 1) (y 2)

theorem agree17 : Cert.Reference6Ideal.Read.val_main_v222 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)) = Cert.Kernel6Ideal.Block.result17 m c := by
  refine funext fun (y : Cert.Kernel6Ideal.S4x8192x512.Idx) => ?_
  refine (congrArg _ (eq_ix3 y)).trans ?_
  exact Cert.Reference6Ideal.Element.v222_read _ _ _ _ _ (y 0) (y 1) (y 2)

theorem agree18 : Cert.Reference6Ideal.Read.val_main_v212 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg8))
      (m ((c.tc : Thread Cert.Kernel6Ideal.nD Cert.Kernel6Ideal.τ).loc Cert.Kernel6Ideal.main_arg9)) = Cert.Kernel6Ideal.Block.result18 m c := by
  refine funext fun (y : Cert.Kernel6Ideal.S4x32x1x512.Idx) => ?_
  have hy : y = ix4 (y 0 : Fin 4) (y 1 : Fin 32) (0 : Fin 1) (y 3 : Fin 512) := funext fun a => by
    fin_cases a
    · rfl
    · rfl
    · exact Subsingleton.elim (α := Fin 1) _ _
    · rfl
  refine (congrArg _ hy).trans ?_
  exact Cert.Reference6Ideal.Element.v212_read _ _ _ _ _ _ _ (y 0) (y 1) (y 3)

end

set_option maxHeartbeats 2000000 in
/-- The input projection of the differential and sparse heads: kernel and reference end with equal results, whatever the
arguments hold. -/
theorem equal_results6 :
    Cert.algebraic_Kernel6Ideal_Reference6Ideal (hKernel6Ideal := Cert.Kernel6Ideal.Gen.facts)
      (hReference6Ideal := Cert.Reference6Ideal.Gen.facts) := by
  intro m g m' g' _ hargs
  refine ⟨fun c => Cert.Kernel6Ideal.Block.result11 m c, fun c => Cert.Kernel6Ideal.Block.result12 m c, fun c => Cert.Kernel6Ideal.Block.result13 m c, fun c => Cert.Kernel6Ideal.Block.result14 m c, fun c => Cert.Kernel6Ideal.Block.result15 m c, fun c => Cert.Kernel6Ideal.Block.result16 m c, fun c => Cert.Kernel6Ideal.Block.result17 m c, fun c => Cert.Kernel6Ideal.Block.result18 m c, ?_, ?_⟩
  · refine (θ_run Cert.Kernel6Ideal.defs _ _).mono (fun r h c => ?_) (Cert.Kernel6Ideal.Value.run_blocks m g)
    obtain ⟨h1, h2, h3, h4, h5, h6, h7, h8, hk⟩ := h c
    exact ⟨h1.trans (Cert.Kernel6Ideal.Block.final11 m c), h2.trans (Cert.Kernel6Ideal.Block.final12 m c), h3.trans (Cert.Kernel6Ideal.Block.final13 m c), h4.trans (Cert.Kernel6Ideal.Block.final14 m c), h5.trans (Cert.Kernel6Ideal.Block.final15 m c), h6.trans (Cert.Kernel6Ideal.Block.final16 m c), h7.trans (Cert.Kernel6Ideal.Block.final17 m c), h8.trans (Cert.Kernel6Ideal.Block.final18 m c), hk⟩
  · refine (θ_run Cert.Reference6Ideal.defs _ _).mono (fun r h c => ?_) (Cert.Reference6Ideal.Value.run (F := Ideal) m' g')
    obtain ⟨h1, h2, h3, h4, h5, h6, h7, h8, hk⟩ := h c
    obtain ⟨a0, a1, a2, a3, a4, a5, a6, a7, a8, a9⟩ := hargs c
    refine ⟨h1.trans ?_, h2.trans ?_, h3.trans ?_, h4.trans ?_, h5.trans ?_, h6.trans ?_, h7.trans ?_, h8.trans ?_, hk⟩
    · refine (Cert.Reference6Ideal.Read.val_main_v215_eq (StableHlo.launchContents m' c)).trans ?_
      refine (show _ = Cert.Reference6Ideal.Read.val_main_v215 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg9)) from rfl).trans ?_
      rw [a0, a1, a2, a3, a4, a5, a9]
      exact agree11 m c
    · refine (Cert.Reference6Ideal.Read.val_main_v216_eq (StableHlo.launchContents m' c)).trans ?_
      refine (show _ = Cert.Reference6Ideal.Read.val_main_v216 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg9)) from rfl).trans ?_
      rw [a0, a1, a2, a3, a4, a6, a9]
      exact agree12 m c
    · refine (Cert.Reference6Ideal.Read.val_main_v217_eq (StableHlo.launchContents m' c)).trans ?_
      refine (show _ = Cert.Reference6Ideal.Read.val_main_v217 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) from rfl).trans ?_
      rw [a0, a1, a2, a3, a4]
      exact agree13 m c
    · refine (Cert.Reference6Ideal.Read.val_main_v220_eq (StableHlo.launchContents m' c)).trans ?_
      refine (show _ = Cert.Reference6Ideal.Read.val_main_v220 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg9)) from rfl).trans ?_
      rw [a0, a1, a2, a3, a4, a7, a9]
      exact agree14 m c
    · refine (Cert.Reference6Ideal.Read.val_main_v159_eq (StableHlo.launchContents m' c)).trans ?_
      refine (show _ = Cert.Reference6Ideal.Read.val_main_v159 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg9)) from rfl).trans ?_
      rw [a0, a1, a2, a3, a4, a7, a9]
      exact agree15 m c
    · refine (Cert.Reference6Ideal.Read.val_main_v221_eq (StableHlo.launchContents m' c)).trans ?_
      refine (show _ = Cert.Reference6Ideal.Read.val_main_v221 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg9)) from rfl).trans ?_
      rw [a0, a1, a2, a3, a4, a8, a9]
      exact agree16 m c
    · refine (Cert.Reference6Ideal.Read.val_main_v222_eq (StableHlo.launchContents m' c)).trans ?_
      refine (show _ = Cert.Reference6Ideal.Read.val_main_v222 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) from rfl).trans ?_
      rw [a0, a1, a2, a3, a4]
      exact agree17 m c
    · refine (Cert.Reference6Ideal.Read.val_main_v212_eq (StableHlo.launchContents m' c)).trans ?_
      refine (show _ = Cert.Reference6Ideal.Read.val_main_v212 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg9)) from rfl).trans ?_
      rw [a0, a1, a2, a3, a4, a8, a9]
      exact agree18 m c

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_scores.facts, Cert.Pre_finite_inputs.facts, Cert.Pre_finite_denominators.facts,
    fun m g _ => Cert.Kernel.Gen.frame m g, fun m g _ => Cert.KernelIdeal.Gen.frame m g,
    fun m g _ => Cert.KernelIdeal.Gen.frame m g, frame_ref, fun m g _ => frame_ref m g trivial,
    fun m g _ => Cert.Kernel2.Gen.frame m g, fun m g _ => Cert.Kernel2Ideal.Gen.frame m g, frame_ref2,
    fun m g _ => Cert.Kernel3.Gen.frame m g, fun m g _ => Cert.Kernel3Ideal.Gen.frame m g,
    fun m g _ => Cert.Kernel3Ideal.Gen.frame m g, frame_ref3, fun m g _ => frame_ref3 m g trivial,
    fun m g _ => Cert.Kernel4.Gen.frame m g, fun m g _ => Cert.Kernel4Ideal.Gen.frame m g, frame_ref4,
    fun m g _ => Cert.Kernel5.Gen.frame m g, fun m g _ => Cert.Kernel5Ideal.Gen.frame m g,
    fun m g _ => Cert.Kernel5Ideal.Gen.frame m g, frame_ref5, fun m g _ => frame_ref5 m g trivial,
    fun m g _ => Cert.Kernel6.Gen.frame m g, fun m g _ => Cert.Kernel6Ideal.Gen.frame m g, frame_ref6,
    IdealRules.named_const.statement Cert.KernelIdeal.κ "mask" .f32 0xF149F2CA#32 ⊥ rfl,
    equal_results (hP := Cert.Pre_finite_scores.facts),
    trivial, equal_results2,
    IdealRules.named_const.statement Cert.Kernel3Ideal.κ "mask" .f32 0xF149F2CA#32 ⊥ rfl,
    equal_results3 (hP := Cert.Pre_finite_inputs.facts),
    trivial, equal_results4, trivial, equal_results5 (hP := Cert.Pre_finite_denominators.facts),
    trivial, equal_results6⟩

end Cert.Proof

end
